-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2048x2048 : Shape := ⟨2, ![2048, 2048]⟩
abbrev S2048x4096 : Shape := ⟨2, ![2048, 4096]⟩
abbrev S4096x2048 : Shape := ⟨2, ![4096, 2048]⟩
abbrev S2048x512 : Shape := ⟨2, ![2048, 512]⟩
abbrev S512x2048 : Shape := ⟨2, ![512, 2048]⟩
abbrev S2x2048x1024 : Shape := ⟨3, ![2, 2048, 1024]⟩
abbrev S8x128 : Shape := ⟨2, ![8, 128]⟩
abbrev S_ : Shape := ⟨0, ![]⟩
abbrev S2 : Shape := ⟨1, ![2]⟩
abbrev S7 : Shape := ⟨1, ![7]⟩
abbrev S1 : Shape := ⟨1, ![1]⟩
abbrev S1x2048x2048 : Shape := ⟨3, ![1, 2048, 2048]⟩
abbrev S1x1x1 : Shape := ⟨3, ![1, 1, 1]⟩
abbrev S1x128 : Shape := ⟨2, ![1, 128]⟩
abbrev S1x8x128 : Shape := ⟨3, ![1, 8, 128]⟩
abbrev S2048x1024 : Shape := ⟨2, ![2048, 1024]⟩
abbrev S1x2048x1024 : Shape := ⟨3, ![1, 2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .hbm, ⟨3, _⟩ => ⟨S2048x2048, .f32⟩
  | .hbm, ⟨4, _⟩ => ⟨S2048x4096, .bf16⟩
  | .hbm, ⟨5, _⟩ => ⟨S4096x2048, .bf16⟩
  | .hbm, ⟨6, _⟩ => ⟨S4096x8192, .fp8e4m3⟩
  | .local _ .vmem, ⟨0, _⟩ => ⟨S2048x2048, .f32⟩
  | .local _ .vmem, ⟨1, _⟩ => ⟨S2048x512, .bf16⟩
  | .local _ .vmem, ⟨2, _⟩ => ⟨S512x2048, .bf16⟩
  | .local _ .vmem, ⟨3, _⟩ => ⟨S2048x2048, .fp8e4m3⟩
  | .local _ .vmem, ⟨4, _⟩ => ⟨S2048x2048, .fp8e4m3⟩
  | .local _ .vmem, ⟨5, _⟩ => ⟨S2x2048x1024, .bf16⟩
  | .local _ .vmem, ⟨6, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v31 : BitVec 32 := Scalar.addi v2 c1_i32_11
  let c8_i32_12 : BitVec 32 := 8#32
  let c0_i32_13 : BitVec 32 := 0#32
  let v32 : BitVec 1 := Scalar.cmpi .eq c8_i32_12 c0_i32_13
  let c1_i32_14 : BitVec 32 := 1#32
  let v33 : BitVec 32 := Scalar.select v32 c1_i32_14 c8_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_19 : BitVec 32 := 1#32
  let v42 : BitVec 32 := Scalar.muli v41 c1_i32_19
  let v43 : BitVec 32 := Scalar.addi c0_i32_20 v42
  v43.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v44 : BitVec 32 := Scalar.addi v2 c2_i32
  let c8_i32_21 : BitVec 32 := 8#32
  let c0_i32_22 : BitVec 32 := 0#32
  let v45 : BitVec 1 := Scalar.cmpi .eq c8_i32_21 c0_i32_22
  let c1_i32_23 : BitVec 32 := 1#32
  let v46 : BitVec 32 := Scalar.select v45 c1_i32_23 c8_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let c1_i32_28 : BitVec 32 := 1#32
  let v55 : BitVec 32 := Scalar.muli v54 c1_i32_28
  let v56 : BitVec 32 := Scalar.addi c0_i32_29 v55
  v56.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v57 : BitVec 32 := Scalar.addi v2 c3_i32
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c1_i32_37 : BitVec 32 := 1#32
  let v68 : BitVec 32 := Scalar.muli v67 c1_i32_37
  let v69 : BitVec 32 := Scalar.addi c0_i32_38 v68
  v69.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v70 : BitVec 32 := Scalar.addi v2 c4_i32_39
  let c8_i32_40 : BitVec 32 := 8#32
  let c0_i32_41 : BitVec 32 := 0#32
  let v71 : BitVec 1 := Scalar.cmpi .eq c8_i32_40 c0_i32_41
  let c1_i32_42 : BitVec 32 := 1#32
  let v72 : BitVec 32 := Scalar.select v71 c1_i32_42 c8_i32_40
  let v73 : BitVec 32 := Scalar.remsi v70 v72
  let c0_i32_44 : BitVec 32 := 0#32
  let v75 : BitVec 1 := Scalar.cmpi .slt v73 c0_i32_44
  let c0_i32_45 : BitVec 32 := 0#32
  let v76 : BitVec 1 := Scalar.cmpi .slt v72 c0_i32_45
  let v77 : BitVec 1 := Scalar.xori v75 v76
  let c0_i32_43 : BitVec 32 := 0#32
  let v74 : BitVec 1 := Scalar.cmpi .ne v73 c0_i32_43
  let v78 : BitVec 1 := Scalar.andi v77 v74
  let v79 : BitVec 32 := Scalar.addi v73 v72
  let v80 : BitVec 32 := Scalar.select v78 v79 v73
  let c1_i32_47 : BitVec 32 := 1#32
  let v81 : BitVec 32 := Scalar.muli v80 c1_i32_47
  let v82 : BitVec 32 := Scalar.addi c0_i32_48 v81
  v82.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v83 : BitVec 32 := Scalar.addi v2 c5_i32
  let c8_i32_49 : BitVec 32 := 8#32
  let c0_i32_50 : BitVec 32 := 0#32
  let v84 : BitVec 1 := Scalar.cmpi .eq c8_i32_49 c0_i32_50
  let c1_i32_51 : BitVec 32 := 1#32
  let v85 : BitVec 32 := Scalar.select v84 c1_i32_51 c8_i32_49
  let v86 : BitVec 32 := Scalar.remsi v83 v85
  let c0_i32_53 : BitVec 32 := 0#32
  let v88 : BitVec 1 := Scalar.cmpi .slt v86 c0_i32_53
  let c0_i32_54 : BitVec 32 := 0#32
  let v89 : BitVec 1 := Scalar.cmpi .slt v85 c0_i32_54
  let v90 : BitVec 1 := Scalar.xori v88 v89
  let c0_i32_52 : BitVec 32 := 0#32
  let v87 : BitVec 1 := Scalar.cmpi .ne v86 c0_i32_52
  let v91 : BitVec 1 := Scalar.andi v90 v87
  let v92 : BitVec 32 := Scalar.addi v86 v85
  let v93 : BitVec 32 := Scalar.select v91 v92 v86
  let c1_i32_56 : BitVec 32 := 1#32
  let v94 : BitVec 32 := Scalar.muli v93 c1_i32_56
  let v95 : BitVec 32 := Scalar.addi c0_i32_57 v94
  v95.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v96 : BitVec 32 := Scalar.addi v2 c6_i32
  let c8_i32_58 : BitVec 32 := 8#32
  let c0_i32_59 : BitVec 32 := 0#32
  let v97 : BitVec 1 := Scalar.cmpi .eq c8_i32_58 c0_i32_59
  let c1_i32_60 : BitVec 32 := 1#32
  let v98 : BitVec 32 := Scalar.select v97 c1_i32_60 c8_i32_58
  let v99 : BitVec 32 := Scalar.remsi v96 v98
  let c0_i32_62 : BitVec 32 := 0#32
  let v101 : BitVec 1 := Scalar.cmpi .slt v99 c0_i32_62
  let c0_i32_63 : BitVec 32 := 0#32
  let v102 : BitVec 1 := Scalar.cmpi .slt v98 c0_i32_63
  let v103 : BitVec 1 := Scalar.xori v101 v102
  let c0_i32_61 : BitVec 32 := 0#32
  let v100 : BitVec 1 := Scalar.cmpi .ne v99 c0_i32_61
  let v104 : BitVec 1 := Scalar.andi v103 v100
  let v105 : BitVec 32 := Scalar.addi v99 v98
  let v106 : BitVec 32 := Scalar.select v104 v105 v99
  let c1_i32_65 : BitVec 32 := 1#32
  let v107 : BitVec 32 := Scalar.muli v106 c1_i32_65
  let v108 : BitVec 32 := Scalar.addi c0_i32_66 v107
  v108.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v109 : BitVec 32 := Scalar.addi v2 c7_i32
  let c8_i32_67 : BitVec 32 := 8#32
  let c0_i32_68 : BitVec 32 := 0#32
  let v110 : BitVec 1 := Scalar.cmpi .eq c8_i32_67 c0_i32_68
  let c1_i32_69 : BitVec 32 := 1#32
  let v111 : BitVec 32 := Scalar.select v110 c1_i32_69 c8_i32_67
  let v112 : BitVec 32 := Scalar.remsi v109 v111
  let c0_i32_71 : BitVec 32 := 0#32
  let v114 : BitVec 1 := Scalar.cmpi .slt v112 c0_i32_71
  let c0_i32_72 : BitVec 32 := 0#32
  let v115 : BitVec 1 := Scalar.cmpi .slt v111 c0_i32_72
  let v116 : BitVec 1 := Scalar.xori v114 v115
  let c0_i32_70 : BitVec 32 := 0#32
  let v113 : BitVec 1 := Scalar.cmpi .ne v112 c0_i32_70
  let v117 : BitVec 1 := Scalar.andi v116 v113
  let v118 : BitVec 32 := Scalar.addi v112 v111
  let v119 : BitVec 32 := Scalar.select v117 v118 v112
  let c1_i32_74 : BitVec 32 := 1#32
  let v120 : BitVec 32 := Scalar.muli v119 c1_i32_74
  let v121 : BitVec 32 := Scalar.addi c0_i32_75 v120
  v121.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v161 : BitVec 32 := Scalar.muli v2 c512_i32
  let c0_i32_101 : BitVec 32 := 0#32
  ![v161.toNat, 0]
def k0_off2 (d0 : Dev nD) (c1_i32_77 : BitVec 32) : Fin 2 → Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.addi v2 c1_i32_77
  let c8_i32_78 : BitVec 32 := 8#32
  let c0_i32_79 : BitVec 32 := 0#32
  let v123 : BitVec 1 := Scalar.cmpi .eq c8_i32_78 c0_i32_79
  let c1_i32_80 : BitVec 32 := 1#32
  let v124 : BitVec 32 := Scalar.select v123 c1_i32_80 c8_i32_78
  let v125 : BitVec 32 := Scalar.remsi v122 v124
  let c0_i32_82 : BitVec 32 := 0#32
  let v127 : BitVec 1 := Scalar.cmpi .slt v125 c0_i32_82
  let c0_i32_83 : BitVec 32 := 0#32
  let v128 : BitVec 1 := Scalar.cmpi .slt v124 c0_i32_83
  let v129 : BitVec 1 := Scalar.xori v127 v128
  let c0_i32_81 : BitVec 32 := 0#32
  let v126 : BitVec 1 := Scalar.cmpi .ne v125 c0_i32_81
  let v130 : BitVec 1 := Scalar.andi v129 v126
  let v131 : BitVec 32 := Scalar.addi v125 v124
  let v132 : BitVec 32 := Scalar.select v130 v131 v125
  let c4_i32_91 : BitVec 32 := 4#32
  let c0_i32_92 : BitVec 32 := 0#32
  let v150 : BitVec 1 := Scalar.cmpi .eq c4_i32_91 c0_i32_92
  let c1_i32_93 : BitVec 32 := 1#32
  let v151 : BitVec 32 := Scalar.select v150 c1_i32_93 c4_i32_91
  let v152 : BitVec 32 := Scalar.remsi v132 v151
  let c0_i32_95 : BitVec 32 := 0#32
  let v154 : BitVec 1 := Scalar.cmpi .slt v152 c0_i32_95
  let c0_i32_96 : BitVec 32 := 0#32
  let v155 : BitVec 1 := Scalar.cmpi .slt v151 c0_i32_96
  let v156 : BitVec 1 := Scalar.xori v154 v155
  let c0_i32_94 : BitVec 32 := 0#32
  let v153 : BitVec 1 := Scalar.cmpi .ne v152 c0_i32_94
  let v157 : BitVec 1 := Scalar.andi v156 v153
  let v158 : BitVec 32 := Scalar.addi v152 v151
  let v159 : BitVec 32 := Scalar.select v157 v158 v152
  let c2048_i32 : BitVec 32 := 2048#32
  let v160 : BitVec 32 := Scalar.muli v159 c2048_i32
  ![0, v160.toNat]
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v122 : BitVec 32 := Scalar.addi v2 c1_i32_77
  let c8_i32_78 : BitVec 32 := 8#32
  let c0_i32_79 : BitVec 32 := 0#32
  let v123 : BitVec 1 := Scalar.cmpi .eq c8_i32_78 c0_i32_79
  let c1_i32_80 : BitVec 32 := 1#32
  let v124 : BitVec 32 := Scalar.select v123 c1_i32_80 c8_i32_78
  let v125 : BitVec 32 := Scalar.remsi v122 v124
  let c0_i32_82 : BitVec 32 := 0#32
  let v127 : BitVec 1 := Scalar.cmpi .slt v125 c0_i32_82
  let c0_i32_83 : BitVec 32 := 0#32
  let v128 : BitVec 1 := Scalar.cmpi .slt v124 c0_i32_83
  let v129 : BitVec 1 := Scalar.xori v127 v128
  let c0_i32_81 : BitVec 32 := 0#32
  let v126 : BitVec 1 := Scalar.cmpi .ne v125 c0_i32_81
  let v130 : BitVec 1 := Scalar.andi v129 v126
  let v131 : BitVec 32 := Scalar.addi v125 v124
  let v132 : BitVec 32 := Scalar.select v130 v131 v125
  let c1_i32_99 : BitVec 32 := 1#32
  let v162 : BitVec 32 := Scalar.muli v132 c1_i32_99
  let v163 : BitVec 32 := Scalar.addi c0_i32_100 v162
  v163.toNat
def k0_off3 (d0 : Dev nD) : Fin 2 → Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_104 : BitVec 32 := 512#32
  let v171 : BitVec 32 := Scalar.muli v2 c512_i32_104
  ![0, v171.toNat]
def k0_off4 (d0 : Dev nD) (c1_i32_77 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.addi v2 c1_i32_77
  let c8_i32_78 : BitVec 32 := 8#32
  let c0_i32_79 : BitVec 32 := 0#32
  let v123 : BitVec 1 := Scalar.cmpi .eq c8_i32_78 c0_i32_79
  let c1_i32_80 : BitVec 32 := 1#32
  let v124 : BitVec 32 := Scalar.select v123 c1_i32_80 c8_i32_78
  let v125 : BitVec 32 := Scalar.remsi v122 v124
  let c0_i32_82 : BitVec 32 := 0#32
  let v127 : BitVec 1 := Scalar.cmpi .slt v125 c0_i32_82
  let c0_i32_83 : BitVec 32 := 0#32
  let v128 : BitVec 1 := Scalar.cmpi .slt v124 c0_i32_83
  let v129 : BitVec 1 := Scalar.xori v127 v128
  let c0_i32_81 : BitVec 32 := 0#32
  let v126 : BitVec 1 := Scalar.cmpi .ne v125 c0_i32_81
  let v130 : BitVec 1 := Scalar.andi v129 v126
  let v131 : BitVec 32 := Scalar.addi v125 v124
  let v132 : BitVec 32 := Scalar.select v130 v131 v125
  let c0_i32_85 : BitVec 32 := 0#32
  let v134 : BitVec 1 := Scalar.cmpi .sgt v132 c0_i32_85
  let v135 : BitVec 32 := Scalar.extui v134
  let c0_i32_86 : BitVec 32 := 0#32
  let v136 : BitVec 1 := Scalar.cmpi .slt v132 c0_i32_86
  let v137 : BitVec 32 := Scalar.extui v136
  let v138 : BitVec 32 := Scalar.subi v135 v137
  let c4_i32_84 : BitVec 32 := 4#32
  let c0_i32_87 : BitVec 32 := 0#32
  let v139 : BitVec 1 := Scalar.cmpi .sgt c4_i32_84 c0_i32_87
  let v140 : BitVec 32 := Scalar.extui v139
  let c0_i32_88 : BitVec 32 := 0#32
  let v141 : BitVec 1 := Scalar.cmpi .slt c4_i32_84 c0_i32_88
  let v142 : BitVec 32 := Scalar.extui v141
  let v143 : BitVec 32 := Scalar.subi v140 v142
  let v144 : BitVec 1 := Scalar.cmpi .ne v138 v143
  let v145 : BitVec 32 := Scalar.remsi v132 c4_i32_84
  let c0_i32_89 : BitVec 32 := 0#32
  let v146 : BitVec 1 := Scalar.cmpi .ne v145 c0_i32_89
  let v147 : BitVec 1 := Scalar.andi v144 v146
  let v133 : BitVec 32 := Scalar.divsi v132 c4_i32_84
  let c1_i32_90 : BitVec 32 := 1#32
  let v148 : BitVec 32 := Scalar.subi v133 c1_i32_90
  let v149 : BitVec 32 := Scalar.select v147 v148 v133
  let c2048_i32_103 : BitVec 32 := 2048#32
  let v170 : BitVec 32 := Scalar.muli v149 c2048_i32_103
  let c0_i32_110 : BitVec 32 := 0#32
  ![v170.toNat, 0]
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_77 : BitVec 32 := 1#32
  let v122 : BitVec 32 := Scalar.addi v2 c1_i32_77
  let c8_i32_78 : BitVec 32 := 8#32
  let c0_i32_79 : BitVec 32 := 0#32
  let v123 : BitVec 1 := Scalar.cmpi .eq c8_i32_78 c0_i32_79
  let c1_i32_80 : BitVec 32 := 1#32
  let v124 : BitVec 32 := Scalar.select v123 c1_i32_80 c8_i32_78
  let v125 : BitVec 32 := Scalar.remsi v122 v124
  let c0_i32_82 : BitVec 32 := 0#32
  let v127 : BitVec 1 := Scalar.cmpi .slt v125 c0_i32_82
  let c0_i32_83 : BitVec 32 := 0#32
  let v128 : BitVec 1 := Scalar.cmpi .slt v124 c0_i32_83
  let v129 : BitVec 1 := Scalar.xori v127 v128
  let c0_i32_81 : BitVec 32 := 0#32
  let v126 : BitVec 1 := Scalar.cmpi .ne v125 c0_i32_81
  let v130 : BitVec 1 := Scalar.andi v129 v126
  let v131 : BitVec 32 := Scalar.addi v125 v124
  let v132 : BitVec 32 := Scalar.select v130 v131 v125
  let c1_i32_107 : BitVec 32 := 1#32
  let v172 : BitVec 32 := Scalar.muli v132 c1_i32_107
  let v173 : BitVec 32 := Scalar.addi c0_i32_108 v172
  v173.toNat
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v180 : BitVec 32 := Scalar.addi v2 c2_i32_111
  let c8_i32_112 : BitVec 32 := 8#32
  let c0_i32_113 : BitVec 32 := 0#32
  let v181 : BitVec 1 := Scalar.cmpi .eq c8_i32_112 c0_i32_113
  let c1_i32_114 : BitVec 32 := 1#32
  let v182 : BitVec 32 := Scalar.select v181 c1_i32_114 c8_i32_112
  let v183 : BitVec 32 := Scalar.remsi v180 v182
  let c0_i32_116 : BitVec 32 := 0#32
  let v185 : BitVec 1 := Scalar.cmpi .slt v183 c0_i32_116
  let c0_i32_117 : BitVec 32 := 0#32
  let v186 : BitVec 1 := Scalar.cmpi .slt v182 c0_i32_117
  let v187 : BitVec 1 := Scalar.xori v185 v186
  let c0_i32_115 : BitVec 32 := 0#32
  let v184 : BitVec 1 := Scalar.cmpi .ne v183 c0_i32_115
  let v188 : BitVec 1 := Scalar.andi v187 v184
  let v189 : BitVec 32 := Scalar.addi v183 v182
  let v190 : BitVec 32 := Scalar.select v188 v189 v183
  let c1_i32_135 : BitVec 32 := 1#32
  let v220 : BitVec 32 := Scalar.muli v190 c1_i32_135
  let v221 : BitVec 32 := Scalar.addi c0_i32_136 v220
  v221.toNat
def k0_dev11 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v180 : BitVec 32 := Scalar.addi v2 c2_i32_111
  let c8_i32_112 : BitVec 32 := 8#32
  let c0_i32_113 : BitVec 32 := 0#32
  let v181 : BitVec 1 := Scalar.cmpi .eq c8_i32_112 c0_i32_113
  let c1_i32_114 : BitVec 32 := 1#32
  let v182 : BitVec 32 := Scalar.select v181 c1_i32_114 c8_i32_112
  let v183 : BitVec 32 := Scalar.remsi v180 v182
  let c0_i32_116 : BitVec 32 := 0#32
  let v185 : BitVec 1 := Scalar.cmpi .slt v183 c0_i32_116
  let c0_i32_117 : BitVec 32 := 0#32
  let v186 : BitVec 1 := Scalar.cmpi .slt v182 c0_i32_117
  let v187 : BitVec 1 := Scalar.xori v185 v186
  let c0_i32_115 : BitVec 32 := 0#32
  let v184 : BitVec 1 := Scalar.cmpi .ne v183 c0_i32_115
  let v188 : BitVec 1 := Scalar.andi v187 v184
  let v189 : BitVec 32 := Scalar.addi v183 v182
  let v190 : BitVec 32 := Scalar.select v188 v189 v183
  let c1_i32_143 : BitVec 32 := 1#32
  let v230 : BitVec 32 := Scalar.muli v190 c1_i32_143
  let v231 : BitVec 32 := Scalar.addi c0_i32_144 v230
  v231.toNat
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v238 : BitVec 32 := Scalar.addi v2 c3_i32_147
  let c8_i32_148 : BitVec 32 := 8#32
  let c0_i32_149 : BitVec 32 := 0#32
  let v239 : BitVec 1 := Scalar.cmpi .eq c8_i32_148 c0_i32_149
  let c1_i32_150 : BitVec 32 := 1#32
  let v240 : BitVec 32 := Scalar.select v239 c1_i32_150 c8_i32_148
  let v241 : BitVec 32 := Scalar.remsi v238 v240
  let c0_i32_152 : BitVec 32 := 0#32
  let v243 : BitVec 1 := Scalar.cmpi .slt v241 c0_i32_152
  let c0_i32_153 : BitVec 32 := 0#32
  let v244 : BitVec 1 := Scalar.cmpi .slt v240 c0_i32_153
  let v245 : BitVec 1 := Scalar.xori v243 v244
  let c0_i32_151 : BitVec 32 := 0#32
  let v242 : BitVec 1 := Scalar.cmpi .ne v241 c0_i32_151
  let v246 : BitVec 1 := Scalar.andi v245 v242
  let v247 : BitVec 32 := Scalar.addi v241 v240
  let v248 : BitVec 32 := Scalar.select v246 v247 v241
  let c1_i32_171 : BitVec 32 := 1#32
  let v278 : BitVec 32 := Scalar.muli v248 c1_i32_171
  let v279 : BitVec 32 := Scalar.addi c0_i32_172 v278
  v279.toNat
def k0_dev13 (d0 : Dev nD) : Nat :=
  let c0_i32_180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v238 : BitVec 32 := Scalar.addi v2 c3_i32_147
  let c8_i32_148 : BitVec 32 := 8#32
  let c0_i32_149 : BitVec 32 := 0#32
  let v239 : BitVec 1 := Scalar.cmpi .eq c8_i32_148 c0_i32_149
  let c1_i32_150 : BitVec 32 := 1#32
  let v240 : BitVec 32 := Scalar.select v239 c1_i32_150 c8_i32_148
  let v241 : BitVec 32 := Scalar.remsi v238 v240
  let c0_i32_152 : BitVec 32 := 0#32
  let v243 : BitVec 1 := Scalar.cmpi .slt v241 c0_i32_152
  let c0_i32_153 : BitVec 32 := 0#32
  let v244 : BitVec 1 := Scalar.cmpi .slt v240 c0_i32_153
  let v245 : BitVec 1 := Scalar.xori v243 v244
  let c0_i32_151 : BitVec 32 := 0#32
  let v242 : BitVec 1 := Scalar.cmpi .ne v241 c0_i32_151
  let v246 : BitVec 1 := Scalar.andi v245 v242
  let v247 : BitVec 32 := Scalar.addi v241 v240
  let v248 : BitVec 32 := Scalar.select v246 v247 v241
  let c1_i32_179 : BitVec 32 := 1#32
  let v288 : BitVec 32 := Scalar.muli v248 c1_i32_179
  let v289 : BitVec 32 := Scalar.addi c0_i32_180 v288
  v289.toNat
def k0_dev14 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_183 : BitVec 32 := 4#32
  let v296 : BitVec 32 := Scalar.addi v2 c4_i32_183
  let c8_i32_184 : BitVec 32 := 8#32
  let c0_i32_185 : BitVec 32 := 0#32
  let v297 : BitVec 1 := Scalar.cmpi .eq c8_i32_184 c0_i32_185
  let c1_i32_186 : BitVec 32 := 1#32
  let v298 : BitVec 32 := Scalar.select v297 c1_i32_186 c8_i32_184
  let v299 : BitVec 32 := Scalar.remsi v296 v298
  let c0_i32_188 : BitVec 32 := 0#32
  let v301 : BitVec 1 := Scalar.cmpi .slt v299 c0_i32_188
  let c0_i32_189 : BitVec 32 := 0#32
  let v302 : BitVec 1 := Scalar.cmpi .slt v298 c0_i32_189
  let v303 : BitVec 1 := Scalar.xori v301 v302
  let c0_i32_187 : BitVec 32 := 0#32
  let v300 : BitVec 1 := Scalar.cmpi .ne v299 c0_i32_187
  let v304 : BitVec 1 := Scalar.andi v303 v300
  let v305 : BitVec 32 := Scalar.addi v299 v298
  let v306 : BitVec 32 := Scalar.select v304 v305 v299
  let c1_i32_207 : BitVec 32 := 1#32
  let v336 : BitVec 32 := Scalar.muli v306 c1_i32_207
  let v337 : BitVec 32 := Scalar.addi c0_i32_208 v336
  v337.toNat
def k0_dev15 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_183 : BitVec 32 := 4#32
  let v296 : BitVec 32 := Scalar.addi v2 c4_i32_183
  let c8_i32_184 : BitVec 32 := 8#32
  let c0_i32_185 : BitVec 32 := 0#32
  let v297 : BitVec 1 := Scalar.cmpi .eq c8_i32_184 c0_i32_185
  let c1_i32_186 : BitVec 32 := 1#32
  let v298 : BitVec 32 := Scalar.select v297 c1_i32_186 c8_i32_184
  let v299 : BitVec 32 := Scalar.remsi v296 v298
  let c0_i32_188 : BitVec 32 := 0#32
  let v301 : BitVec 1 := Scalar.cmpi .slt v299 c0_i32_188
  let c0_i32_189 : BitVec 32 := 0#32
  let v302 : BitVec 1 := Scalar.cmpi .slt v298 c0_i32_189
  let v303 : BitVec 1 := Scalar.xori v301 v302
  let c0_i32_187 : BitVec 32 := 0#32
  let v300 : BitVec 1 := Scalar.cmpi .ne v299 c0_i32_187
  let v304 : BitVec 1 := Scalar.andi v303 v300
  let v305 : BitVec 32 := Scalar.addi v299 v298
  let v306 : BitVec 32 := Scalar.select v304 v305 v299
  let c1_i32_215 : BitVec 32 := 1#32
  let v346 : BitVec 32 := Scalar.muli v306 c1_i32_215
  let v347 : BitVec 32 := Scalar.addi c0_i32_216 v346
  v347.toNat
def k0_dev16 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_219 : BitVec 32 := 5#32
  let v354 : BitVec 32 := Scalar.addi v2 c5_i32_219
  let c8_i32_220 : BitVec 32 := 8#32
  let c0_i32_221 : BitVec 32 := 0#32
  let v355 : BitVec 1 := Scalar.cmpi .eq c8_i32_220 c0_i32_221
  let c1_i32_222 : BitVec 32 := 1#32
  let v356 : BitVec 32 := Scalar.select v355 c1_i32_222 c8_i32_220
  let v357 : BitVec 32 := Scalar.remsi v354 v356
  let c0_i32_224 : BitVec 32 := 0#32
  let v359 : BitVec 1 := Scalar.cmpi .slt v357 c0_i32_224
  let c0_i32_225 : BitVec 32 := 0#32
  let v360 : BitVec 1 := Scalar.cmpi .slt v356 c0_i32_225
  let v361 : BitVec 1 := Scalar.xori v359 v360
  let c0_i32_223 : BitVec 32 := 0#32
  let v358 : BitVec 1 := Scalar.cmpi .ne v357 c0_i32_223
  let v362 : BitVec 1 := Scalar.andi v361 v358
  let v363 : BitVec 32 := Scalar.addi v357 v356
  let v364 : BitVec 32 := Scalar.select v362 v363 v357
  let c1_i32_243 : BitVec 32 := 1#32
  let v394 : BitVec 32 := Scalar.muli v364 c1_i32_243
  let v395 : BitVec 32 := Scalar.addi c0_i32_244 v394
  v395.toNat
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_219 : BitVec 32 := 5#32
  let v354 : BitVec 32 := Scalar.addi v2 c5_i32_219
  let c8_i32_220 : BitVec 32 := 8#32
  let c0_i32_221 : BitVec 32 := 0#32
  let v355 : BitVec 1 := Scalar.cmpi .eq c8_i32_220 c0_i32_221
  let c1_i32_222 : BitVec 32 := 1#32
  let v356 : BitVec 32 := Scalar.select v355 c1_i32_222 c8_i32_220
  let v357 : BitVec 32 := Scalar.remsi v354 v356
  let c0_i32_224 : BitVec 32 := 0#32
  let v359 : BitVec 1 := Scalar.cmpi .slt v357 c0_i32_224
  let c0_i32_225 : BitVec 32 := 0#32
  let v360 : BitVec 1 := Scalar.cmpi .slt v356 c0_i32_225
  let v361 : BitVec 1 := Scalar.xori v359 v360
  let c0_i32_223 : BitVec 32 := 0#32
  let v358 : BitVec 1 := Scalar.cmpi .ne v357 c0_i32_223
  let v362 : BitVec 1 := Scalar.andi v361 v358
  let v363 : BitVec 32 := Scalar.addi v357 v356
  let v364 : BitVec 32 := Scalar.select v362 v363 v357
  let c1_i32_251 : BitVec 32 := 1#32
  let v404 : BitVec 32 := Scalar.muli v364 c1_i32_251
  let v405 : BitVec 32 := Scalar.addi c0_i32_252 v404
  v405.toNat
def k0_dev18 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_255 : BitVec 32 := 6#32
  let v412 : BitVec 32 := Scalar.addi v2 c6_i32_255
  let c8_i32_256 : BitVec 32 := 8#32
  let c0_i32_257 : BitVec 32 := 0#32
  let v413 : BitVec 1 := Scalar.cmpi .eq c8_i32_256 c0_i32_257
  let c1_i32_258 : BitVec 32 := 1#32
  let v414 : BitVec 32 := Scalar.select v413 c1_i32_258 c8_i32_256
  let v415 : BitVec 32 := Scalar.remsi v412 v414
  let c0_i32_260 : BitVec 32 := 0#32
  let v417 : BitVec 1 := Scalar.cmpi .slt v415 c0_i32_260
  let c0_i32_261 : BitVec 32 := 0#32
  let v418 : BitVec 1 := Scalar.cmpi .slt v414 c0_i32_261
  let v419 : BitVec 1 := Scalar.xori v417 v418
  let c0_i32_259 : BitVec 32 := 0#32
  let v416 : BitVec 1 := Scalar.cmpi .ne v415 c0_i32_259
  let v420 : BitVec 1 := Scalar.andi v419 v416
  let v421 : BitVec 32 := Scalar.addi v415 v414
  let v422 : BitVec 32 := Scalar.select v420 v421 v415
  let c1_i32_279 : BitVec 32 := 1#32
  let v452 : BitVec 32 := Scalar.muli v422 c1_i32_279
  let v453 : BitVec 32 := Scalar.addi c0_i32_280 v452
  v453.toNat
def k0_dev19 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_255 : BitVec 32 := 6#32
  let v412 : BitVec 32 := Scalar.addi v2 c6_i32_255
  let c8_i32_256 : BitVec 32 := 8#32
  let c0_i32_257 : BitVec 32 := 0#32
  let v413 : BitVec 1 := Scalar.cmpi .eq c8_i32_256 c0_i32_257
  let c1_i32_258 : BitVec 32 := 1#32
  let v414 : BitVec 32 := Scalar.select v413 c1_i32_258 c8_i32_256
  let v415 : BitVec 32 := Scalar.remsi v412 v414
  let c0_i32_260 : BitVec 32 := 0#32
  let v417 : BitVec 1 := Scalar.cmpi .slt v415 c0_i32_260
  let c0_i32_261 : BitVec 32 := 0#32
  let v418 : BitVec 1 := Scalar.cmpi .slt v414 c0_i32_261
  let v419 : BitVec 1 := Scalar.xori v417 v418
  let c0_i32_259 : BitVec 32 := 0#32
  let v416 : BitVec 1 := Scalar.cmpi .ne v415 c0_i32_259
  let v420 : BitVec 1 := Scalar.andi v419 v416
  let v421 : BitVec 32 := Scalar.addi v415 v414
  let v422 : BitVec 32 := Scalar.select v420 v421 v415
  let c1_i32_287 : BitVec 32 := 1#32
  let v462 : BitVec 32 := Scalar.muli v422 c1_i32_287
  let v463 : BitVec 32 := Scalar.addi c0_i32_288 v462
  v463.toNat
def k0_dev20 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_291 : BitVec 32 := 7#32
  let v470 : BitVec 32 := Scalar.addi v2 c7_i32_291
  let c8_i32_292 : BitVec 32 := 8#32
  let c0_i32_293 : BitVec 32 := 0#32
  let v471 : BitVec 1 := Scalar.cmpi .eq c8_i32_292 c0_i32_293
  let c1_i32_294 : BitVec 32 := 1#32
  let v472 : BitVec 32 := Scalar.select v471 c1_i32_294 c8_i32_292
  let v473 : BitVec 32 := Scalar.remsi v470 v472
  let c0_i32_296 : BitVec 32 := 0#32
  let v475 : BitVec 1 := Scalar.cmpi .slt v473 c0_i32_296
  let c0_i32_297 : BitVec 32 := 0#32
  let v476 : BitVec 1 := Scalar.cmpi .slt v472 c0_i32_297
  let v477 : BitVec 1 := Scalar.xori v475 v476
  let c0_i32_295 : BitVec 32 := 0#32
  let v474 : BitVec 1 := Scalar.cmpi .ne v473 c0_i32_295
  let v478 : BitVec 1 := Scalar.andi v477 v474
  let v479 : BitVec 32 := Scalar.addi v473 v472
  let v480 : BitVec 32 := Scalar.select v478 v479 v473
  let c1_i32_315 : BitVec 32 := 1#32
  let v510 : BitVec 32 := Scalar.muli v480 c1_i32_315
  let v511 : BitVec 32 := Scalar.addi c0_i32_316 v510
  v511.toNat
def k0_dev21 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_291 : BitVec 32 := 7#32
  let v470 : BitVec 32 := Scalar.addi v2 c7_i32_291
  let c8_i32_292 : BitVec 32 := 8#32
  let c0_i32_293 : BitVec 32 := 0#32
  let v471 : BitVec 1 := Scalar.cmpi .eq c8_i32_292 c0_i32_293
  let c1_i32_294 : BitVec 32 := 1#32
  let v472 : BitVec 32 := Scalar.select v471 c1_i32_294 c8_i32_292
  let v473 : BitVec 32 := Scalar.remsi v470 v472
  let c0_i32_296 : BitVec 32 := 0#32
  let v475 : BitVec 1 := Scalar.cmpi .slt v473 c0_i32_296
  let c0_i32_297 : BitVec 32 := 0#32
  let v476 : BitVec 1 := Scalar.cmpi .slt v472 c0_i32_297
  let v477 : BitVec 1 := Scalar.xori v475 v476
  let c0_i32_295 : BitVec 32 := 0#32
  let v474 : BitVec 1 := Scalar.cmpi .ne v473 c0_i32_295
  let v478 : BitVec 1 := Scalar.andi v477 v474
  let v479 : BitVec 32 := Scalar.addi v473 v472
  let v480 : BitVec 32 := Scalar.select v478 v479 v473
  let c1_i32_323 : BitVec 32 := 1#32
  let v520 : BitVec 32 := Scalar.muli v480 c1_i32_323
  let v521 : BitVec 32 := Scalar.addi c0_i32_324 v520
  v521.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_327 : BitVec 32 := 2048#32
  let v528 : BitVec 32 := Scalar.muli v19 c2048_i32_327
  let c0_i32_328 : BitVec 32 := 0#32
  ![v528.toNat, 0]
def k0_off6 (d0 : Dev nD) : Fin 2 → Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2048_i32_329 : BitVec 32 := 2048#32
  let v530 : BitVec 32 := Scalar.muli v29 c2048_i32_329
  ![0, v530.toNat]
def k0_off7 (d0 : Dev nD) (c1_i32_338 : BitVec 32) : Fin 2 → Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v538 : BitVec 32 := Scalar.subi v2 c1_i32_338
  let c8_i32_339 : BitVec 32 := 8#32
  let c0_i32_340 : BitVec 32 := 0#32
  let v539 : BitVec 1 := Scalar.cmpi .eq c8_i32_339 c0_i32_340
  let c1_i32_341 : BitVec 32 := 1#32
  let v540 : BitVec 32 := Scalar.select v539 c1_i32_341 c8_i32_339
  let v541 : BitVec 32 := Scalar.remsi v538 v540
  let c0_i32_343 : BitVec 32 := 0#32
  let v543 : BitVec 1 := Scalar.cmpi .slt v541 c0_i32_343
  let c0_i32_344 : BitVec 32 := 0#32
  let v544 : BitVec 1 := Scalar.cmpi .slt v540 c0_i32_344
  let v545 : BitVec 1 := Scalar.xori v543 v544
  let c0_i32_342 : BitVec 32 := 0#32
  let v542 : BitVec 1 := Scalar.cmpi .ne v541 c0_i32_342
  let v546 : BitVec 1 := Scalar.andi v545 v542
  let v547 : BitVec 32 := Scalar.addi v541 v540
  let v548 : BitVec 32 := Scalar.select v546 v547 v541
  let c512_i32_351 : BitVec 32 := 512#32
  let v555 : BitVec 32 := Scalar.muli v548 c512_i32_351
  ![0, v555.toNat]
def k0_off8 (d0 : Dev nD) (c1_i32_338 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v538 : BitVec 32 := Scalar.subi v2 c1_i32_338
  let c8_i32_339 : BitVec 32 := 8#32
  let c0_i32_340 : BitVec 32 := 0#32
  let v539 : BitVec 1 := Scalar.cmpi .eq c8_i32_339 c0_i32_340
  let c1_i32_341 : BitVec 32 := 1#32
  let v540 : BitVec 32 := Scalar.select v539 c1_i32_341 c8_i32_339
  let v541 : BitVec 32 := Scalar.remsi v538 v540
  let c0_i32_343 : BitVec 32 := 0#32
  let v543 : BitVec 1 := Scalar.cmpi .slt v541 c0_i32_343
  let c0_i32_344 : BitVec 32 := 0#32
  let v544 : BitVec 1 := Scalar.cmpi .slt v540 c0_i32_344
  let v545 : BitVec 1 := Scalar.xori v543 v544
  let c0_i32_342 : BitVec 32 := 0#32
  let v542 : BitVec 1 := Scalar.cmpi .ne v541 c0_i32_342
  let v546 : BitVec 1 := Scalar.andi v545 v542
  let v547 : BitVec 32 := Scalar.addi v541 v540
  let v548 : BitVec 32 := Scalar.select v546 v547 v541
  let c512_i32_359 : BitVec 32 := 512#32
  let v563 : BitVec 32 := Scalar.muli v548 c512_i32_359
  let c0_i32_360 : BitVec 32 := 0#32
  ![v563.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v798 : Index := Scalar.indexCast v2
  let c0_580 : Index := 0#32
  ![v798.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_592 : BitVec 32 := 0#32
  ![v2.toNat, 0]
def k0_dev22 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_581 : BitVec 32 := 1#32
  let v802 : BitVec 32 := Scalar.addi v2 c1_i32_581
  let c8_i32_582 : BitVec 32 := 8#32
  let c0_i32_583 : BitVec 32 := 0#32
  let v803 : BitVec 1 := Scalar.cmpi .eq c8_i32_582 c0_i32_583
  let c1_i32_584 : BitVec 32 := 1#32
  let v804 : BitVec 32 := Scalar.select v803 c1_i32_584 c8_i32_582
  let v805 : BitVec 32 := Scalar.remsi v802 v804
  let c0_i32_586 : BitVec 32 := 0#32
  let v807 : BitVec 1 := Scalar.cmpi .slt v805 c0_i32_586
  let c0_i32_587 : BitVec 32 := 0#32
  let v808 : BitVec 1 := Scalar.cmpi .slt v804 c0_i32_587
  let v809 : BitVec 1 := Scalar.xori v807 v808
  let c0_i32_585 : BitVec 32 := 0#32
  let v806 : BitVec 1 := Scalar.cmpi .ne v805 c0_i32_585
  let v810 : BitVec 1 := Scalar.andi v809 v806
  let v811 : BitVec 32 := Scalar.addi v805 v804
  let v812 : BitVec 32 := Scalar.select v810 v811 v805
  let c1_i32_590 : BitVec 32 := 1#32
  let v813 : BitVec 32 := Scalar.muli v812 c1_i32_590
  let v814 : BitVec 32 := Scalar.addi c0_i32_591 v813
  v814.toNat
def k0_dev23 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_594 : BitVec 32 := 2#32
  let v821 : BitVec 32 := Scalar.addi v2 c2_i32_594
  let c8_i32_595 : BitVec 32 := 8#32
  let c0_i32_596 : BitVec 32 := 0#32
  let v822 : BitVec 1 := Scalar.cmpi .eq c8_i32_595 c0_i32_596
  let c1_i32_597 : BitVec 32 := 1#32
  let v823 : BitVec 32 := Scalar.select v822 c1_i32_597 c8_i32_595
  let v824 : BitVec 32 := Scalar.remsi v821 v823
  let c0_i32_599 : BitVec 32 := 0#32
  let v826 : BitVec 1 := Scalar.cmpi .slt v824 c0_i32_599
  let c0_i32_600 : BitVec 32 := 0#32
  let v827 : BitVec 1 := Scalar.cmpi .slt v823 c0_i32_600
  let v828 : BitVec 1 := Scalar.xori v826 v827
  let c0_i32_598 : BitVec 32 := 0#32
  let v825 : BitVec 1 := Scalar.cmpi .ne v824 c0_i32_598
  let v829 : BitVec 1 := Scalar.andi v828 v825
  let v830 : BitVec 32 := Scalar.addi v824 v823
  let v831 : BitVec 32 := Scalar.select v829 v830 v824
  let c1_i32_603 : BitVec 32 := 1#32
  let v832 : BitVec 32 := Scalar.muli v831 c1_i32_603
  let v833 : BitVec 32 := Scalar.addi c0_i32_604 v832
  v833.toNat
def k0_dev24 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_607 : BitVec 32 := 3#32
  let v840 : BitVec 32 := Scalar.addi v2 c3_i32_607
  let c8_i32_608 : BitVec 32 := 8#32
  let c0_i32_609 : BitVec 32 := 0#32
  let v841 : BitVec 1 := Scalar.cmpi .eq c8_i32_608 c0_i32_609
  let c1_i32_610 : BitVec 32 := 1#32
  let v842 : BitVec 32 := Scalar.select v841 c1_i32_610 c8_i32_608
  let v843 : BitVec 32 := Scalar.remsi v840 v842
  let c0_i32_612 : BitVec 32 := 0#32
  let v845 : BitVec 1 := Scalar.cmpi .slt v843 c0_i32_612
  let c0_i32_613 : BitVec 32 := 0#32
  let v846 : BitVec 1 := Scalar.cmpi .slt v842 c0_i32_613
  let v847 : BitVec 1 := Scalar.xori v845 v846
  let c0_i32_611 : BitVec 32 := 0#32
  let v844 : BitVec 1 := Scalar.cmpi .ne v843 c0_i32_611
  let v848 : BitVec 1 := Scalar.andi v847 v844
  let v849 : BitVec 32 := Scalar.addi v843 v842
  let v850 : BitVec 32 := Scalar.select v848 v849 v843
  let c1_i32_616 : BitVec 32 := 1#32
  let v851 : BitVec 32 := Scalar.muli v850 c1_i32_616
  let v852 : BitVec 32 := Scalar.addi c0_i32_617 v851
  v852.toNat
def k0_dev25 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_620 : BitVec 32 := 4#32
  let v859 : BitVec 32 := Scalar.addi v2 c4_i32_620
  let c8_i32_621 : BitVec 32 := 8#32
  let c0_i32_622 : BitVec 32 := 0#32
  let v860 : BitVec 1 := Scalar.cmpi .eq c8_i32_621 c0_i32_622
  let c1_i32_623 : BitVec 32 := 1#32
  let v861 : BitVec 32 := Scalar.select v860 c1_i32_623 c8_i32_621
  let v862 : BitVec 32 := Scalar.remsi v859 v861
  let c0_i32_625 : BitVec 32 := 0#32
  let v864 : BitVec 1 := Scalar.cmpi .slt v862 c0_i32_625
  let c0_i32_626 : BitVec 32 := 0#32
  let v865 : BitVec 1 := Scalar.cmpi .slt v861 c0_i32_626
  let v866 : BitVec 1 := Scalar.xori v864 v865
  let c0_i32_624 : BitVec 32 := 0#32
  let v863 : BitVec 1 := Scalar.cmpi .ne v862 c0_i32_624
  let v867 : BitVec 1 := Scalar.andi v866 v863
  let v868 : BitVec 32 := Scalar.addi v862 v861
  let v869 : BitVec 32 := Scalar.select v867 v868 v862
  let c1_i32_629 : BitVec 32 := 1#32
  let v870 : BitVec 32 := Scalar.muli v869 c1_i32_629
  let v871 : BitVec 32 := Scalar.addi c0_i32_630 v870
  v871.toNat
def k0_dev26 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_633 : BitVec 32 := 5#32
  let v878 : BitVec 32 := Scalar.addi v2 c5_i32_633
  let c8_i32_634 : BitVec 32 := 8#32
  let c0_i32_635 : BitVec 32 := 0#32
  let v879 : BitVec 1 := Scalar.cmpi .eq c8_i32_634 c0_i32_635
  let c1_i32_636 : BitVec 32 := 1#32
  let v880 : BitVec 32 := Scalar.select v879 c1_i32_636 c8_i32_634
  let v881 : BitVec 32 := Scalar.remsi v878 v880
  let c0_i32_638 : BitVec 32 := 0#32
  let v883 : BitVec 1 := Scalar.cmpi .slt v881 c0_i32_638
  let c0_i32_639 : BitVec 32 := 0#32
  let v884 : BitVec 1 := Scalar.cmpi .slt v880 c0_i32_639
  let v885 : BitVec 1 := Scalar.xori v883 v884
  let c0_i32_637 : BitVec 32 := 0#32
  let v882 : BitVec 1 := Scalar.cmpi .ne v881 c0_i32_637
  let v886 : BitVec 1 := Scalar.andi v885 v882
  let v887 : BitVec 32 := Scalar.addi v881 v880
  let v888 : BitVec 32 := Scalar.select v886 v887 v881
  let c1_i32_642 : BitVec 32 := 1#32
  let v889 : BitVec 32 := Scalar.muli v888 c1_i32_642
  let v890 : BitVec 32 := Scalar.addi c0_i32_643 v889
  v890.toNat
def k0_dev27 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_646 : BitVec 32 := 6#32
  let v897 : BitVec 32 := Scalar.addi v2 c6_i32_646
  let c8_i32_647 : BitVec 32 := 8#32
  let c0_i32_648 : BitVec 32 := 0#32
  let v898 : BitVec 1 := Scalar.cmpi .eq c8_i32_647 c0_i32_648
  let c1_i32_649 : BitVec 32 := 1#32
  let v899 : BitVec 32 := Scalar.select v898 c1_i32_649 c8_i32_647
  let v900 : BitVec 32 := Scalar.remsi v897 v899
  let c0_i32_651 : BitVec 32 := 0#32
  let v902 : BitVec 1 := Scalar.cmpi .slt v900 c0_i32_651
  let c0_i32_652 : BitVec 32 := 0#32
  let v903 : BitVec 1 := Scalar.cmpi .slt v899 c0_i32_652
  let v904 : BitVec 1 := Scalar.xori v902 v903
  let c0_i32_650 : BitVec 32 := 0#32
  let v901 : BitVec 1 := Scalar.cmpi .ne v900 c0_i32_650
  let v905 : BitVec 1 := Scalar.andi v904 v901
  let v906 : BitVec 32 := Scalar.addi v900 v899
  let v907 : BitVec 32 := Scalar.select v905 v906 v900
  let c1_i32_655 : BitVec 32 := 1#32
  let v908 : BitVec 32 := Scalar.muli v907 c1_i32_655
  let v909 : BitVec 32 := Scalar.addi c0_i32_656 v908
  v909.toNat
def k0_dev28 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_659 : BitVec 32 := 7#32
  let v916 : BitVec 32 := Scalar.addi v2 c7_i32_659
  let c8_i32_660 : BitVec 32 := 8#32
  let c0_i32_661 : BitVec 32 := 0#32
  let v917 : BitVec 1 := Scalar.cmpi .eq c8_i32_660 c0_i32_661
  let c1_i32_662 : BitVec 32 := 1#32
  let v918 : BitVec 32 := Scalar.select v917 c1_i32_662 c8_i32_660
  let v919 : BitVec 32 := Scalar.remsi v916 v918
  let c0_i32_664 : BitVec 32 := 0#32
  let v921 : BitVec 1 := Scalar.cmpi .slt v919 c0_i32_664
  let c0_i32_665 : BitVec 32 := 0#32
  let v922 : BitVec 1 := Scalar.cmpi .slt v918 c0_i32_665
  let v923 : BitVec 1 := Scalar.xori v921 v922
  let c0_i32_663 : BitVec 32 := 0#32
  let v920 : BitVec 1 := Scalar.cmpi .ne v919 c0_i32_663
  let v924 : BitVec 1 := Scalar.andi v923 v920
  let v925 : BitVec 32 := Scalar.addi v919 v918
  let v926 : BitVec 32 := Scalar.select v924 v925 v919
  let c1_i32_668 : BitVec 32 := 1#32
  let v927 : BitVec 32 := Scalar.muli v926 c1_i32_668
  let v928 : BitVec 32 := Scalar.addi c0_i32_669 v927
  v928.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2048_i32_731 : BitVec 32 := 2048#32
  let v1005 : BitVec 32 := Scalar.muli v19 c2048_i32_731
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2048_i32_732 : BitVec 32 := 2048#32
  let v1006 : BitVec 32 := Scalar.muli v29 c2048_i32_732
  ![v1005.toNat, v1006.toNat]
def k0_dev29 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_724 : BitVec 32 := 1#32
  let v994 : BitVec 32 := Scalar.addi v2 c1_i32_724
  let c8_i32_725 : BitVec 32 := 8#32
  let c0_i32_726 : BitVec 32 := 0#32
  let v995 : BitVec 1 := Scalar.cmpi .eq c8_i32_725 c0_i32_726
  let c1_i32_727 : BitVec 32 := 1#32
  let v996 : BitVec 32 := Scalar.select v995 c1_i32_727 c8_i32_725
  let v997 : BitVec 32 := Scalar.remsi v994 v996
  let c0_i32_729 : BitVec 32 := 0#32
  let v999 : BitVec 1 := Scalar.cmpi .slt v997 c0_i32_729
  let c0_i32_730 : BitVec 32 := 0#32
  let v1000 : BitVec 1 := Scalar.cmpi .slt v996 c0_i32_730
  let v1001 : BitVec 1 := Scalar.xori v999 v1000
  let c0_i32_728 : BitVec 32 := 0#32
  let v998 : BitVec 1 := Scalar.cmpi .ne v997 c0_i32_728
  let v1002 : BitVec 1 := Scalar.andi v1001 v998
  let v1003 : BitVec 32 := Scalar.addi v997 v996
  let v1004 : BitVec 32 := Scalar.select v1002 v1003 v997
  let c1_i32_735 : BitVec 32 := 1#32
  let v1007 : BitVec 32 := Scalar.muli v1004 c1_i32_735
  let v1008 : BitVec 32 := Scalar.addi c0_i32_736 v1007
  v1008.toNat
def k0_dev30 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_737 : BitVec 32 := 2#32
  let v1014 : BitVec 32 := Scalar.addi v2 c2_i32_737
  let c8_i32_738 : BitVec 32 := 8#32
  let c0_i32_739 : BitVec 32 := 0#32
  let v1015 : BitVec 1 := Scalar.cmpi .eq c8_i32_738 c0_i32_739
  let c1_i32_740 : BitVec 32 := 1#32
  let v1016 : BitVec 32 := Scalar.select v1015 c1_i32_740 c8_i32_738
  let v1017 : BitVec 32 := Scalar.remsi v1014 v1016
  let c0_i32_742 : BitVec 32 := 0#32
  let v1019 : BitVec 1 := Scalar.cmpi .slt v1017 c0_i32_742
  let c0_i32_743 : BitVec 32 := 0#32
  let v1020 : BitVec 1 := Scalar.cmpi .slt v1016 c0_i32_743
  let v1021 : BitVec 1 := Scalar.xori v1019 v1020
  let c0_i32_741 : BitVec 32 := 0#32
  let v1018 : BitVec 1 := Scalar.cmpi .ne v1017 c0_i32_741
  let v1022 : BitVec 1 := Scalar.andi v1021 v1018
  let v1023 : BitVec 32 := Scalar.addi v1017 v1016
  let v1024 : BitVec 32 := Scalar.select v1022 v1023 v1017
  let c1_i32_748 : BitVec 32 := 1#32
  let v1027 : BitVec 32 := Scalar.muli v1024 c1_i32_748
  let v1028 : BitVec 32 := Scalar.addi c0_i32_749 v1027
  v1028.toNat
def k0_dev31 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_750 : BitVec 32 := 3#32
  let v1034 : BitVec 32 := Scalar.addi v2 c3_i32_750
  let c8_i32_751 : BitVec 32 := 8#32
  let c0_i32_752 : BitVec 32 := 0#32
  let v1035 : BitVec 1 := Scalar.cmpi .eq c8_i32_751 c0_i32_752
  let c1_i32_753 : BitVec 32 := 1#32
  let v1036 : BitVec 32 := Scalar.select v1035 c1_i32_753 c8_i32_751
  let v1037 : BitVec 32 := Scalar.remsi v1034 v1036
  let c0_i32_755 : BitVec 32 := 0#32
  let v1039 : BitVec 1 := Scalar.cmpi .slt v1037 c0_i32_755
  let c0_i32_756 : BitVec 32 := 0#32
  let v1040 : BitVec 1 := Scalar.cmpi .slt v1036 c0_i32_756
  let v1041 : BitVec 1 := Scalar.xori v1039 v1040
  let c0_i32_754 : BitVec 32 := 0#32
  let v1038 : BitVec 1 := Scalar.cmpi .ne v1037 c0_i32_754
  let v1042 : BitVec 1 := Scalar.andi v1041 v1038
  let v1043 : BitVec 32 := Scalar.addi v1037 v1036
  let v1044 : BitVec 32 := Scalar.select v1042 v1043 v1037
  let c1_i32_761 : BitVec 32 := 1#32
  let v1047 : BitVec 32 := Scalar.muli v1044 c1_i32_761
  let v1048 : BitVec 32 := Scalar.addi c0_i32_762 v1047
  v1048.toNat
def k0_dev32 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_763 : BitVec 32 := 4#32
  let v1054 : BitVec 32 := Scalar.addi v2 c4_i32_763
  let c8_i32_764 : BitVec 32 := 8#32
  let c0_i32_765 : BitVec 32 := 0#32
  let v1055 : BitVec 1 := Scalar.cmpi .eq c8_i32_764 c0_i32_765
  let c1_i32_766 : BitVec 32 := 1#32
  let v1056 : BitVec 32 := Scalar.select v1055 c1_i32_766 c8_i32_764
  let v1057 : BitVec 32 := Scalar.remsi v1054 v1056
  let c0_i32_768 : BitVec 32 := 0#32
  let v1059 : BitVec 1 := Scalar.cmpi .slt v1057 c0_i32_768
  let c0_i32_769 : BitVec 32 := 0#32
  let v1060 : BitVec 1 := Scalar.cmpi .slt v1056 c0_i32_769
  let v1061 : BitVec 1 := Scalar.xori v1059 v1060
  let c0_i32_767 : BitVec 32 := 0#32
  let v1058 : BitVec 1 := Scalar.cmpi .ne v1057 c0_i32_767
  let v1062 : BitVec 1 := Scalar.andi v1061 v1058
  let v1063 : BitVec 32 := Scalar.addi v1057 v1056
  let v1064 : BitVec 32 := Scalar.select v1062 v1063 v1057
  let c1_i32_774 : BitVec 32 := 1#32
  let v1067 : BitVec 32 := Scalar.muli v1064 c1_i32_774
  let v1068 : BitVec 32 := Scalar.addi c0_i32_775 v1067
  v1068.toNat
def k0_dev33 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_776 : BitVec 32 := 5#32
  let v1074 : BitVec 32 := Scalar.addi v2 c5_i32_776
  let c8_i32_777 : BitVec 32 := 8#32
  let c0_i32_778 : BitVec 32 := 0#32
  let v1075 : BitVec 1 := Scalar.cmpi .eq c8_i32_777 c0_i32_778
  let c1_i32_779 : BitVec 32 := 1#32
  let v1076 : BitVec 32 := Scalar.select v1075 c1_i32_779 c8_i32_777
  let v1077 : BitVec 32 := Scalar.remsi v1074 v1076
  let c0_i32_781 : BitVec 32 := 0#32
  let v1079 : BitVec 1 := Scalar.cmpi .slt v1077 c0_i32_781
  let c0_i32_782 : BitVec 32 := 0#32
  let v1080 : BitVec 1 := Scalar.cmpi .slt v1076 c0_i32_782
  let v1081 : BitVec 1 := Scalar.xori v1079 v1080
  let c0_i32_780 : BitVec 32 := 0#32
  let v1078 : BitVec 1 := Scalar.cmpi .ne v1077 c0_i32_780
  let v1082 : BitVec 1 := Scalar.andi v1081 v1078
  let v1083 : BitVec 32 := Scalar.addi v1077 v1076
  let v1084 : BitVec 32 := Scalar.select v1082 v1083 v1077
  let c1_i32_787 : BitVec 32 := 1#32
  let v1087 : BitVec 32 := Scalar.muli v1084 c1_i32_787
  let v1088 : BitVec 32 := Scalar.addi c0_i32_788 v1087
  v1088.toNat
def k0_dev34 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_789 : BitVec 32 := 6#32
  let v1094 : BitVec 32 := Scalar.addi v2 c6_i32_789
  let c8_i32_790 : BitVec 32 := 8#32
  let c0_i32_791 : BitVec 32 := 0#32
  let v1095 : BitVec 1 := Scalar.cmpi .eq c8_i32_790 c0_i32_791
  let c1_i32_792 : BitVec 32 := 1#32
  let v1096 : BitVec 32 := Scalar.select v1095 c1_i32_792 c8_i32_790
  let v1097 : BitVec 32 := Scalar.remsi v1094 v1096
  let c0_i32_794 : BitVec 32 := 0#32
  let v1099 : BitVec 1 := Scalar.cmpi .slt v1097 c0_i32_794
  let c0_i32_795 : BitVec 32 := 0#32
  let v1100 : BitVec 1 := Scalar.cmpi .slt v1096 c0_i32_795
  let v1101 : BitVec 1 := Scalar.xori v1099 v1100
  let c0_i32_793 : BitVec 32 := 0#32
  let v1098 : BitVec 1 := Scalar.cmpi .ne v1097 c0_i32_793
  let v1102 : BitVec 1 := Scalar.andi v1101 v1098
  let v1103 : BitVec 32 := Scalar.addi v1097 v1096
  let v1104 : BitVec 32 := Scalar.select v1102 v1103 v1097
  let c1_i32_800 : BitVec 32 := 1#32
  let v1107 : BitVec 32 := Scalar.muli v1104 c1_i32_800
  let v1108 : BitVec 32 := Scalar.addi c0_i32_801 v1107
  v1108.toNat
def k0_dev35 (d0 : Dev nD) : Nat :=
  let c0_i32_814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_802 : BitVec 32 := 7#32
  let v1114 : BitVec 32 := Scalar.addi v2 c7_i32_802
  let c8_i32_803 : BitVec 32 := 8#32
  let c0_i32_804 : BitVec 32 := 0#32
  let v1115 : BitVec 1 := Scalar.cmpi .eq c8_i32_803 c0_i32_804
  let c1_i32_805 : BitVec 32 := 1#32
  let v1116 : BitVec 32 := Scalar.select v1115 c1_i32_805 c8_i32_803
  let v1117 : BitVec 32 := Scalar.remsi v1114 v1116
  let c0_i32_807 : BitVec 32 := 0#32
  let v1119 : BitVec 1 := Scalar.cmpi .slt v1117 c0_i32_807
  let c0_i32_808 : BitVec 32 := 0#32
  let v1120 : BitVec 1 := Scalar.cmpi .slt v1116 c0_i32_808
  let v1121 : BitVec 1 := Scalar.xori v1119 v1120
  let c0_i32_806 : BitVec 32 := 0#32
  let v1118 : BitVec 1 := Scalar.cmpi .ne v1117 c0_i32_806
  let v1122 : BitVec 1 := Scalar.andi v1121 v1118
  let v1123 : BitVec 32 := Scalar.addi v1117 v1116
  let v1124 : BitVec 32 := Scalar.select v1122 v1123 v1117
  let c1_i32_813 : BitVec 32 := 1#32
  let v1127 : BitVec 32 := Scalar.muli v1124 c1_i32_813
  let v1128 : BitVec 32 := Scalar.addi c0_i32_814 v1127
  v1128.toNat
def k0_off12 (d0 : Dev nD) (c0_i32_815 : BitVec 32) (c0_i32_842 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1134 : BitVec 32 := Scalar.subi v2 c0_i32_815
  let c8_i32_816 : BitVec 32 := 8#32
  let c0_i32_817 : BitVec 32 := 0#32
  let v1135 : BitVec 1 := Scalar.cmpi .eq c8_i32_816 c0_i32_817
  let c1_i32_818 : BitVec 32 := 1#32
  let v1136 : BitVec 32 := Scalar.select v1135 c1_i32_818 c8_i32_816
  let v1137 : BitVec 32 := Scalar.remsi v1134 v1136
  let c0_i32_820 : BitVec 32 := 0#32
  let v1139 : BitVec 1 := Scalar.cmpi .slt v1137 c0_i32_820
  let c0_i32_821 : BitVec 32 := 0#32
  let v1140 : BitVec 1 := Scalar.cmpi .slt v1136 c0_i32_821
  let v1141 : BitVec 1 := Scalar.xori v1139 v1140
  let c0_i32_819 : BitVec 32 := 0#32
  let v1138 : BitVec 1 := Scalar.cmpi .ne v1137 c0_i32_819
  let v1142 : BitVec 1 := Scalar.andi v1141 v1138
  let v1143 : BitVec 32 := Scalar.addi v1137 v1136
  let v1144 : BitVec 32 := Scalar.select v1142 v1143 v1137
  let c0_i32_823 : BitVec 32 := 0#32
  let v1146 : BitVec 1 := Scalar.cmpi .sgt v1144 c0_i32_823
  let v1147 : BitVec 32 := Scalar.extui v1146
  let c0_i32_824 : BitVec 32 := 0#32
  let v1148 : BitVec 1 := Scalar.cmpi .slt v1144 c0_i32_824
  let v1149 : BitVec 32 := Scalar.extui v1148
  let v1150 : BitVec 32 := Scalar.subi v1147 v1149
  let c4_i32_822 : BitVec 32 := 4#32
  let c0_i32_825 : BitVec 32 := 0#32
  let v1151 : BitVec 1 := Scalar.cmpi .sgt c4_i32_822 c0_i32_825
  let v1152 : BitVec 32 := Scalar.extui v1151
  let c0_i32_826 : BitVec 32 := 0#32
  let v1153 : BitVec 1 := Scalar.cmpi .slt c4_i32_822 c0_i32_826
  let v1154 : BitVec 32 := Scalar.extui v1153
  let v1155 : BitVec 32 := Scalar.subi v1152 v1154
  let v1156 : BitVec 1 := Scalar.cmpi .ne v1150 v1155
  let v1157 : BitVec 32 := Scalar.remsi v1144 c4_i32_822
  let c0_i32_827 : BitVec 32 := 0#32
  let v1158 : BitVec 1 := Scalar.cmpi .ne v1157 c0_i32_827
  let v1159 : BitVec 1 := Scalar.andi v1156 v1158
  let v1145 : BitVec 32 := Scalar.divsi v1144 c4_i32_822
  let c1_i32_828 : BitVec 32 := 1#32
  let v1160 : BitVec 32 := Scalar.subi v1145 c1_i32_828
  let v1161 : BitVec 32 := Scalar.select v1159 v1160 v1145
  let c2048_i32_840 : BitVec 32 := 2048#32
  let v1180 : BitVec 32 := Scalar.muli v1161 c2048_i32_840
  let c4_i32_829 : BitVec 32 := 4#32
  let c0_i32_830 : BitVec 32 := 0#32
  let v1162 : BitVec 1 := Scalar.cmpi .eq c4_i32_829 c0_i32_830
  let c1_i32_831 : BitVec 32 := 1#32
  let v1163 : BitVec 32 := Scalar.select v1162 c1_i32_831 c4_i32_829
  let v1164 : BitVec 32 := Scalar.remsi v1144 v1163
  let c0_i32_833 : BitVec 32 := 0#32
  let v1166 : BitVec 1 := Scalar.cmpi .slt v1164 c0_i32_833
  let c0_i32_834 : BitVec 32 := 0#32
  let v1167 : BitVec 1 := Scalar.cmpi .slt v1163 c0_i32_834
  let v1168 : BitVec 1 := Scalar.xori v1166 v1167
  let c0_i32_832 : BitVec 32 := 0#32
  let v1165 : BitVec 1 := Scalar.cmpi .ne v1164 c0_i32_832
  let v1169 : BitVec 1 := Scalar.andi v1168 v1165
  let v1170 : BitVec 32 := Scalar.addi v1164 v1163
  let v1171 : BitVec 32 := Scalar.select v1169 v1170 v1164
  let c2048_i32_841 : BitVec 32 := 2048#32
  let v1181 : BitVec 32 := Scalar.muli v1171 c2048_i32_841
  let v1182 : BitVec 32 := Scalar.addi v1181 c0_i32_842
  ![v1180.toNat, v1182.toNat]
def k0_off13 (d0 : Dev nD) (c1_i32_856 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1204 : BitVec 32 := Scalar.subi v2 c1_i32_856
  let c8_i32_857 : BitVec 32 := 8#32
  let c0_i32_858 : BitVec 32 := 0#32
  let v1205 : BitVec 1 := Scalar.cmpi .eq c8_i32_857 c0_i32_858
  let c1_i32_859 : BitVec 32 := 1#32
  let v1206 : BitVec 32 := Scalar.select v1205 c1_i32_859 c8_i32_857
  let v1207 : BitVec 32 := Scalar.remsi v1204 v1206
  let c0_i32_861 : BitVec 32 := 0#32
  let v1209 : BitVec 1 := Scalar.cmpi .slt v1207 c0_i32_861
  let c0_i32_862 : BitVec 32 := 0#32
  let v1210 : BitVec 1 := Scalar.cmpi .slt v1206 c0_i32_862
  let v1211 : BitVec 1 := Scalar.xori v1209 v1210
  let c0_i32_860 : BitVec 32 := 0#32
  let v1208 : BitVec 1 := Scalar.cmpi .ne v1207 c0_i32_860
  let v1212 : BitVec 1 := Scalar.andi v1211 v1208
  let v1213 : BitVec 32 := Scalar.addi v1207 v1206
  let v1214 : BitVec 32 := Scalar.select v1212 v1213 v1207
  let c0_i32_864 : BitVec 32 := 0#32
  let v1216 : BitVec 1 := Scalar.cmpi .sgt v1214 c0_i32_864
  let v1217 : BitVec 32 := Scalar.extui v1216
  let c0_i32_865 : BitVec 32 := 0#32
  let v1218 : BitVec 1 := Scalar.cmpi .slt v1214 c0_i32_865
  let v1219 : BitVec 32 := Scalar.extui v1218
  let v1220 : BitVec 32 := Scalar.subi v1217 v1219
  let c4_i32_863 : BitVec 32 := 4#32
  let c0_i32_866 : BitVec 32 := 0#32
  let v1221 : BitVec 1 := Scalar.cmpi .sgt c4_i32_863 c0_i32_866
  let v1222 : BitVec 32 := Scalar.extui v1221
  let c0_i32_867 : BitVec 32 := 0#32
  let v1223 : BitVec 1 := Scalar.cmpi .slt c4_i32_863 c0_i32_867
  let v1224 : BitVec 32 := Scalar.extui v1223
  let v1225 : BitVec 32 := Scalar.subi v1222 v1224
  let v1226 : BitVec 1 := Scalar.cmpi .ne v1220 v1225
  let v1227 : BitVec 32 := Scalar.remsi v1214 c4_i32_863
  let c0_i32_868 : BitVec 32 := 0#32
  let v1228 : BitVec 1 := Scalar.cmpi .ne v1227 c0_i32_868
  let v1229 : BitVec 1 := Scalar.andi v1226 v1228
  let v1215 : BitVec 32 := Scalar.divsi v1214 c4_i32_863
  let c1_i32_869 : BitVec 32 := 1#32
  let v1230 : BitVec 32 := Scalar.subi v1215 c1_i32_869
  let v1231 : BitVec 32 := Scalar.select v1229 v1230 v1215
  let c2048_i32_880 : BitVec 32 := 2048#32
  let v1247 : BitVec 32 := Scalar.muli v1231 c2048_i32_880
  let c4_i32_870 : BitVec 32 := 4#32
  let c0_i32_871 : BitVec 32 := 0#32
  let v1232 : BitVec 1 := Scalar.cmpi .eq c4_i32_870 c0_i32_871
  let c1_i32_872 : BitVec 32 := 1#32
  let v1233 : BitVec 32 := Scalar.select v1232 c1_i32_872 c4_i32_870
  let v1234 : BitVec 32 := Scalar.remsi v1214 v1233
  let c0_i32_874 : BitVec 32 := 0#32
  let v1236 : BitVec 1 := Scalar.cmpi .slt v1234 c0_i32_874
  let c0_i32_875 : BitVec 32 := 0#32
  let v1237 : BitVec 1 := Scalar.cmpi .slt v1233 c0_i32_875
  let v1238 : BitVec 1 := Scalar.xori v1236 v1237
  let c0_i32_873 : BitVec 32 := 0#32
  let v1235 : BitVec 1 := Scalar.cmpi .ne v1234 c0_i32_873
  let v1239 : BitVec 1 := Scalar.andi v1238 v1235
  let v1240 : BitVec 32 := Scalar.addi v1234 v1233
  let v1241 : BitVec 32 := Scalar.select v1239 v1240 v1234
  let c2048_i32_881 : BitVec 32 := 2048#32
  let v1248 : BitVec 32 := Scalar.muli v1241 c2048_i32_881
  ![v1247.toNat, v1248.toNat]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .bf16⟩
  | .local _ .vmem, ⟨0, _⟩ => ⟨S4096x4096, .bf16⟩
  | .local _ .vmem, ⟨1, _⟩ => ⟨S4096x8192, .bf16⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Common.lean ====
/- The kernel's cross-device protocol as data: the blocks it moves, the values they hold, the semaphore cells and the one
   round each of them sees, what a device owes, and the order in which cells may be waited on. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TableIdle
public import Idealize.ShloMosaic.Lib.MemrefSat
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the protocol's rounds (seven duty names), the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds inside the whole. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## Neighbours -/

/-- The device `J` places behind `c` on the ring of eight. -/
def back (c : Dev nD) (J : ℕ) : Dev nD := ⟨(c.val + 7 * J) % 8, Nat.mod_lt _ (by decide)⟩
/-- The device `j + 1` places ahead of `c`: where `c`'s send number `j` goes. -/
def peer (c : Dev nD) (j : Fin 7) : Dev nD := ⟨(c.val + (j.val + 1)) % 8, Nat.mod_lt _ (by decide)⟩
/-- The device `j + 1` places behind `c`: where `c`'s landing number `j` comes from. -/
abbrev src (c : Dev nD) (j : Fin 7) : Dev nD := back c (j.val + 1)

theorem back_zero (c : Dev nD) : back c 0 = c := by revert c; decide
theorem src_peer (c : Dev nD) (j : Fin 7) : src (peer c j) j = c := by revert c j; decide
theorem peer_src (c : Dev nD) (j : Fin 7) : peer (src c j) j = c := by revert c j; decide
theorem peer_rev (c : Dev nD) (j : Fin 7) : peer (peer c j) j.rev = c := by revert c j; decide
theorem src_eq_peer_rev (c : Dev nD) (j : Fin 7) : src c j = peer c j.rev := by revert c j; decide

/-! ## Arrays and blocks -/

abbrev aX : Memref sig .tc .hbm S4096x512 .bf16 := Memref.whole main_arg0
abbrev aW : Memref sig .tc .hbm S512x8192 .bf16 := Memref.whole main_arg1
abbrev aO : Memref sig .tc .hbm S4096x8192 .bf16 := Memref.whole main_v1_0
abbrev bY : Memref sig .tc .vmem S2048x2048 .f32 := Memref.whole cc0_stg0_0
abbrev gX : Memref sig .tc .hbm S2048x4096 .bf16 := Memref.whole main_v1_2
abbrev gW : Memref sig .tc .hbm S4096x2048 .bf16 := Memref.whole main_v1_3
abbrev gQ : Memref sig .tc .hbm S4096x8192 .fp8e4m3 := Memref.whole main_v1_4
abbrev bX : Memref sig .tc .vmem S2048x512 .bf16 := Memref.whole cc0_scratch0
abbrev bW : Memref sig .tc .vmem S512x2048 .bf16 := Memref.whole cc0_scratch1
abbrev bQ : Memref sig .tc .vmem S2048x2048 .fp8e4m3 := Memref.whole cc0_scratch2
abbrev bR : Memref sig .tc .vmem S2048x2048 .fp8e4m3 := Memref.whole cc0_scratch3
abbrev bS : Memref sig .tc .vmem S2x2048x1024 .bf16 := Memref.whole cc0_scratch4
abbrev bA : Memref sig .tc .vmem S8x128 .f32 := Memref.whole cc0_scratch5

/-- The rows of `x` that device `p`'s tile needs. -/
abbrev xR (p : Dev nD) : Memref sig .tc .hbm S2048x512 .bf16 :=
  aX.slice (Rect.unit (s := S4096x512) (k0_off5 p) S2048x512.size (k0_off5_inb p)) (fun _ => rfl)
/-- The columns of `w` that device `p`'s tile needs. -/
abbrev wR (p : Dev nD) : Memref sig .tc .hbm S512x2048 .bf16 :=
  aW.slice (Rect.unit (s := S512x8192) (k0_off6 p) S512x2048.size (k0_off6_inb p)) (fun _ => rfl)
/-- Where device `s`'s block of `x` lands. -/
abbrev xgB (s : Dev nD) : Memref sig .tc .hbm S2048x512 .bf16 :=
  gX.slice (Rect.unit (s := S2048x4096) (k0_off3 s) S2048x512.size (k0_off3_inb s)) (fun _ => rfl)
/-- Where device `s`'s block of `w` lands. -/
abbrev wgB (s : Dev nD) : Memref sig .tc .hbm S512x2048 .bf16 :=
  gW.slice (Rect.unit (s := S4096x2048) (k0_off1 s) S512x2048.size (k0_off1_inb s)) (fun _ => rfl)
/-- Device `s`'s row of the table of maxima. -/
abbrev amB (s : Dev nD) : Memref sig .tc .vmem S1x128 .f32 :=
  bA.slice (Rect.unit (s := S8x128) (k0_off10 s) S1x128.size (k0_off10_inb s)) (fun _ => rfl)
/-- Where device `s`'s quantised tile lands. -/
abbrev qgB (s : Dev nD) : Memref sig .tc .hbm S2048x2048 .fp8e4m3 :=
  gQ.slice (Rect.unit (s := S4096x8192) (k0_off11 s) S2048x2048.size (k0_off11_inb s)) (fun _ => rfl)
/-- Half `h` of device `s`'s tile of the result. -/
abbrev outB (s : Dev nD) (h : Fin 2) : Memref sig .tc .hbm S2048x1024 .bf16 :=
  aO.slice (Rect.unit (s := S4096x8192) (k0_off12 s (BitVec.ofNat 32 (0 : Fin 8).val) (BitVec.ofNat 32 (1024 * h.val))) S2048x1024.size
    (k0_off12_inb s 0 h)) (fun _ => rfl)

theorem off2_eq (c : Dev nD) (j : Fin 7) : k0_off2 c (BitVec.ofNat 32 (1 + j.val)) = k0_off6 (peer c j) := by revert c j; decide +kernel
theorem off4_eq (c : Dev nD) (j : Fin 7) : k0_off4 c (BitVec.ofNat 32 (1 + j.val)) = k0_off5 (peer c j) := by revert c j; decide +kernel
theorem off7_eq (c : Dev nD) (j : Fin 7) : k0_off7 c (BitVec.ofNat 32 (1 + j.val)) = k0_off3 (src c j) := by revert c j; decide +kernel
theorem off8_eq (c : Dev nD) (j : Fin 7) : k0_off8 c (BitVec.ofNat 32 (1 + j.val)) = k0_off1 (src c j) := by revert c j; decide +kernel
theorem off9_eq (c : Dev nD) : k0_off9 c = k0_off10 c := by revert c; decide +kernel
theorem off13_eq (c : Dev nD) (j : Fin 7) : k0_off13 c (BitVec.ofNat 32 (1 + j.val)) = k0_off11 (src c j) := by revert c j; decide +kernel
theorem off12_eq (c : Dev nD) (J : Fin 8) (h : Fin 2) :
    k0_off12 c (BitVec.ofNat 32 J.val) (BitVec.ofNat 32 (1024 * h.val))
      = k0_off12 (back c J.val) (BitVec.ofNat 32 (0 : Fin 8).val) (BitVec.ofNat 32 (1024 * h.val)) := by revert c J h; decide +kernel

theorem off5_closed (c : Dev nD) : k0_off5 c = ![2048 * (c.val / 4), 0] := by revert c; decide +kernel
theorem off6_closed (c : Dev nD) : k0_off6 c = ![0, 2048 * (c.val % 4)] := by revert c; decide +kernel
theorem off11_closed (c : Dev nD) : k0_off11 c = ![2048 * (c.val / 4), 2048 * (c.val % 4)] := by revert c; decide +kernel
theorem off12_closed (c : Dev nD) (h : Fin 2) :
    k0_off12 c (BitVec.ofNat 32 (0 : Fin 8).val) (BitVec.ofNat 32 (1024 * h.val)) = ![2048 * (c.val / 4), 2048 * (c.val % 4) + 1024 * h.val] := by
  revert c h; decide +kernel

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 1 := by revert c; decide +kernel
theorem dev11_eq (c : Dev nD) : (⟨k0_dev11 c, k0_dev11_lt c⟩ : Dev nD) = peer c 1 := by revert c; decide +kernel
theorem dev12_eq (c : Dev nD) : (⟨k0_dev12 c, k0_dev12_lt c⟩ : Dev nD) = peer c 2 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 3 := by revert c; decide +kernel
theorem dev15_eq (c : Dev nD) : (⟨k0_dev15 c, k0_dev15_lt c⟩ : Dev nD) = peer c 3 := by revert c; decide +kernel
theorem dev16_eq (c : Dev nD) : (⟨k0_dev16 c, k0_dev16_lt c⟩ : Dev nD) = peer c 4 := by revert c; decide +kernel
theorem dev17_eq (c : Dev nD) : (⟨k0_dev17 c, k0_dev17_lt c⟩ : Dev nD) = peer c 4 := by revert c; decide +kernel
theorem dev18_eq (c : Dev nD) : (⟨k0_dev18 c, k0_dev18_lt c⟩ : Dev nD) = peer c 5 := by revert c; decide +kernel
theorem dev19_eq (c : Dev nD) : (⟨k0_dev19 c, k0_dev19_lt c⟩ : Dev nD) = peer c 5 := by revert c; decide +kernel
theorem dev20_eq (c : Dev nD) : (⟨k0_dev20 c, k0_dev20_lt c⟩ : Dev nD) = peer c 6 := by revert c; decide +kernel
theorem dev21_eq (c : Dev nD) : (⟨k0_dev21 c, k0_dev21_lt c⟩ : Dev nD) = peer c 6 := by revert c; decide +kernel
theorem dev22_eq (c : Dev nD) : (⟨k0_dev22 c, k0_dev22_lt c⟩ : Dev nD) = peer c 0 := by revert c; decide +kernel
theorem dev23_eq (c : Dev nD) : (⟨k0_dev23 c, k0_dev23_lt c⟩ : Dev nD) = peer c 1 := by revert c; decide +kernel
theorem dev24_eq (c : Dev nD) : (⟨k0_dev24 c, k0_dev24_lt c⟩ : Dev nD) = peer c 2 := by revert c; decide +kernel
theorem dev25_eq (c : Dev nD) : (⟨k0_dev25 c, k0_dev25_lt c⟩ : Dev nD) = peer c 3 := by revert c; decide +kernel
theorem dev26_eq (c : Dev nD) : (⟨k0_dev26 c, k0_dev26_lt c⟩ : Dev nD) = peer c 4 := by revert c; decide +kernel
theorem dev27_eq (c : Dev nD) : (⟨k0_dev27 c, k0_dev27_lt c⟩ : Dev nD) = peer c 5 := by revert c; decide +kernel
theorem dev28_eq (c : Dev nD) : (⟨k0_dev28 c, k0_dev28_lt c⟩ : Dev nD) = peer c 6 := by revert c; decide +kernel
theorem dev29_eq (c : Dev nD) : (⟨k0_dev29 c, k0_dev29_lt c⟩ : Dev nD) = peer c 0 := by revert c; decide +kernel
theorem dev30_eq (c : Dev nD) : (⟨k0_dev30 c, k0_dev30_lt c⟩ : Dev nD) = peer c 1 := by revert c; decide +kernel
theorem dev31_eq (c : Dev nD) : (⟨k0_dev31 c, k0_dev31_lt c⟩ : Dev nD) = peer c 2 := by revert c; decide +kernel
theorem dev32_eq (c : Dev nD) : (⟨k0_dev32 c, k0_dev32_lt c⟩ : Dev nD) = peer c 3 := by revert c; decide +kernel
theorem dev33_eq (c : Dev nD) : (⟨k0_dev33 c, k0_dev33_lt c⟩ : Dev nD) = peer c 4 := by revert c; decide +kernel
theorem dev34_eq (c : Dev nD) : (⟨k0_dev34 c, k0_dev34_lt c⟩ : Dev nD) = peer c 5 := by revert c; decide +kernel
theorem dev35_eq (c : Dev nD) : (⟨k0_dev35 c, k0_dev35_lt c⟩ : Dev nD) = peer c 6 := by revert c; decide +kernel

/-! ## Semaphores -/

/-- The runtime's barrier semaphore. -/
abbrev barS : Sem sig := (SemArray.scalar (sig.barrier 0 rfl) : Sems sig S_).sem
/-- Semaphore `j` of array `k`: the arrays are, in order, the send and receive semaphores of `x`, of `w`, of the maxima and
    of the quantised tiles. -/
def dS (k : Fin 8) (j : Fin 7) : DmaSem sig := ⟨5 + 7 * k.val + j.val, by have := k.isLt; have := j.isLt; show _ < 61; omega⟩
def kindOf (i : DmaSem sig) : Fin 8 := ⟨(i.val - 5) / 7, by have : i.val < 61 := i.isLt; omega⟩
def offOf (i : DmaSem sig) : Fin 7 := ⟨(i.val - 5) % 7, Nat.mod_lt _ (by decide)⟩
theorem kindOf_dS (k : Fin 8) (j : Fin 7) : kindOf (dS k j) = k := by revert k j; decide
theorem offOf_dS (k : Fin 8) (j : Fin 7) : offOf (dS k j) = j := by revert k j; decide
theorem five_le_dS (k : Fin 8) (j : Fin 7) : 5 ≤ (dS k j).val := by revert k j; decide

abbrev bar (c : Dev nD) : GSem nD τ sig := ((c : Thread nD τ), .reg barS)
abbrev cell (c : Dev nD) (k : Fin 8) (j : Fin 7) : GSem nD τ sig := ((c : Thread nD τ), .dma (dS k j))

/-- The transfers' credits. -/
abbrev NX : ℕ := (xgB 0).view.dmaCredit
abbrev NW : ℕ := (wgB 0).view.dmaCredit
abbrev NA : ℕ := (amB 0).view.dmaCredit
abbrev NQ : ℕ := (qgB 0).view.dmaCredit
theorem NX_pos : 0 < NX := View.dmaCredit_pos _ (by decide)
theorem NW_pos : 0 < NW := View.dmaCredit_pos _ (by decide)
theorem NA_pos : 0 < NA := View.dmaCredit_pos _ (by decide)
theorem NQ_pos : 0 < NQ := View.dmaCredit_pos _ (by decide)

/-- The credit of the transfers that array `k`'s semaphores count. -/
def NK : Fin 8 → ℕ := ![NX, NX, NW, NW, NA, NA, NQ, NQ]
theorem NK_pos (k : Fin 8) : 0 < NK k := by
  fin_cases k
  · exact NX_pos
  · exact NX_pos
  · exact NW_pos
  · exact NW_pos
  · exact NA_pos
  · exact NA_pos
  · exact NQ_pos
  · exact NQ_pos

/-! ## Contents -/

variable (m : (ℓ : Loc nD τ sig) → Buf (Elt F) ℓ)

/-- Device `s`'s rows of `x` for device `p`'s tile. -/
def xb (p s : Dev nD) : FVec F S2048x512 .bf16 := (xR p).view.read (Elt F) (m ((s : Thread nD τ).loc main_arg0))
/-- Device `s`'s columns of `w` for device `p`'s tile. -/
def wb (p s : Dev nD) : FVec F S512x2048 .bf16 := (wR p).view.read (Elt F) (m ((s : Thread nD τ).loc main_arg1))

/-- Device `s`'s tile of the product after its own block and the `n` blocks behind it. -/
def Yacc (s : Dev nD) : ℕ → FVec F S2048x2048 .f32
  | 0 => k0_pay1 (xb m s s) (wb m s s)
  | n + 1 => k0_pay2 (Yacc s n) (xb m s (back s (n + 1))) (wb m s (back s (n + 1)))
/-- Device `s`'s tile of the product. -/
def Yt (s : Dev nD) : FVec F S2048x2048 .f32 := Yacc m s 7
/-- Device `s`'s row of the table of maxima. -/
def am (s : Dev nD) : FVec F S1x128 .f32 := k0_pay10 (Yt m s)
/-- The table of maxima, once every row is in. -/
def AM : FVec F S8x128 .f32 := fun i => am m ⟨(i 0).val, (i 0).isLt⟩ (fun a => ⟨if a.val = 0 then 0 else (i 1).val, by
  have h1 : (i 1).val < 128 := (i 1).isLt
  obtain ⟨a, ha⟩ := a
  have ha : a < 2 := ha
  match a, ha with
  | 0, _ => show 0 < 1; decide
  | 1, _ => exact h1⟩)
/-- Device `s`'s quantised tile. -/
def qv (s : Dev nD) : FVec F S2048x2048 .fp8e4m3 := k0_pay12 (AM m) (Yt m s)
/-- The scale. -/
def scl : F .f32 := k0_pay11 (AM m)

/-! ## What changes hands -/

/-- Block `M` of device `c`, whole, at contents nobody cares about. -/
def any {sp : Space} {s : Shape} {e : EltTy} (c : Dev nD) (M : Memref sig .tc sp s e) : sProp 𝕄 :=
  ownsSat (c : Thread nD τ) M fullShare (fun _ => True)
instance any_storable {sp : Space} {s : Shape} {e : EltTy} (c : Dev nD) (M : Memref sig .tc sp s e) :
    BI.Storable (upEmb : UEmb _ 𝕄) (any (F := F) c M) := by unfold any; infer_instance

/-- The four blocks of device `q` that device `s` fills. -/
def Lands (q s : Dev nD) : sProp 𝕄 := iprop(any q (wgB s) ∗ any q (xgB s) ∗ any q (amB s) ∗ any q (qgB s))

/-- What the transfer counted by semaphore `j` of array `k` on device `p` hands `p`. -/
def dpay (p : Dev nD) (k : Fin 8) (j : Fin 7) : sProp 𝕄 :=
  match k with
  | 0 => iprop(emp)
  | 1 => owns (p : Thread nD τ) (xgB (src p j)) fullShare (xb m p (src p j))
  | 2 => iprop(emp)
  | 3 => owns (p : Thread nD τ) (wgB (src p j)) fullShare (wb m p (src p j))
  | 4 => owns (p : Thread nD τ) (amB p) (Transfers.shareTok fullShare 7 j) (am m p)
  | 5 => owns (p : Thread nD τ) (amB (src p j)) fullShare (am m (src p j))
  | 6 => owns (p : Thread nD τ) bQ (Transfers.shareTok fullShare 7 j) (qv m p)
  | 7 => owns (p : Thread nD τ) (qgB (src p j)) fullShare (qv m (src p j))

instance dpay_storable (p : Dev nD) (k : Fin 8) (j : Fin 7) : BI.Storable (upEmb : UEmb _ 𝕄) (dpay m p k j) := by
  unfold dpay; split <;> infer_instance
instance Lands_storable (q s : Dev nD) : BI.Storable (upEmb : UEmb _ 𝕄) (Lands (F := F) q s) := by unfold Lands; infer_instance

/-! ## The schedule: every cell sees one round -/

/-- The barrier cell has seven duties of one unit, duty `d` paid by the device `d + 1` places behind; each transfer cell
    has one duty of the transfer's credit. -/
def Rd : Rounds.Schedule (GSem nD τ sig) (Fin 7) 𝕄 where
  duties g r := if r = 0 ∧ g.1.2 = .tc then (match g.2 with
    | .reg s => if s = barS then Finset.univ else ∅
    | .dma i => if 5 ≤ i.val then {0} else ∅) else ∅
  unitless _ := False
  amount g _ _ := match g.2 with
    | .reg _ => 1
    | .dma i => NK (kindOf i)
  payload g _ d := match g.2 with
    | .reg _ => Lands (src g.1.1 d) g.1.1
    | .dma i => dpay m g.1.1 (kindOf i) (offOf i)
  amount_pos g _ _ _ := by
    rcases g with ⟨t, sm⟩
    cases sm with
    | reg s => exact Nat.one_pos
    | dma i => exact NK_pos _

instance Rd_payload_storable (g : GSem nD τ sig) (r : ℕ) (d : Fin 7) : BI.Storable (upEmb : UEmb _ 𝕄) ((Rd m).payload g r d) := by
  rcases g with ⟨t, sm⟩
  cases sm with
  | reg s => show BI.Storable upEmb (Lands _ _); infer_instance
  | dma i => show BI.Storable upEmb (dpay m _ _ _); infer_instance

section Sched
variable (c : Dev nD) (k : Fin 8) (j : Fin 7)

theorem duties_bar : (Rd m).duties (bar c) 0 = Finset.univ := by
  dsimp only [Rd]; rw [if_pos ⟨rfl, rfl⟩]; exact if_pos rfl
theorem duties_cell : (Rd m).duties (cell c k j) 0 = {0} := by
  dsimp only [Rd]; rw [if_pos ⟨rfl, rfl⟩]; exact if_pos (five_le_dS k j)
theorem duties_later (g : GSem nD τ sig) : ∀ r, 1 ≤ r → (Rd m).duties g r = ∅ := fun r hr => by
  dsimp only [Rd]; rw [if_neg fun h => by omega]
theorem amount_bar (d : Fin 7) : (Rd m).amount (bar c) 0 d = 1 := rfl
theorem amount_cell (d : Fin 7) : (Rd m).amount (cell c k j) 0 d = NK k := by
  show NK (kindOf (dS k j)) = NK k; rw [kindOf_dS]
theorem payload_bar (d : Fin 7) : (Rd m).payload (bar c) 0 d = Lands (src c d) c := rfl
theorem payload_cell (d : Fin 7) : (Rd m).payload (cell c k j) 0 d = dpay m c k j := by
  show dpay m c (kindOf (dS k j)) (offOf (dS k j)) = _; rw [kindOf_dS, offOf_dS]
theorem expect_bar : (Rd m).expect (bar c) 0 = 7 := by
  unfold Schedule.expect Schedule.amountOf
  rw [duties_bar, Finset.sum_congr rfl fun d _ => amount_bar m c d, Finset.sum_const, Finset.card_univ, Fintype.card_fin, smul_eq_mul]
theorem expect_cell : (Rd m).expect (cell c k j) 0 = NK k := by
  unfold Schedule.expect Schedule.amountOf; rw [duties_cell, Finset.sum_singleton, amount_cell]
theorem rest_bar : bigSep ((Rd m).duties (bar c) 0 \ ∅) (fun d => (Rd m).payload (bar c) 0 d) = bigSep Finset.univ fun d => Lands (src c d) c := by
  rw [Finset.sdiff_empty, duties_bar]; rfl
theorem rest_cell : bigSep ((Rd m).duties (cell c k j) 0 \ ∅) (fun d => (Rd m).payload (cell c k j) 0 d) = dpay m c k j := by
  rw [Finset.sdiff_empty, duties_cell, bigSep_singleton, payload_cell]

end Sched

/-! ## What is owed, and the levels -/

/-- The part of a seven-step debt from step `n` on. -/
def Osum (f : Fin 7 → CellTallies nD τ sig Unit) (n : ℕ) : CellTallies nD τ sig Unit := ∑ j ∈ Finset.univ.filter (fun j : Fin 7 => n ≤ j.val), f j
theorem Osum_step (f : Fin 7 → CellTallies nD τ sig Unit) (j : Fin 7) : Osum f j.val = Osum f (j.val + 1) + f j := by
  unfold Osum
  have h : Finset.univ.filter (fun i : Fin 7 => j.val ≤ i.val) = insert j (Finset.univ.filter fun i : Fin 7 => j.val + 1 ≤ i.val) := by
    ext i; simp only [Finset.mem_filter, Finset.mem_univ, _root_.true_and, Finset.mem_insert, Fin.ext_iff]; omega
  rw [h, Finset.sum_insert (by simp), add_comm]
theorem Osum_seven (f : Fin 7 → CellTallies nD τ sig Unit) : Osum f 7 = 0 := by
  unfold Osum; rw [Finset.filter_false_of_mem fun j _ => by have := j.isLt; omega, Finset.sum_empty]
theorem Osum_pos {f : Fin 7 → CellTallies nD τ sig Unit} {n : ℕ} {g : GSem nD τ sig} {u : Unit} (h : 0 < Osum f n g u) : ∃ j : Fin 7, n ≤ j.val ∧ 0 < f j g u := by
  unfold Osum at h
  rw [Finset.sum_apply, Finsupp.finset_sum_apply] at h
  obtain ⟨j, hj, hp⟩ := Finset.exists_ne_zero_of_sum_ne_zero h.ne'
  exact ⟨j, (Finset.mem_filter.mp hj).2, Nat.pos_of_ne_zero hp⟩

abbrev fB (c : Dev nD) (j : Fin 7) : CellTallies nD τ sig Unit := tallyAt (bar (peer c j)) () 1
/-- Device `c`'s transfer number `j` of the kind whose receive semaphores are array `k`. -/
abbrev fK (k : Fin 8) (c : Dev nD) (j : Fin 7) : CellTallies nD τ sig Unit := tallyAt (cell (peer c j) k j) () (NK k)

/-- What device `c` still owes after `nb` barrier signals and `nw`, `nx`, `na`, `nq` transfers of the four kinds. -/
def Orem (c : Dev nD) (nb nw nx na nq : ℕ) : CellTallies nD τ sig Unit :=
  Osum (fB c) nb + Osum (fK 3 c) nw + Osum (fK 1 c) nx + Osum (fK 5 c) na + Osum (fK 7 c) nq

theorem Orem_b (c : Dev nD) (j : Fin 7) (nw nx na nq : ℕ) : Orem c j.val nw nx na nq = Orem c (j.val + 1) nw nx na nq + fB c j := by
  unfold Orem; rw [Osum_step (fB c) j]; ac_rfl
theorem Orem_w (c : Dev nD) (j : Fin 7) (nb nx na nq : ℕ) : Orem c nb j.val nx na nq = Orem c nb (j.val + 1) nx na nq + fK 3 c j := by
  unfold Orem; rw [Osum_step (fK 3 c) j]; ac_rfl
theorem Orem_x (c : Dev nD) (j : Fin 7) (nb nw na nq : ℕ) : Orem c nb nw j.val na nq = Orem c nb nw (j.val + 1) na nq + fK 1 c j := by
  unfold Orem; rw [Osum_step (fK 1 c) j]; ac_rfl
theorem Orem_a (c : Dev nD) (j : Fin 7) (nb nw nx nq : ℕ) : Orem c nb nw nx j.val nq = Orem c nb nw nx (j.val + 1) nq + fK 5 c j := by
  unfold Orem; rw [Osum_step (fK 5 c) j]; ac_rfl
theorem Orem_q (c : Dev nD) (j : Fin 7) (nb nw nx na : ℕ) : Orem c nb nw nx na j.val = Orem c nb nw nx na (j.val + 1) + fK 7 c j := by
  unfold Orem; rw [Osum_step (fK 7 c) j]; ac_rfl
theorem Orem_done (c : Dev nD) : Orem c 7 7 7 7 7 = 0 := by unfold Orem; simp only [Osum_seven, add_zero]

def L (g : GSem nD τ sig) : Finset Unit := if g.1.2 = .tc then {()} else ∅
/-- Barrier cells at 1, the blocks' receive cells at 2, the maxima's at 3, the tiles' at 4, everything else at 0. -/
def lv (g : GSem nD τ sig) (_ : Unit) : ℕ := match g.2 with
  | .reg _ => 1
  | .dma i => if 5 ≤ i.val then (![0, 2, 0, 2, 0, 3, 0, 4] : Fin 8 → ℕ) (kindOf i) else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 8) (j : Fin 7) : lv (cell c k j) () = (![0, 2, 0, 2, 0, 3, 0, 4] : Fin 8 → ℕ) k := by
  show (if 5 ≤ (dS k j).val then (![0, 2, 0, 2, 0, 3, 0, 4] : Fin 8 → ℕ) (kindOf (dS k j)) else 0) = _
  rw [if_pos (five_le_dS k j), kindOf_dS]

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem Orem_pos {c : Dev nD} {nb nw nx na nq : ℕ} {g : GSem nD τ sig} {u : Unit} (h : 0 < Orem c nb nw nx na nq g u) :
    (∃ j : Fin 7, nb ≤ j.val ∧ g = bar (peer c j)) ∨ (∃ j : Fin 7, nw ≤ j.val ∧ g = cell (peer c j) 3 j) ∨ (∃ j : Fin 7, nx ≤ j.val ∧ g = cell (peer c j) 1 j)
      ∨ (∃ j : Fin 7, na ≤ j.val ∧ g = cell (peer c j) 5 j) ∨ (∃ j : Fin 7, nq ≤ j.val ∧ g = cell (peer c j) 7 j) := by
  unfold Orem at h
  simp only [Pi.add_apply, Finsupp.add_apply] at h
  by_cases h1 : 0 < Osum (fB c) nb g u
  · obtain ⟨j, hj, hp⟩ := Osum_pos h1; exact .inl ⟨j, hj, tallyAt_pos hp⟩
  by_cases h2 : 0 < Osum (fK 3 c) nw g u
  · obtain ⟨j, hj, hp⟩ := Osum_pos h2; exact .inr (.inl ⟨j, hj, tallyAt_pos hp⟩)
  by_cases h3 : 0 < Osum (fK 1 c) nx g u
  · obtain ⟨j, hj, hp⟩ := Osum_pos h3; exact .inr (.inr (.inl ⟨j, hj, tallyAt_pos hp⟩))
  by_cases h4 : 0 < Osum (fK 5 c) na g u
  · obtain ⟨j, hj, hp⟩ := Osum_pos h4; exact .inr (.inr (.inr (.inl ⟨j, hj, tallyAt_pos hp⟩)))
  by_cases h5 : 0 < Osum (fK 7 c) nq g u
  · obtain ⟨j, hj, hp⟩ := Osum_pos h5; exact .inr (.inr (.inr (.inr ⟨j, hj, tallyAt_pos hp⟩)))
  omega

/-- A wait at a cell of level `n` is allowed once everything owed is above `n`. -/
theorem mayWait (c : Dev nD) (sm : SemLoc sig) (n nb nw nx na nq : ℕ) (hn : lv ((c : Thread nD τ), sm) () ≤ n)
    (hb : 7 ≤ nb ∨ n < 1) (hw : 7 ≤ nw ∨ n < 2) (hx : 7 ≤ nx ∨ n < 2) (ha : 7 ≤ na ∨ n < 3) (hq : 7 ≤ nq ∨ n < 4) :
    (levAts L lv : sProp 𝕄) ⊢ MayWait (c : Thread nD τ) sm () (Orem c nb nw nx na nq) :=
  MayOwe.of_cut (L := L) (lev := lv) n (fun p hp => by rw [Finset.mem_singleton.mp hp, L_tc]; exact Finset.mem_singleton_self _)
    (fun g u hg => by
      rcases Orem_pos hg with ⟨j, -, rfl⟩ | ⟨j, -, rfl⟩ | ⟨j, -, rfl⟩ | ⟨j, -, rfl⟩ | ⟨j, -, rfl⟩ <;> exact Finset.mem_singleton_self _)
    (fun p hp => by rw [Finset.mem_singleton.mp hp]; exact hn)
    (fun g u hg => by
      rcases Orem_pos hg with ⟨j, hj, rfl⟩ | ⟨j, hj, rfl⟩ | ⟨j, hj, rfl⟩ | ⟨j, hj, rfl⟩ | ⟨j, hj, rfl⟩
      · show n < 1; have := j.isLt; omega
      · rw [lv_cell]; show n < 2; have := j.isLt; omega
      · rw [lv_cell]; show n < 2; have := j.isLt; omega
      · rw [lv_cell]; show n < 3; have := j.isLt; omega
      · rw [lv_cell]; show n < 4; have := j.isLt; omega)

/-! ## Families consumed from the front and built up from the front -/

variable {N : ℕ}

/-- The members of a family from number `n` on. -/
def Tail (Φ : Fin N → sProp 𝕄) (n : ℕ) : sProp 𝕄 := bigSep (Finset.univ.filter fun i : Fin N => n ≤ i.val) Φ
/-- The members before number `n`. -/
def Head (Φ : Fin N → sProp 𝕄) (n : ℕ) : sProp 𝕄 := bigSep (Finset.univ.filter fun i : Fin N => i.val < n) Φ

theorem Tail_step (Φ : Fin N → sProp 𝕄) (i : Fin N) : Tail Φ i.val = iprop(Φ i ∗ Tail Φ (i.val + 1)) := by
  unfold Tail
  have h : Finset.univ.filter (fun k : Fin N => i.val ≤ k.val) = insert i (Finset.univ.filter fun k : Fin N => i.val + 1 ≤ k.val) := by
    ext k; simp only [Finset.mem_filter, Finset.mem_univ, _root_.true_and, Finset.mem_insert, Fin.ext_iff]; omega
  rw [h, bigSep_insert (by simp)]; rfl
theorem Head_step (Φ : Fin N → sProp 𝕄) (i : Fin N) : Head Φ (i.val + 1) = iprop(Φ i ∗ Head Φ i.val) := by
  unfold Head
  have h : Finset.univ.filter (fun k : Fin N => k.val < i.val + 1) = insert i (Finset.univ.filter fun k : Fin N => k.val < i.val) := by
    ext k; simp only [Finset.mem_filter, Finset.mem_univ, _root_.true_and, Finset.mem_insert, Fin.ext_iff]; omega
  rw [h, bigSep_insert (by simp)]; rfl
theorem Tail_zero (Φ : Fin N → sProp 𝕄) : Tail Φ 0 = bigSep Finset.univ Φ := by
  unfold Tail; rw [Finset.filter_true_of_mem fun _ _ => Nat.zero_le _]
theorem Head_all (Φ : Fin N → sProp 𝕄) : Head Φ N = bigSep Finset.univ Φ := by
  unfold Head; rw [Finset.filter_true_of_mem fun i _ => i.isLt]
theorem Head_zero (Φ : Fin N → sProp 𝕄) : Head Φ 0 = iprop(emp) := by
  unfold Head; rw [Finset.filter_false_of_mem fun _ _ => Nat.not_lt_zero _, bigSep_empty]; rfl

end Cert.KProof

end
-- ==== Proof.Steps.lean ====
/- One lemma for each kind of effect in the kernel's body, each taking what the device holds before the effect to what it holds
   after: a signal, the barrier wait, a transfer to another device, a wait on one of the protocol's cells, a local copy and
   its wait, a load, a store. -/
module

public import proofs.«01_k».proof.Proof.Common

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, and what every device knows of them -/

/-- The barrier cell and the fifty-six transfer cells of a device. -/
def kcell (p : Dev nD × Option (Fin 8 × Fin 7)) : GSem nD τ sig := match p.2 with
  | none => bar p.1
  | some (k, j) => cell p.1 k j
theorem dS_inj {k k' : Fin 8} {j j' : Fin 7} (h : dS k j = dS k' j') : k = k' ∧ j = j' :=
  ⟨by rw [← kindOf_dS k j, h, kindOf_dS], by rw [← offOf_dS k j, h, offOf_dS]⟩
theorem kcell_inj : Function.Injective kcell := by
  rintro ⟨c, o⟩ ⟨c', o'⟩ h
  cases o with
  | none => cases o' with
    | none =>
      have h1 : c = c' := congrArg (fun g : GSem nD τ sig => g.1.1) h
      rw [h1]
    | some q => exact absurd (congrArg (fun g : GSem nD τ sig => g.2) h) (by intro h2; cases h2)
  | some q => cases o' with
    | none => exact absurd (congrArg (fun g : GSem nD τ sig => g.2) h) (by intro h2; cases h2)
    | some q' =>
      have h1 : c = c' := congrArg (fun g : GSem nD τ sig => g.1.1) h
      have h2 : dS q.1 q.2 = dS q'.1 q'.2 := SemLoc.dma.inj (congrArg (fun g : GSem nD τ sig => g.2) h)
      obtain ⟨h3, h4⟩ := dS_inj h2
      rw [h1, Prod.ext h3 h4]
def allCells : Finset (GSem nD τ sig) := Finset.univ.map ⟨kcell, kcell_inj⟩
theorem bar_mem (c : Dev nD) : bar c ∈ allCells := Finset.mem_map.mpr ⟨(c, none), Finset.mem_univ _, rfl⟩
theorem cell_mem (c : Dev nD) (k : Fin 8) (j : Fin 7) : cell c k j ∈ allCells := Finset.mem_map.mpr ⟨(c, some (k, j)), Finset.mem_univ _, rfl⟩

variable (m : (ℓ : Loc nD τ sig) → Buf (Elt F) ℓ) (K : GSem nD τ sig → ℕ)

/-- Every cell's invariant, that every cell has reached its round, and the levels. -/
def ctx : sProp 𝕄 := iprop((bigSep allCells fun g => iprop(cellInv ER (Rd m) (K g) g ∗ reached ER g 0)) ∗ levAts L lv)
instance ctx_persistent : Persistent (ctx (F := F) m K) := by unfold ctx; infer_instance

theorem ctx_cell {g : GSem nD τ sig} (hg : g ∈ allCells) : (ctx m K : sProp 𝕄) ⊢ iprop(cellInv ER (Rd m) (K g) g ∗ reached ER g 0) := by
  have h : (bigSep allCells fun g => iprop(cellInv ER (Rd m) (K g) g ∗ reached ER g 0) : sProp 𝕄) ⊢ iprop(cellInv ER (Rd m) (K g) g ∗ reached ER g 0) :=
    bigSep_elim hg
  unfold ctx
  iintro ⟨H, -⟩
  iapply h $$ H
theorem ctx_lev : (ctx m K : sProp 𝕄) ⊢ levAts L lv := by
  unfold ctx
  iintro ⟨-, H⟩
  iexact H

/-- Device `c` owes `O`. -/
def owe (c : Dev nD) (O : CellTallies nD τ sig Unit) : sProp 𝕄 := iprop(∃ W, owes (c : Thread nD τ) O W)

abbrev 𝒱₀ : Variants := Variants.none
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD)

/-! ## The barrier -/

/-- What device `c` hands device `peer c j` at the barrier: the token of its duty there, and the blocks it lets it fill. -/
abbrev barB (j : Fin 7) : sProp 𝕄 := iprop(dutyTok (ER (F := F)) (bar (peer c j)) 0 j ∗ Lands c (peer c j))

theorem st_signal {α : Type} {Q : α → sProp 𝕄} (j : Fin 7) {n n' : ℕ} (hn : n = j.val) (hn' : n' = j.val + 1) {d : Dev nD} (hd : d = peer c j) {s : Sem sig} (hs : s = barS) {k' : ℕ} (hk : k' = 1)
    {nw nx na nq : ℕ} {k : PUnit → Prog (TpuEff nD τ sig (Elt F) Λ₀ .tc) α} :
    (ctx m K : sProp 𝕄) ⊢ iprop(owe c (Orem c n nw nx na nq) -∗ Tail (barB c) n
      -∗ (owe c (Orem c n' nw nx na nq) -∗ Tail (barB c) n' -∗ WP c (k ⟨⟩) Q)
      -∗ WP c (.op (.semSignal (Dev.tc d) s k') k) Q) := by
  subst hn hn' hd hs hk
  rw [Tail_step, Orem_b]
  iintro #HI HO HB Hk
  icases HB with ⟨⟨Htok, Hl⟩, HB⟩
  ihave #Hc := (ctx_cell m K (bar_mem (peer c j))) $$ HI
  icases Hc with ⟨#Hinv, #Hr⟩
  unfold owe
  icases HO with ⟨%W, HO⟩
  iapply (Rounds.wp_signal 𝒱₀ ER (Rd m) (c : Thread nD τ) none (dst := ((peer c j : Dev nD) : Thread nD τ)) (κ := K (bar (peer c j))) (d := j)
    (by rw [duties_bar]; exact Finset.mem_univ _) (amount_bar m (peer c j) j) () (Orem c (j.val + 1) nw nx na nq) rfl) $$ [HO Htok Hl]
  · isplitr; · iexact Hinv
    isplitl [HO]; · iexact HO
    isplitl [Htok]; · iexact Htok
    isplitl [Hl]; · rw [payload_bar, src_peer]; iexact Hl
    iexact Hr
  iintro HO
  iapply Hk $$ [HO] [HB]
  · iexists W; iexact HO
  · iexact HB

theorem st_barwait {α : Type} {Q : α → sProp 𝕄} {s : Sem sig} (hs : s = barS) {k' : ℕ} (hk : k' = 7) {k : PUnit → Prog (TpuEff nD τ sig (Elt F) Λ₀ .tc) α} :
    (ctx m K : sProp 𝕄) ⊢ iprop(owe c (Orem c 7 0 0 0 0) -∗ cred (tallyAt (bar c) () 7) -∗ atPos (ER (F := F)) (bar c) 0 ∅ 0
      -∗ (owe c (Orem c 7 0 0 0 0) -∗ semVal (bar c) 0 -∗ (bigSep Finset.univ fun j => Lands (F := F) (peer c j) c) -∗ WP c (k ⟨⟩) Q)
      -∗ WP c (.op (.semWait s k') k) Q) := by
  subst hs hk
  iintro #HI HO Hcr Hat Hk
  ihave #Hc := (ctx_cell m K (bar_mem c)) $$ HI
  icases Hc with ⟨#Hinv, #Hr⟩
  unfold owe
  icases HO with ⟨%W, HO⟩
  iapply (Rounds.wp_wait_rest_token 𝒱₀ ER (Rd m) (c : Thread nD τ) none (κ := K (bar c)) (sm := .reg barS)
      (wpE_semWait_eq 𝒱₀ (c : Thread nD τ) none Set.univ) (Set.mem_univ _) () (O := Orem c 7 0 0 0 0) (W := W) (R := 0) (m := 0) (T := ∅)
      (by rw [expect_bar])) $$ [Hcr HO Hat]
  · isplitr; · iexact Hinv
    isplitl [Hcr]; · iexact Hcr
    isplitl [HO]; · iexact HO
    isplitr
    · iapply (mayWait c (.reg barS) 1 7 0 0 0 0 le_rfl (by decide) (by decide) (by decide) (by decide) (by decide))
      iapply (ctx_lev m K) $$ HI
    iexact Hat
  iintro ⟨HO, Hat, -, Hp⟩
  imod (Rounds.cell_close ER (Rd m) (Set.mem_univ (K (bar c))) (fun h => h) (R := 0 + 1) (duties_later m (bar c))) $$ [Hat] with Hz
  · isplitr; · iexact Hinv
    iexact Hat
  iapply Hk $$ [HO] [Hz] [Hp]
  · iexists _; iexact HO
  · iexact Hz
  · ihave Hp := (Entails.of_eq (rest_bar m c)) $$ Hp
    rw [BI.bigSep_univ_equiv Fin.revPerm fun j => Lands (F := F) (peer c j) c]
    have h : (fun d => Lands (F := F) (src c d) c) = fun d => Lands (peer c (Fin.revPerm d)) c := funext fun d => by rw [src_eq_peer_rev]; rfl
    rw [h]; iexact Hp

/-! ## Transfers to another device -/

/-- A block held whole at its contents or at none in particular. -/
theorem owns_any {sp : Space} {s : Shape} {e : EltTy} (M : Memref sig .tc sp s e) (X : s.Idx → Elt F e) :
    owns (c : Thread nD τ) M fullShare X ⊢ any c M := by
  unfold any; exact ownsSat_intro (c : Thread nD τ) M fullShare trivial
theorem any_owns {sp : Space} {s : Shape} {e : EltTy} (M : Memref sig .tc sp s e) :
    (any c M : sProp 𝕄) ⊢ iprop(∃ X, owns (c : Thread nD τ) M fullShare X) := by
  unfold any
  exact (ownsSat_true (c : Thread nD τ) M fullShare).1

/-- What transfer `j` of a kind takes: the tokens of its two duties, a share of its source, the block it fills. -/
def snd (ks kr : Fin 8) {sp sp' : Space} {s : Shape} {e : EltTy} (S : Fin 7 → Memref sig .tc sp s e) (q : Fin 7 → PosShare TreeShare) (X : Fin 7 → s.Idx → Elt F e)
    (D : Memref sig .tc sp' s e) (j : Fin 7) : sProp 𝕄 :=
  iprop(dutyTok (ER (F := F)) (cell c ks j) 0 (0 : Fin 7) ∗ dutyTok (ER (F := F)) (cell (peer c j) kr j) 0 (0 : Fin 7)
    ∗ owns (c : Thread nD τ) (S j) (q j) (X j) ∗ any (peer c j) D)

/-- The wait tokens a transfer leaves with its sender. -/
abbrev crd (k : Fin 8) (j : Fin 7) : sProp 𝕄 := cred (tallyAt (cell c k j) () (NK k))

theorem st_send {α : Type} {Q : α → sProp 𝕄} (ks kr : Fin 8) (hK : NK ks = NK kr) (j : Fin 7) {sp sp' : Space} {s : Shape} {e : EltTy} {S : Fin 7 → Memref sig .tc sp s e} {q : Fin 7 → PosShare TreeShare}
    {X : Fin 7 → s.Idx → Elt F e} {D : Memref sig .tc sp' s e} {n n' : ℕ} (hn : n = j.val) (hn' : n' = j.val + 1)
    (hp1 : owns (c : Thread nD τ) (S j) (q j) (X j) ⊢ dpay m c ks j) (hp2 : owns ((peer c j : Dev nD) : Thread nD τ) D fullShare (X j) ⊢ dpay m (peer c j) kr j)
    {O O' : CellTallies nD τ sig Unit} (hO : O = O' + fK kr c j) (hN : D.view.dmaCredit = NK kr)
    {d : Dev nD} (hd : d = peer c j) {ms : Memref sig .tc sp s e} (hms : ms = S j) {sS sR : DmaSem sig} (hS : sS = dS ks j) (hR : sR = dS kr j)
    {hsc : (D : Memref sig (Dev.tc d : Thread nD τ).2.kind sp' s e).view.ref.isScScratch = false}
    {hsrc : ms.view.WordExact} {hdst : D.view.WordExact} {hsem : DmaTarget.Typed sp (.dma sR) (.remote (Dev.tc d : Thread nD τ) D (.dma sS) hsc)}
    {k : PUnit → Prog (TpuEff nD τ sig (Elt F) Λ₀ .tc) α} :
    (ctx m K : sProp 𝕄) ⊢ iprop(owe c O -∗ Tail (snd c ks kr S q X D) n -∗ Head (crd c ks) n
      -∗ (owe c O' -∗ Tail (snd c ks kr S q X D) n' -∗ Head (crd c ks) n' -∗ WP c (k ⟨⟩) Q)
      -∗ WP c (.op (.enqueueDma ms (.remote (Dev.tc d : Thread nD τ) D (.dma sS) hsc) (.dma sR) hsrc hdst hsem) k) Q) := by
  subst hn hn' hd hms hS hR
  rw [Tail_step, Head_step]
  unfold snd
  iintro #HI HO HT HC Hk
  icases HT with ⟨⟨Ht1, Ht2, Hs, Hd⟩, HT⟩
  ihave #Hc1 := (ctx_cell m K (cell_mem c ks j)) $$ HI
  icases Hc1 with ⟨#Hinv1, #Hr1⟩
  ihave #Hc2 := (ctx_cell m K (cell_mem (peer c j) kr j)) $$ HI
  icases Hc2 with ⟨#Hinv2, #Hr2⟩
  ihave Hd := (any_owns (peer c j) D) $$ Hd
  icases Hd with ⟨%Y, Hd⟩
  unfold owns
  icases Hs with ⟨%fs, %hfs, Hs⟩
  icases Hd with ⟨%fd, %hfd, Hd⟩
  unfold owe
  icases HO with ⟨%W, HO⟩
  iapply (Rounds.wp_send_pointsTo 𝒱₀ ER (Rd m) (c : Thread nD τ) none (κ₁ := K (cell c ks j)) (κ₂ := K (cell (peer c j) kr j))
    (sS := .dma (dS ks j)) (sem := .dma (dS kr j)) (r₁ := 0) (r₂ := 0) (d₁ := (0 : Fin 7)) (d₂ := (0 : Fin 7)) (q := q j) (fs := fs) (fd := fd)
    (by rw [duties_cell]; exact Finset.mem_singleton_self _) (by rw [duties_cell]; exact Finset.mem_singleton_self _)
    () () (NK kr) hN ((amount_cell m c ks j 0).trans hK) (amount_cell m (peer c j) kr j 0) O' hO (W := W)
    (by rw [payload_cell]; exact (owns_intro (c : Thread nD τ) (S j) (q j) fs).trans (by rw [hfs]; exact hp1))
    (by
      rw [payload_cell]
      refine (owns_intro ((peer c j : Dev nD) : Thread nD τ) D fullShare _).trans ?_
      rw [View.read_write_univ, hfs]; exact hp2)) $$ [HO Ht1 Ht2 Hs Hd]
  · isplitr; · iexact Hinv1
    isplitr; · iexact Hinv2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk $$ [HO] [HT] [HC Hcr]
  · iexists W; iexact HO
  · iexact HT
  · isplitl [Hcr]; · unfold crd; rw [hK]; iexact Hcr
    iexact HC

/-! ## Waits on the protocol's cells -/

/-- What a wait on cell `k, j` takes. -/
def wtk (k : Fin 8) (j : Fin 7) : sProp 𝕄 := iprop(crd c k j ∗ atPos (ER (F := F)) (cell c k j) 0 ∅ 0)

abbrev lvK : Fin 8 → ℕ := ![0, 2, 0, 2, 0, 3, 0, 4]
abbrev zro (k : Fin 8) (j : Fin 7) : sProp 𝕄 := semVal (cell c k j) 0

theorem st_wait {α : Type} {Q : α → sProp 𝕄} (kk : Fin 8) (j : Fin 7) {n n' : ℕ} (hn : n = j.val) (hn' : n' = j.val + 1) {na nq : ℕ} (ha : 7 ≤ na ∨ lvK kk < 3) (hq : 7 ≤ nq ∨ lvK kk < 4)
    {sm : DmaSem sig} (hs : sm = dS kk j) {sp sp' : Space} {s s' : Shape} {e e' : EltTy} {srcw : Memref sig .tc sp s e} {dstw : Memref sig .tc sp' s' e'}
    (hN : dstw.view.dmaCredit = NK kk) {hsrc : srcw.view.WordExact} {hdst : dstw.view.WordExact}
    {k : PUnit → Prog (TpuEff nD τ sig (Elt F) Λ₀ .tc) α} :
    (ctx m K : sProp 𝕄) ⊢ iprop(owe c (Orem c 7 7 7 na nq) -∗ Tail (wtk c kk) n -∗ Head (zro c kk) n
      -∗ (owe c (Orem c 7 7 7 na nq) -∗ Tail (wtk c kk) n' -∗ Head (zro c kk) n' -∗ dpay m c kk j -∗ WP c (k ⟨⟩) Q)
      -∗ WP c (.op (.waitDma2 sm srcw dstw hsrc hdst) k) Q) := by
  subst hn hn' hs
  rw [Tail_step, Head_step]
  unfold wtk
  iintro #HI HO HT HZ Hk
  icases HT with ⟨⟨Hcr, Hat⟩, HT⟩
  ihave #Hc := (ctx_cell m K (cell_mem c kk j)) $$ HI
  icases Hc with ⟨#Hinv, #Hr⟩
  unfold owe
  icases HO with ⟨%W, HO⟩
  iapply (Rounds.wp_wait_rest_token 𝒱₀ ER (Rd m) (c : Thread nD τ) none (κ := K (cell c kk j)) (sm := .dma (dS kk j))
      (wpE_waitDma2_eq 𝒱₀ (c : Thread nD τ) none Set.univ) (Set.mem_univ _) () (O := Orem c 7 7 7 na nq) (W := W) (R := 0) (m := 0) (T := ∅)
      (by rw [expect_cell, Nat.zero_add]; exact hN)) $$ [Hcr HO Hat]
  · isplitr; · iexact Hinv
    isplitl [Hcr]; · rw [hN]; iexact Hcr
    isplitl [HO]; · iexact HO
    isplitr
    · iapply (mayWait c (.dma (dS kk j)) (lvK kk) 7 7 7 na nq (lv_cell c kk j).le (.inl le_rfl) (.inl le_rfl) (.inl le_rfl) ha hq)
      iapply (ctx_lev m K) $$ HI
    iexact Hat
  iintro ⟨HO, Hat, -, Hp⟩
  imod (Rounds.cell_close ER (Rd m) (Set.mem_univ (K (cell c kk j))) (fun h => h) (R := 0 + 1) (duties_later m (cell c kk j))) $$ [Hat] with Hz
  · isplitr; · iexact Hinv
    iexact Hat
  iapply Hk $$ [HO] [HT] [HZ Hz] [Hp]
  · iexists _; iexact HO
  · iexact HT
  · isplitl [Hz]; · iexact Hz
    iexact HZ
  · iapply (Entails.of_eq (rest_cell m c kk j)) $$ Hp

/-! ## Local copies -/

/-- A copy under way on semaphore `s`, which will give `A`. -/
def Fl (s : DmaSem sig) (N : ℕ) (A : sProp 𝕄) : sProp 𝕄 :=
  iprop(∃ D : sProp 𝕄, Transfers.Flight (countersEmb (U := UU)) (c : Thread nD τ) (.dma s) () N D ∗ (D -∗ A))

theorem st_copy {α : Type} {Q : α → sProp 𝕄} (sm : DmaSem sig) {sp sp' : Space} {s : Shape} {e : EltTy} (S : Memref sig .tc sp s e) (D : Memref sig .tc sp' s e) {q : PosShare TreeShare} {X : s.Idx → Elt F e}
    {N : ℕ} (hN : D.view.dmaCredit = N) (hN0 : 0 < N) {ms : Memref sig .tc sp s e} (hms : ms = S) {md : Memref sig .tc sp' s e} (hmd : md = D) {sm' : DmaSem sig} (hsm : sm' = sm)
    {hsrc : ms.view.WordExact} {hdst : md.view.WordExact} {hsem : DmaTarget.Typed (nD := nD) (τ := τ) (p := Proc.tc) sp (.dma sm') (.here md)}
    {k : PUnit → Prog (TpuEff nD τ sig (Elt F) Λ₀ .tc) α} :
    owns (c : Thread nD τ) S q X ⊢ iprop(any c D -∗ semVal ((c : Thread nD τ), .dma sm) 0
      -∗ (Fl c sm N iprop(owns (c : Thread nD τ) D fullShare X ∗ owns (c : Thread nD τ) S q X) -∗ WP c (k ⟨⟩) Q)
      -∗ WP c (.op (.enqueueDma ms (.here md) (.dma sm') hsrc hdst hsem) k) Q) := by
  subst hms hmd hsm
  iintro Hs Hd Hz Hk
  ihave Hd := (any_owns c md) $$ Hd
  icases Hd with ⟨%Y, Hd⟩
  unfold owns
  icases Hs with ⟨%fs, %hfs, Hs⟩
  icases Hd with ⟨%fd, %hfd, Hd⟩
  iapply (Transfers.wp_dmaLocal (countersEmb (U := UU)) 𝒱₀ (c : Thread nD τ) none (via := .same) (sm := .dma sm') (fs := fs) (fd := fd) (Sd := md.view.set) () N hN hN0 (Finset.Subset.refl _)) $$ [Hs Hd Hz]
  · isplitl [Hs]; · iexact Hs
    isplitl [Hd]; · iexact Hd
    iexact Hz
  iintro Hf
  iapply Hk
  unfold Fl
  iexists _
  isplitl [Hf]; · iexact Hf
  iintro ⟨Hd, Hs⟩
  isplitl [Hd]
  · iexists _
    isplitr
    rotate_left
    · iexact Hd
    · ipureintro
      rw [View.read_write_univ]; exact hfs
  · iexists fs
    isplitr
    · ipureintro; exact hfs
    · iexact Hs

theorem Fl_mono (s : DmaSem sig) (N : ℕ) {A B : sProp 𝕄} (h : A ⊢ B) : Fl c s N A ⊢ Fl c s N B := by
  unfold Fl
  iintro ⟨%D, Hf, Hd⟩
  iexists D
  isplitl [Hf]; · iexact Hf
  iintro H
  iapply h
  iapply Hd $$ H

theorem lv_low (s : DmaSem sig) (h : s.val < 5) : lv ((c : Thread nD τ), .dma s) () ≤ 0 := by
  show (if 5 ≤ s.val then _ else 0) ≤ 0
  rw [if_neg (by omega)]

theorem st_copywait {α : Type} {Q : α → sProp 𝕄} (sm : DmaSem sig) (h5 : sm.val < 5) {na nq N : ℕ} {A : sProp 𝕄} {sm' : DmaSem sig} (hsm : sm' = sm)
    {sp sp' : Space} {s s' : Shape} {e e' : EltTy} {srcw : Memref sig .tc sp s e} {dstw : Memref sig .tc sp' s' e'}
    (hN : dstw.view.dmaCredit = N) {hsrc : srcw.view.WordExact} {hdst : dstw.view.WordExact}
    {k : PUnit → Prog (TpuEff nD τ sig (Elt F) Λ₀ .tc) α} :
    (ctx m K : sProp 𝕄) ⊢ iprop(owe c (Orem c 7 7 7 na nq) -∗ Fl c sm N A
      -∗ (owe c (Orem c 7 7 7 na nq) -∗ A -∗ semVal ((c : Thread nD τ), .dma sm) 0 -∗ WP c (k ⟨⟩) Q)
      -∗ WP c (.op (.waitDma2 sm' srcw dstw hsrc hdst) k) Q) := by
  subst hsm
  iintro #HI HO HF Hk
  unfold owe Fl
  icases HO with ⟨%W, HO⟩
  icases HF with ⟨%D, Hf, Hd⟩
  iapply (Transfers.wp_waitLocalO (countersEmb (U := UU)) 𝒱₀ (c : Thread nD τ) none (sem := sm') () hN (O := Orem c 7 7 7 na nq) (W := W)) $$ [Hf HO]
  · isplitl [Hf]; · iexact Hf
    isplitl [HO]; · iexact HO
    iapply (mayWait c (.dma sm') 0 7 7 7 na nq (lv_low c sm' h5) (.inr (by decide)) (.inr (by decide)) (.inr (by decide)) (.inr (by decide)) (.inr (by decide)))
    iapply (ctx_lev m K) $$ HI
  iintro ⟨HD, Hz, HO⟩
  iapply Hk $$ [HO] [Hd HD] [Hz]
  · iexists _; iexact HO
  · iapply Hd $$ HD
  · iexact Hz

/-! ## Loads and stores -/

/-- A load of a rectangle of a memref whose contents are known. -/
theorem st_load {α : Type} {Q : α → sProp 𝕄} {cs : CoreSpace} {s : Shape} {e : EltTy} {M : Memref sig .tc cs s e} {q : PosShare TreeShare} {X : s.Idx → Elt F e} {r : Rect s}
    {hl : M.view.LoadsAt r.toLoadRect} {k : (r.shape.Idx → Elt F e) → Prog (TpuEff nD τ sig (Elt F) Λ₀ .tc) α} :
    owns (c : Thread nD τ) M q X ⊢ iprop((owns (c : Thread nD τ) M q X -∗ WP c (k (fun x => X (r.emb x))) Q) -∗ WP c (.op (.load M r.toLoadRect hl) k) Q) := by
  unfold owns
  iintro ⟨%f, %hf, H⟩ Hk
  iapply (wp_load_rect 𝒱₀ (c : Thread nD τ) none Set.univ (m := M) (r := r) (S := M.view.set) (q := q) (f := f)
    (by rw [View.set_slice]; exact Finset.map_subset_map.mpr (Finset.subset_univ _))) $$ H
  iintro H
  subst hf
  iapply Hk
  iexists f
  isplitr
  · ipureintro; rfl
  · iexact H

/-- A load of a whole memref. -/
theorem st_loadZ {α : Type} {Q : α → sProp 𝕄} {cs : CoreSpace} {s : Shape} {e : EltTy} {M : Memref sig .tc cs s e} {q : PosShare TreeShare} {X : s.Idx → Elt F e} {off : Fin s.rank → ℕ} (h0 : off = fun _ => 0)
    {inb : ∀ a, off a + s.size a ≤ s.size a}
    {hl : M.view.LoadsAt (Rect.unit off s.size inb).toLoadRect} {k : ((Rect.unit off s.size inb).shape.Idx → Elt F e) → Prog (TpuEff nD τ sig (Elt F) Λ₀ .tc) α} :
    owns (c : Thread nD τ) M q X ⊢ iprop((owns (c : Thread nD τ) M q X -∗ WP c (k X) Q) -∗ WP c (.op (.load M (Rect.unit off s.size inb).toLoadRect hl) k) Q) := by
  subst h0
  refine (st_load (Q := Q) c (M := M) (q := q) (X := X) (hl := hl) (k := k)).trans (Entails.of_eq ?_)
  have h : (fun x => X ((Rect.unit (fun _ => 0) s.size inb).emb x)) = X := funext fun x => congrArg X (Rect.emb_whole_apply s x)
  rw [h]

/-- A load through the rectangle of a slice that is held. -/
theorem st_loadS {α : Type} {Q : α → sProp 𝕄} {cs : CoreSpace} {s : Shape} {e : EltTy} {M : Memref sig .tc cs s e} {q : PosShare TreeShare} {r : Rect s} {hr : ∀ a, r.stride a = 1}
    {X : r.shape.Idx → Elt F e} {Mr : Memref sig .tc cs r.shape e} (hM : M.slice r hr = Mr)
    {hl : M.view.LoadsAt r.toLoadRect} {k : (r.shape.Idx → Elt F e) → Prog (TpuEff nD τ sig (Elt F) Λ₀ .tc) α} :
    owns (c : Thread nD τ) Mr q X ⊢ iprop((owns (c : Thread nD τ) Mr q X -∗ WP c (k X) Q) -∗ WP c (.op (.load M r.toLoadRect hl) k) Q) := by
  subst hM
  unfold owns
  iintro ⟨%f, %hf, H⟩ Hk
  iapply (wp_load_rect 𝒱₀ (c : Thread nD τ) none Set.univ (m := M) (r := r) (S := (M.access r).set) (q := q) (f := f) (Finset.Subset.refl _)) $$ H
  iintro H
  subst hf
  iapply Hk
  iexists f
  isplitr
  · ipureintro; rfl
  · iexact H

/-- A store to a slice that is held. -/
theorem st_storeS {α : Type} {Q : α → sProp 𝕄} {cs : CoreSpace} {s : Shape} {e : EltTy} {M : Memref sig .tc cs s e} {r : Rect s} {hr : ∀ a, r.stride a = 1}
    {X w : r.shape.Idx → Elt F e} {Mr : Memref sig .tc cs r.shape e} (hM : M.slice r hr = Mr)
    {hx : (M.access r).Stores Finset.univ} {hm : (Finset.univ : Finset r.shape.Idx) = Finset.univ ∨ ∀ a, r.stride a = 1} {k : PUnit → Prog (TpuEff nD τ sig (Elt F) Λ₀ .tc) α} :
    owns (c : Thread nD τ) Mr fullShare X ⊢ iprop((owns (c : Thread nD τ) Mr fullShare w -∗ WP c (k ⟨⟩) Q) -∗ WP c (.op (.store M r w Finset.univ hx hm) k) Q) := by
  subst hM
  unfold owns
  iintro ⟨%f, %hf, H⟩ Hk
  iapply (wp_store 𝒱₀ (c : Thread nD τ) none Set.univ (m := M) (r := r) (w := w) (Mk := Finset.univ) (S := (M.access r).set) (f := f) (Finset.Subset.refl _)) $$ H
  iintro H
  iapply Hk
  iexists _
  isplitr
  rotate_left
  · iexact H
  · ipureintro
    exact View.read_write_univ _ _

/-- A store to a whole memref. -/
theorem st_storeZ {α : Type} {Q : α → sProp 𝕄} {cs : CoreSpace} {s : Shape} {e : EltTy} {M : Memref sig .tc cs s e} {X w : s.Idx → Elt F e} {off : Fin s.rank → ℕ} (h0 : off = fun _ => 0)
    {inb : ∀ a, off a + s.size a ≤ s.size a}
    {hx : (M.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) α} :
    owns (c : Thread nD τ) M fullShare X ⊢ iprop((owns (c : Thread nD τ) M fullShare w -∗ WP c (k ⟨⟩) Q) -∗ WP c (.op (.store M (Rect.unit off s.size inb) w Finset.univ hx hm) k) Q) := by
  subst h0
  unfold owns
  iintro ⟨%f, %hf, H⟩ Hk
  iapply (wp_store 𝒱₀ (c : Thread nD τ) none Set.univ (m := M) (r := Rect.unit (fun _ => 0) s.size inb) (w := w) (Mk := Finset.univ) (S := M.view.set) (f := f)
    (by rw [View.setOn_univ, View.set_slice]; exact Finset.map_subset_map.mpr (Finset.subset_univ _))) $$ H
  iintro H
  iapply Hk
  iexists _
  isplitr
  rotate_left
  · iexact H
  · ipureintro
    have h := View.read_write_univ (v := M.access (Rect.unit (fun _ => 0) s.size inb)) (Val := Elt F) f w
    refine Eq.trans ?_ h
    funext x
    exact congrArg (fun i => M.view.read (Elt F) ((M.access (Rect.unit (fun _ => 0) s.size inb)).write (Elt F) f w Finset.univ) i) (Rect.emb_whole_apply s x).symm

/-- A memref's elements under another shape. -/
theorem owns_squeeze {sp : Space} {s s' : Shape} {e : EltTy} (M : Memref sig .tc sp s e) (h : s.Squeezes s') (q : PosShare TreeShare) (X : s.Idx → Elt F e) :
    (owns (c : Thread nD τ) M q X : sProp 𝕄) ⊢ owns (c : Thread nD τ) (M.squeeze s' h) q (fun j => X (Shape.reshapeEquiv h.numel_eq j)) := by
  unfold owns
  rw [Memref.view_squeeze, View.set_reshape]
  iintro ⟨%f, %hf, H⟩
  iexists f
  isplitr
  · ipureintro; subst hf; rfl
  · iexact H
theorem squeeze_any {sp : Space} {s s' : Shape} {e : EltTy} (M : Memref sig .tc sp s e) (h : s.Squeezes s') (X : s'.Idx → Elt F e) :
    owns (c : Thread nD τ) (M.squeeze s' h) fullShare X ⊢ any c M := by
  unfold owns any ownsSat
  rw [Memref.view_squeeze, View.set_reshape]
  iintro ⟨%f, %hf, H⟩
  iexists f
  isplitr
  · ipureintro; trivial
  · iexact H

/-- A copy out of a slot that is held under a shape with a unit axis. -/
theorem st_copyOut {α : Type} {Q : α → sProp 𝕄} (sm : DmaSem sig) {sp sp' : Space} {s s' : Shape} {e : EltTy} (S : Memref sig .tc sp s e) (h : s.Squeezes s') (D : Memref sig .tc sp' s' e) {X : s.Idx → Elt F e}
    {N : ℕ} (hN : D.view.dmaCredit = N) (hN0 : 0 < N) {ms : Memref sig .tc sp s' e} (hms : ms = S.squeeze s' h) {md : Memref sig .tc sp' s' e} (hmd : md = D) {sm' : DmaSem sig} (hsm : sm' = sm)
    {hsrc : ms.view.WordExact} {hdst : md.view.WordExact} {hsem : DmaTarget.Typed (nD := nD) (τ := τ) (p := Proc.tc) sp (.dma sm') (.here md)}
    {k : PUnit → Prog (TpuEff nD τ sig (Elt F) Λ₀ .tc) α} :
    owns (c : Thread nD τ) S fullShare X ⊢ iprop(any c D -∗ semVal ((c : Thread nD τ), .dma sm) 0
      -∗ (Fl c sm N iprop(owns (c : Thread nD τ) D fullShare (fun j => X (Shape.reshapeEquiv h.numel_eq j)) ∗ any c S) -∗ WP c (k ⟨⟩) Q)
      -∗ WP c (.op (.enqueueDma ms (.here md) (.dma sm') hsrc hdst hsem) k) Q) := by
  refine (owns_squeeze c S h fullShare X).trans ?_
  iintro Hs Hd Hz Hk
  iapply (st_copy c sm (S.squeeze s' h) D hN hN0 hms hmd hsm) $$ Hs Hd Hz
  iintro Hf
  iapply Hk
  iapply (Fl_mono c sm N (sep_mono_right (squeeze_any c S h _))) $$ Hf

end Steps

end Cert.KProof
-- ==== Proof.Moves.lean ====
/- The steps of the body in the terms the run keeps its books in: one name for each thing a device holds at a stage, and one
   lemma for each move between stages. -/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## What a device holds at each stage, by name -/

/-- Semaphore `i` of device `c` at zero. -/
abbrev sem0 (i : DmaSem sig) : sProp 𝕄 := semVal ((c : Thread nD τ), .dma i) 0

abbrev SB (n : ℕ) : sProp 𝕄 := Tail (barB (F := F) c) n

def SW (n : ℕ) : sProp 𝕄 := iprop(Tail (snd c 2 3 (fun j => wR (peer c j)) (fun j => Transfers.shareTok fullShare 8 j.castSucc) (fun j => wb m (peer c j) c) (wgB c)) n ∗ Head (crd c 2) n)
def SX (n : ℕ) : sProp 𝕄 := iprop(Tail (snd c 0 1 (fun j => xR (peer c j)) (fun j => Transfers.shareTok fullShare 8 j.castSucc) (fun j => xb m (peer c j) c) (xgB c)) n ∗ Head (crd c 0) n)
def SA (n : ℕ) : sProp 𝕄 := iprop(Tail (snd c 4 5 (fun _ => amB c) (fun j => Transfers.shareTok fullShare 7 j) (fun _ => am m c) (amB c)) n ∗ Head (crd c 4) n)
def SQ (n : ℕ) : sProp 𝕄 := iprop(Tail (snd c 6 7 (fun _ => bQ) (fun j => Transfers.shareTok fullShare 7 j) (fun _ => qv m c) (qgB c)) n ∗ Head (crd c 6) n)
/-- The waits left on array `k`, and its semaphores already back at zero. -/
def RC (k : Fin 8) (n : ℕ) : sProp 𝕄 := iprop(Tail (wtk (F := F) c k) n ∗ Head (zro c k) n)
/-- What the first `n` waits on array `k` gave. -/
def GA (k : Fin 8) (n : ℕ) : sProp 𝕄 := Head (dpay m c k) n

def GX (s : Dev nD) : sProp 𝕄 := owns (c : Thread nD τ) (xgB s) fullShare (xb m c s)
def GW (s : Dev nD) : sProp 𝕄 := owns (c : Thread nD τ) (wgB s) fullShare (wb m c s)
def GQ (s : Dev nD) : sProp 𝕄 := owns (c : Thread nD τ) (qgB s) fullShare (qv m s)
def GX0 : sProp 𝕄 := owns (c : Thread nD τ) (xR c) (Transfers.shareTok fullShare 8 7) (xb m c c)
def GW0 : sProp 𝕄 := owns (c : Thread nD τ) (wR c) (Transfers.shareTok fullShare 8 7) (wb m c c)

abbrev CX : DmaSem sig := ⟨1, by decide⟩
abbrev CW : DmaSem sig := ⟨2, by decide⟩
abbrev CO (h : Fin 2) : DmaSem sig := ⟨3 + h.val, by have := h.isLt; show _ < 61; omega⟩

/-- A local buffer idle, being filled with `X`, filled with `X`; `i` is the semaphore of the copy. -/
def Idle {s : Shape} {e : EltTy} (M : Memref sig .tc .vmem s e) (i : DmaSem sig) : sProp 𝕄 := iprop(any c M ∗ sem0 c i)
def Going {s : Shape} {e : EltTy} (M : Memref sig .tc .vmem s e) (i : DmaSem sig) (X : s.Idx → Elt F e) : sProp 𝕄 :=
  Fl c i M.view.dmaCredit (owns (c : Thread nD τ) M fullShare X)
def Full {s : Shape} {e : EltTy} (M : Memref sig .tc .vmem s e) (i : DmaSem sig) (X : s.Idx → Elt F e) : sProp 𝕄 :=
  iprop(owns (c : Thread nD τ) M fullShare X ∗ sem0 c i)

abbrev YA : sProp 𝕄 := any (F := F) c bY
abbrev YD (n : ℕ) : sProp 𝕄 := owns (c : Thread nD τ) bY fullShare (Yacc m c n)
/-- This device's row of the table of maxima, and its quantised tile, less the shares lent to transfers. -/
def AMo : sProp 𝕄 := owns (c : Thread nD τ) (amB c) (Transfers.shareDrop fullShare 7) (am m c)
def QMo : sProp 𝕄 := owns (c : Thread nD τ) bQ (Transfers.shareDrop fullShare 7) (qv m c)

theorem stV_inb (h : Fin 2) : ∀ a, (![h.val, 0, 0] : Fin 3 → ℕ) a + S1x2048x1024.size a ≤ S2x2048x1024.size a := by revert h; decide
/-- Slot `h` of the staging buffer of results. -/
abbrev stV (h : Fin 2) : Memref sig .tc .vmem S1x2048x1024 .bf16 :=
  bS.slice (Rect.unit (s := S2x2048x1024) ![h.val, 0, 0] S1x2048x1024.size (stV_inb h)) (fun _ => rfl)

theorem half_inb (h : Fin 2) : ∀ a, (![0, 1024 * h.val] : Fin 2 → ℕ) a + S2048x1024.size a ≤ S2048x2048.size a := by revert h; decide
/-- Half `h` of device `s`'s quantised tile. -/
def hv (s : Dev nD) (h : Fin 2) : FVec F S2048x1024 .fp8e4m3 := fun x => qv m s ((Rect.unit (s := S2048x2048) ![0, 1024 * h.val] S2048x1024.size (half_inb h)).emb x)
/-- Half `h` of device `s`'s tile of the result, as it is staged and as it is written. -/
def sv (s : Dev nD) (h : Fin 2) : FVec F S1x2048x1024 .bf16 := k0_pay13 (scl m) (hv m s h)
def ov (s : Dev nD) (h : Fin 2) : FVec F S2048x1024 .bf16 := fun j => sv m s h (Shape.reshapeEquiv squeezes_S1x2048x1024_S2048x1024.numel_eq j)

/-- The results' blocks still to be written, in the order they are, and those written. -/
def OT (h : Fin 2) (n : ℕ) : sProp 𝕄 := Tail (fun J : Fin 8 => any (F := F) c (outB (back c J.val) h)) n
def OD (h : Fin 2) (n : ℕ) : sProp 𝕄 := Head (fun J : Fin 8 => owns (c : Thread nD τ) (outB (back c J.val) h) fullShare (ov m (back c J.val) h)) n
abbrev NO : ℕ := (outB 0 0).view.dmaCredit
theorem NO_pos : 0 < NO := View.dmaCredit_pos _ (by decide)
def FO (h : Fin 2) (s : Dev nD) : sProp 𝕄 := Fl c (CO h) NO iprop(owns (c : Thread nD τ) (outB s h) fullShare (ov m s h) ∗ any c (stV h))

theorem full_idle {s : Shape} {e : EltTy} {M : Memref sig .tc .vmem s e} {i : DmaSem sig} {X : s.Idx → Elt F e} : Full c M i X ⊢ Idle c M i := by
  unfold Full Idle
  iintro ⟨H, Hz⟩
  isplitl [H]
  · iapply (owns_any c M X) $$ H
  · iexact Hz

/-! ## The transfers -/

/-- A transfer to `peer c j` makes the payload of its receive cell there. -/
theorem pay_w (j : Fin 7) : owns ((peer c j : Dev nD) : Thread nD τ) (wgB c) fullShare (wb m (peer c j) c) ⊢ dpay m (peer c j) 3 j := by
  unfold dpay; rw [src_peer]
theorem pay_x (j : Fin 7) : owns ((peer c j : Dev nD) : Thread nD τ) (xgB c) fullShare (xb m (peer c j) c) ⊢ dpay m (peer c j) 1 j := by
  unfold dpay; rw [src_peer]
theorem pay_a (j : Fin 7) : owns ((peer c j : Dev nD) : Thread nD τ) (amB c) fullShare (am m c) ⊢ dpay m (peer c j) 5 j := by
  unfold dpay; rw [src_peer]
theorem pay_q (j : Fin 7) : owns ((peer c j : Dev nD) : Thread nD τ) (qgB c) fullShare (qv m c) ⊢ dpay m (peer c j) 7 j := by
  unfold dpay; rw [src_peer]

theorem st_sendW {α : Type} {Q : α → sProp 𝕄} (j : Fin 7) {n n' : ℕ} (hn : n = j.val) (hn' : n' = j.val + 1) {nb nx na nq : ℕ}
    {d : Dev nD} (hd : d = peer c j) {ms : Memref sig .tc .hbm S512x2048 .bf16} (hms : ms = wR (peer c j)) {sS sR : DmaSem sig} (hS : sS = dS 2 j) (hR : sR = dS 3 j)
    {hsc : (wgB c : Memref sig (Dev.tc d : Thread nD τ).2.kind .hbm S512x2048 .bf16).view.ref.isScScratch = false}
    {hsrc : ms.view.WordExact} {hdst : (wgB c).view.WordExact} {hsem : DmaTarget.Typed .hbm (.dma sR) (.remote (Dev.tc d : Thread nD τ) (wgB c) (.dma sS) hsc)}
    {k : PUnit → Prog (TpuEff nD τ sig (Elt F) Λ₀ .tc) α} :
    (ctx m K : sProp 𝕄) ⊢ iprop(owe c (Orem c nb n nx na nq) -∗ SW m c n -∗ (owe c (Orem c nb n' nx na nq) -∗ SW m c n' -∗ WP c (k ⟨⟩) Q)
      -∗ WP c (.op (.enqueueDma ms (.remote (Dev.tc d : Thread nD τ) (wgB c) (.dma sS) hsc) (.dma sR) hsrc hdst hsem) k) Q) := by
  subst hn hn'
  unfold SW
  iintro #HI HO HS Hk
  icases HS with ⟨HT, HC⟩
  iapply (st_send m K c 2 3 rfl j (S := fun j => wR (peer c j)) (q := fun j => Transfers.shareTok fullShare 8 j.castSucc) (X := fun j => wb m (peer c j) c) (D := wgB c) rfl rfl Laws.affine (pay_w m c j) (Orem_w c j nb nx na nq) rfl hd hms hS hR) $$ HI HO HT HC
  iintro HO HT HC
  iapply Hk $$ HO
  isplitl [HT]; · iexact HT
  iexact HC

theorem st_sendX {α : Type} {Q : α → sProp 𝕄} (j : Fin 7) {n n' : ℕ} (hn : n = j.val) (hn' : n' = j.val + 1) {nb nw na nq : ℕ}
    {d : Dev nD} (hd : d = peer c j) {ms : Memref sig .tc .hbm S2048x512 .bf16} (hms : ms = xR (peer c j)) {sS sR : DmaSem sig} (hS : sS = dS 0 j) (hR : sR = dS 1 j)
    {hsc : (xgB c : Memref sig (Dev.tc d : Thread nD τ).2.kind .hbm S2048x512 .bf16).view.ref.isScScratch = false}
    {hsrc : ms.view.WordExact} {hdst : (xgB c).view.WordExact} {hsem : DmaTarget.Typed .hbm (.dma sR) (.remote (Dev.tc d : Thread nD τ) (xgB c) (.dma sS) hsc)}
    {k : PUnit → Prog (TpuEff nD τ sig (Elt F) Λ₀ .tc) α} :
    (ctx m K : sProp 𝕄) ⊢ iprop(owe c (Orem c nb nw n na nq) -∗ SX m c n -∗ (owe c (Orem c nb nw n' na nq) -∗ SX m c n' -∗ WP c (k ⟨⟩) Q)
      -∗ WP c (.op (.enqueueDma ms (.remote (Dev.tc d : Thread nD τ) (xgB c) (.dma sS) hsc) (.dma sR) hsrc hdst hsem) k) Q) := by
  subst hn hn'
  unfold SX
  iintro #HI HO HS Hk
  icases HS with ⟨HT, HC⟩
  iapply (st_send m K c 0 1 rfl j (S := fun j => xR (peer c j)) (q := fun j => Transfers.shareTok fullShare 8 j.castSucc) (X := fun j => xb m (peer c j) c) (D := xgB c) rfl rfl Laws.affine (pay_x m c j) (Orem_x c j nb nw na nq) rfl hd hms hS hR) $$ HI HO HT HC
  iintro HO HT HC
  iapply Hk $$ HO
  isplitl [HT]; · iexact HT
  iexact HC

theorem st_sendA {α : Type} {Q : α → sProp 𝕄} (j : Fin 7) {n n' : ℕ} (hn : n = j.val) (hn' : n' = j.val + 1) {nb nw nx nq : ℕ}
    {d : Dev nD} (hd : d = peer c j) {sS sR : DmaSem sig} (hS : sS = dS 4 j) (hR : sR = dS 5 j)
    {hsc : (amB c : Memref sig (Dev.tc d : Thread nD τ).2.kind .vmem S1x128 .f32).view.ref.isScScratch = false}
    {hsrc : (amB c).view.WordExact} {hdst : (amB c).view.WordExact} {hsem : DmaTarget.Typed .vmem (.dma sR) (.remote (Dev.tc d : Thread nD τ) (amB c) (.dma sS) hsc)}
    {k : PUnit → Prog (TpuEff nD τ sig (Elt F) Λ₀ .tc) α} :
    (ctx m K : sProp 𝕄) ⊢ iprop(owe c (Orem c nb nw nx n nq) -∗ SA m c n -∗ (owe c (Orem c nb nw nx n' nq) -∗ SA m c n' -∗ WP c (k ⟨⟩) Q)
      -∗ WP c (.op (.enqueueDma (amB c) (.remote (Dev.tc d : Thread nD τ) (amB c) (.dma sS) hsc) (.dma sR) hsrc hdst hsem) k) Q) := by
  subst hn hn'
  unfold SA
  iintro #HI HO HS Hk
  icases HS with ⟨HT, HC⟩
  iapply (st_send m K c 4 5 rfl j (S := fun _ => amB c) (q := fun j => Transfers.shareTok fullShare 7 j) (X := fun _ => am m c) (D := amB c) rfl rfl (Entails.of_eq rfl) (pay_a m c j) (Orem_a c j nb nw nx nq) rfl hd rfl hS hR) $$ HI HO HT HC
  iintro HO HT HC
  iapply Hk $$ HO
  isplitl [HT]; · iexact HT
  iexact HC

theorem st_sendQ {α : Type} {Q : α → sProp 𝕄} (j : Fin 7) {n n' : ℕ} (hn : n = j.val) (hn' : n' = j.val + 1) {nb nw nx na : ℕ}
    {d : Dev nD} (hd : d = peer c j) {sS sR : DmaSem sig} (hS : sS = dS 6 j) (hR : sR = dS 7 j)
    {hsc : (qgB c : Memref sig (Dev.tc d : Thread nD τ).2.kind .hbm S2048x2048 .fp8e4m3).view.ref.isScScratch = false}
    {hsrc : bQ.view.WordExact} {hdst : (qgB c).view.WordExact} {hsem : DmaTarget.Typed .vmem (.dma sR) (.remote (Dev.tc d : Thread nD τ) (qgB c) (.dma sS) hsc)}
    {k : PUnit → Prog (TpuEff nD τ sig (Elt F) Λ₀ .tc) α} :
    (ctx m K : sProp 𝕄) ⊢ iprop(owe c (Orem c nb nw nx na n) -∗ SQ m c n -∗ (owe c (Orem c nb nw nx na n') -∗ SQ m c n' -∗ WP c (k ⟨⟩) Q)
      -∗ WP c (.op (.enqueueDma bQ (.remote (Dev.tc d : Thread nD τ) (qgB c) (.dma sS) hsc) (.dma sR) hsrc hdst hsem) k) Q) := by
  subst hn hn'
  unfold SQ
  iintro #HI HO HS Hk
  icases HS with ⟨HT, HC⟩
  iapply (st_send m K c 6 7 rfl j (S := fun _ => bQ) (q := fun j => Transfers.shareTok fullShare 7 j) (X := fun _ => qv m c) (D := qgB c) rfl rfl (Entails.of_eq rfl) (pay_q m c j) (Orem_q c j nb nw nx na) rfl hd rfl hS hR) $$ HI HO HT HC
  iintro HO HT HC
  iapply Hk $$ HO
  isplitl [HT]; · iexact HT
  iexact HC

/-! ## Waits -/

section Waits
variable {α : Type} (j : Fin 7) {n n' : ℕ} (hn : n = j.val) (hn' : n' = j.val + 1) {na nq : ℕ}
    {sp sp' : Space} {s s' : Shape} {e e' : EltTy} {srcw : Memref sig .tc sp s e} {dstw : Memref sig .tc sp' s' e'}
    {hsrc : srcw.view.WordExact} {hdst : dstw.view.WordExact} {k : PUnit → Prog (TpuEff nD τ sig (Elt F) Λ₀ .tc) α} {sm : DmaSem sig}

include hn hn' in
theorem st_recv {Q : α → sProp 𝕄} (kk : Fin 8) (ha : 7 ≤ na ∨ lvK kk < 3) (hq : 7 ≤ nq ∨ lvK kk < 4) (hs : sm = dS kk j) (hN : dstw.view.dmaCredit = NK kk) {P : sProp 𝕄} (hP : dpay m c kk j ⊢ P) :
    (ctx m K : sProp 𝕄) ⊢ iprop(owe c (Orem c 7 7 7 na nq) -∗ RC c kk n -∗ (owe c (Orem c 7 7 7 na nq) -∗ RC c kk n' -∗ P -∗ WP c (k ⟨⟩) Q)
      -∗ WP c (.op (.waitDma2 sm srcw dstw hsrc hdst) k) Q) := by
  unfold RC
  iintro #HI HO HR Hk
  icases HR with ⟨HT, HZ⟩
  iapply (st_wait m K c kk j hn hn' ha hq hs hN) $$ HI HO HT HZ
  iintro HO HT HZ HP
  iapply Hk $$ HO [HT HZ] [HP]
  · isplitl [HT]; · iexact HT
    iexact HZ
  · iapply hP $$ HP

include hn hn' in
theorem st_recvX {Q : α → sProp 𝕄} (hs : sm = dS 1 j) (hN : dstw.view.dmaCredit = NK 1) :
    (ctx m K : sProp 𝕄) ⊢ iprop(owe c (Orem c 7 7 7 na nq) -∗ RC c 1 n -∗ (owe c (Orem c 7 7 7 na nq) -∗ RC c 1 n' -∗ GX m c (src c j) -∗ WP c (k ⟨⟩) Q)
      -∗ WP c (.op (.waitDma2 sm srcw dstw hsrc hdst) k) Q) :=
  st_recv m K c j hn hn' 1 (.inr (by decide)) (.inr (by decide)) hs hN (Entails.of_eq rfl)
include hn hn' in
theorem st_recvW {Q : α → sProp 𝕄} (hs : sm = dS 3 j) (hN : dstw.view.dmaCredit = NK 3) :
    (ctx m K : sProp 𝕄) ⊢ iprop(owe c (Orem c 7 7 7 na nq) -∗ RC c 3 n -∗ (owe c (Orem c 7 7 7 na nq) -∗ RC c 3 n' -∗ GW m c (src c j) -∗ WP c (k ⟨⟩) Q)
      -∗ WP c (.op (.waitDma2 sm srcw dstw hsrc hdst) k) Q) :=
  st_recv m K c j hn hn' 3 (.inr (by decide)) (.inr (by decide)) hs hN (Entails.of_eq rfl)
include hn hn' in
theorem st_recvQ {Q : α → sProp 𝕄} (ha : 7 ≤ na) (hq : 7 ≤ nq) (hs : sm = dS 7 j) (hN : dstw.view.dmaCredit = NK 7) :
    (ctx m K : sProp 𝕄) ⊢ iprop(owe c (Orem c 7 7 7 na nq) -∗ RC c 7 n -∗ (owe c (Orem c 7 7 7 na nq) -∗ RC c 7 n' -∗ GQ m c (src c j) -∗ WP c (k ⟨⟩) Q)
      -∗ WP c (.op (.waitDma2 sm srcw dstw hsrc hdst) k) Q) :=
  st_recv m K c j hn hn' 7 (.inl ha) (.inl hq) hs hN (Entails.of_eq rfl)
include hn hn' in
/-- A wait whose payload joins those before it. -/
theorem st_recvA {Q : α → sProp 𝕄} (kk : Fin 8) (ha : 7 ≤ na) (hq : 7 ≤ nq ∨ lvK kk < 4) (hs : sm = dS kk j) (hN : dstw.view.dmaCredit = NK kk) :
    (ctx m K : sProp 𝕄) ⊢ iprop(owe c (Orem c 7 7 7 na nq) -∗ RC c kk n -∗ GA m c kk n -∗ (owe c (Orem c 7 7 7 na nq) -∗ RC c kk n' -∗ GA m c kk n' -∗ WP c (k ⟨⟩) Q)
      -∗ WP c (.op (.waitDma2 sm srcw dstw hsrc hdst) k) Q) := by
  subst hn hn'
  unfold GA
  rw [Head_step]
  iintro #HI HO HR HG Hk
  iapply (st_recv m K c j rfl rfl kk (.inl ha) hq hs hN (Entails.of_eq rfl)) $$ HI HO HR
  iintro HO HR HP
  iapply Hk $$ HO HR
  isplitl [HP]; · iexact HP
  iexact HG
end Waits

/-! ## Local copies -/

section Copies
variable {α : Type}

/-- A copy into an idle buffer. -/
theorem st_fill {Q : α → sProp 𝕄} {sp : Space} {s : Shape} {e : EltTy} (M : Memref sig .tc .vmem s e) (i : DmaSem sig) (hpos : 0 < M.view.dmaCredit) (S : Memref sig .tc sp s e) (q : PosShare TreeShare) (X : s.Idx → Elt F e)
    {P : sProp 𝕄} (hP : P ⊢ owns (c : Thread nD τ) S q X) {ms : Memref sig .tc sp s e} (hms : ms = S) {sm' : DmaSem sig} (hsm : sm' = i)
    {hsrc : ms.view.WordExact} {hdst : M.view.WordExact} {hsem : DmaTarget.Typed (nD := nD) (τ := τ) (p := Proc.tc) sp (.dma sm') (.here M)}
    {k : PUnit → Prog (TpuEff nD τ sig (Elt F) Λ₀ .tc) α} :
    P ⊢ iprop(Idle c M i -∗ (Going c M i X -∗ WP c (k ⟨⟩) Q) -∗ WP c (.op (.enqueueDma ms (.here M) (.dma sm') hsrc hdst hsem) k) Q) := by
  refine hP.trans ?_
  unfold Idle Going
  iintro Hs ⟨Hd, Hz⟩ Hk
  iapply (st_copy c i S M rfl hpos hms rfl hsm) $$ Hs Hd Hz
  iintro Hf
  iapply Hk
  iapply (Fl_mono c i M.view.dmaCredit sep_elim_left) $$ Hf

theorem st_filled {Q : α → sProp 𝕄} {s : Shape} {e : EltTy} (M : Memref sig .tc .vmem s e) (i : DmaSem sig) (h5 : i.val < 5) {X : s.Idx → Elt F e} {na nq : ℕ}
    {sp : Space} {s' : Shape} {e' : EltTy} {srcw : Memref sig .tc sp s' e'} {sm' : DmaSem sig} (hsm : sm' = i)
    {hsrc : srcw.view.WordExact} {hdst : M.view.WordExact} {k : PUnit → Prog (TpuEff nD τ sig (Elt F) Λ₀ .tc) α} :
    (ctx m K : sProp 𝕄) ⊢ iprop(owe c (Orem c 7 7 7 na nq) -∗ Going c M i X -∗ (owe c (Orem c 7 7 7 na nq) -∗ Full c M i X -∗ WP c (k ⟨⟩) Q)
      -∗ WP c (.op (.waitDma2 sm' srcw M hsrc hdst) k) Q) := by
  unfold Going Full
  iintro #HI HO HF Hk
  iapply (st_copywait m K c i h5 hsm rfl) $$ HI HO HF
  iintro HO HA Hz
  iapply Hk $$ HO
  isplitl [HA]; · iexact HA
  iexact Hz

theorem st_loadFull {Q : α → sProp 𝕄} {s : Shape} {e : EltTy} (M : Memref sig .tc .vmem s e) (i : DmaSem sig) {X : s.Idx → Elt F e} {off : Fin s.rank → ℕ} (h0 : off = fun _ => 0)
    {inb : ∀ a, off a + s.size a ≤ s.size a}
    {hl : M.view.LoadsAt (Rect.unit off s.size inb).toLoadRect} {k : ((Rect.unit off s.size inb).shape.Idx → Elt F e) → Prog (TpuEff nD τ sig (Elt F) Λ₀ .tc) α} :
    Full c M i X ⊢ iprop((Full c M i X -∗ WP c (k X) Q) -∗ WP c (.op (.load M (Rect.unit off s.size inb).toLoadRect hl) k) Q) := by
  unfold Full
  iintro ⟨H, Hz⟩ Hk
  iapply (st_loadZ c h0) $$ H
  iintro H
  iapply Hk
  isplitl [H]; · iexact H
  iexact Hz

/-- A load of a half of a received tile, and of this device's own. -/
theorem st_loadHalf {Q : α → sProp 𝕄} (s : Dev nD) (h : Fin 2) {off : Fin 2 → ℕ} (ho : off = ![0, 1024 * h.val]) {inb : ∀ a, off a + S2048x1024.size a ≤ S2048x2048.size a}
    {hl : bR.view.LoadsAt (Rect.unit (s := S2048x2048) off S2048x1024.size inb).toLoadRect} {k : (S2048x1024.Idx → Elt F .fp8e4m3) → Prog (TpuEff nD τ sig (Elt F) Λ₀ .tc) α} :
    Full c bR CX (qv m s) ⊢ iprop((Full c bR CX (qv m s) -∗ WP c (k (hv m s h)) Q)
      -∗ WP c (.op (.load bR (Rect.unit (s := S2048x2048) off S2048x1024.size inb).toLoadRect hl) k) Q) := by
  subst ho
  unfold Full
  iintro ⟨H, Hz⟩ Hk
  iapply (st_load c) $$ H
  iintro H
  iapply Hk
  isplitl [H]; · iexact H
  iexact Hz
theorem st_loadOwn {Q : α → sProp 𝕄} (h : Fin 2) {off : Fin 2 → ℕ} (ho : off = ![0, 1024 * h.val]) {inb : ∀ a, off a + S2048x1024.size a ≤ S2048x2048.size a}
    {hl : bQ.view.LoadsAt (Rect.unit (s := S2048x2048) off S2048x1024.size inb).toLoadRect} {k : (S2048x1024.Idx → Elt F .fp8e4m3) → Prog (TpuEff nD τ sig (Elt F) Λ₀ .tc) α} :
    QMo m c ⊢ iprop((QMo m c -∗ WP c (k (hv m c h)) Q)
      -∗ WP c (.op (.load bQ (Rect.unit (s := S2048x2048) off S2048x1024.size inb).toLoadRect hl) k) Q) := by
  subst ho
  unfold QMo
  iintro H Hk
  iapply (st_load c) $$ H
  iintro H
  iapply Hk
  iexact H

/-! ## The accumulator -/

theorem st_loadY {Q : α → sProp 𝕄} {n : ℕ} {off : Fin 2 → ℕ} (h0 : off = fun _ => 0) {inb : ∀ a, off a + S2048x2048.size a ≤ S2048x2048.size a}
    {hl : bY.view.LoadsAt (Rect.unit (s := S2048x2048) off S2048x2048.size inb).toLoadRect} {k : (S2048x2048.Idx → Elt F .f32) → Prog (TpuEff nD τ sig (Elt F) Λ₀ .tc) α} :
    YD m c n ⊢ iprop((YD m c n -∗ WP c (k (Yacc m c n)) Q) -∗ WP c (.op (.load bY (Rect.unit (s := S2048x2048) off S2048x2048.size inb).toLoadRect hl) k) Q) := by
  unfold YD
  exact st_loadZ c h0
/-- A load of a buffer of which nothing is known: what it reads is arbitrary. -/
theorem st_loadJ {Q : α → sProp 𝕄} {s : Shape} {e : EltTy} {M : Memref sig .tc .vmem s e} {off : Fin s.rank → ℕ} (h0 : off = fun _ => 0)
    {inb : ∀ a, off a + s.size a ≤ s.size a}
    {hl : M.view.LoadsAt (Rect.unit off s.size inb).toLoadRect} {k : ((Rect.unit off s.size inb).shape.Idx → Elt F e) → Prog (TpuEff nD τ sig (Elt F) Λ₀ .tc) α} :
    any c M ⊢ iprop((∀ X, any c M -∗ WP c (k X) Q) -∗ WP c (.op (.load M (Rect.unit off s.size inb).toLoadRect hl) k) Q) := by
  iintro H Hk
  ihave H := (any_owns c M) $$ H
  icases H with ⟨%X, H⟩
  iapply (st_loadZ c h0) $$ H
  iintro H
  iapply Hk
  iapply (owns_any c M X) $$ H
/-- The same through a slice. -/
theorem st_loadJS {Q : α → sProp 𝕄} {s : Shape} {e : EltTy} {M : Memref sig .tc .vmem s e} {r : Rect s} {hr : ∀ a, r.stride a = 1} {Mr : Memref sig .tc .vmem r.shape e} (hM : M.slice r hr = Mr)
    {hl : M.view.LoadsAt r.toLoadRect} {k : (r.shape.Idx → Elt F e) → Prog (TpuEff nD τ sig (Elt F) Λ₀ .tc) α} :
    any c Mr ⊢ iprop((∀ X, any c Mr -∗ WP c (k X) Q) -∗ WP c (.op (.load M r.toLoadRect hl) k) Q) := by
  iintro H Hk
  ihave H := (any_owns c Mr) $$ H
  icases H with ⟨%X, H⟩
  iapply (st_loadS c hM) $$ H
  iintro H
  iapply Hk
  iapply (owns_any c Mr X) $$ H
/-- A store over a buffer of which nothing is known. -/
theorem st_storeJ {Q : α → sProp 𝕄} {s : Shape} {e : EltTy} {M : Memref sig .tc .vmem s e} (w : s.Idx → Elt F e) {w' : s.Idx → Elt F e} (hw : w' = w) {off : Fin s.rank → ℕ} (h0 : off = fun _ => 0)
    {inb : ∀ a, off a + s.size a ≤ s.size a}
    {hx : (M.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) α} :
    any c M ⊢ iprop((owns (c : Thread nD τ) M fullShare w -∗ WP c (k ⟨⟩) Q) -∗ WP c (.op (.store M (Rect.unit off s.size inb) w' Finset.univ hx hm) k) Q) := by
  subst hw
  iintro H Hk
  ihave H := (any_owns c M) $$ H
  icases H with ⟨%X, H⟩
  iapply (st_storeZ c h0) $$ H Hk
theorem st_storeJS {Q : α → sProp 𝕄} {s : Shape} {e : EltTy} {M : Memref sig .tc .vmem s e} {r : Rect s} {hr : ∀ a, r.stride a = 1} {Mr : Memref sig .tc .vmem r.shape e} (hM : M.slice r hr = Mr)
    (w : r.shape.Idx → Elt F e) {w' : r.shape.Idx → Elt F e} (hw : w' = w)
    {hx : (M.access r).Stores Finset.univ} {hm : (Finset.univ : Finset r.shape.Idx) = Finset.univ ∨ ∀ a, r.stride a = 1} {k : PUnit → Prog (TpuEff nD τ sig (Elt F) Λ₀ .tc) α} :
    any c Mr ⊢ iprop((owns (c : Thread nD τ) Mr fullShare w -∗ WP c (k ⟨⟩) Q) -∗ WP c (.op (.store M r w' Finset.univ hx hm) k) Q) := by
  subst hw
  iintro H Hk
  ihave H := (any_owns c Mr) $$ H
  icases H with ⟨%X, H⟩
  iapply (st_storeS c hM) $$ H Hk

theorem st_storeY {Q : α → sProp 𝕄} {n : ℕ} {w' : S2048x2048.Idx → Elt F .f32} (n' : ℕ) (hw : w' = Yacc m c n') {off : Fin 2 → ℕ} (h0 : off = fun _ => 0)
    {inb : ∀ a, off a + S2048x2048.size a ≤ S2048x2048.size a}
    {hx : (bY.access (Rect.unit (s := S2048x2048) off S2048x2048.size inb)).Stores Finset.univ} {hm : (Finset.univ : Finset (Rect.unit (s := S2048x2048) off S2048x2048.size inb).shape.Idx) = Finset.univ ∨ ∀ a, (Rect.unit (s := S2048x2048) off S2048x2048.size inb).stride a = 1}
    {k : PUnit → Prog (TpuEff nD τ sig (Elt F) Λ₀ .tc) α} :
    YD m c n ⊢ iprop((YD m c n' -∗ WP c (k ⟨⟩) Q) -∗ WP c (.op (.store bY (Rect.unit (s := S2048x2048) off S2048x2048.size inb) w' Finset.univ hx hm) k) Q) := by
  subst hw
  unfold YD
  exact st_storeZ c h0

/-! ## The results' copies -/

theorem st_out {Q : α → sProp 𝕄} (h : Fin 2) (J : Fin 8) {n n' : ℕ} (hn : n = J.val) (hn' : n' = J.val + 1)
    {ms : Memref sig .tc .vmem S2048x1024 .bf16} (hms : ms = (stV h).squeeze S2048x1024 squeezes_S1x2048x1024_S2048x1024)
    {md : Memref sig .tc .hbm S2048x1024 .bf16} (hmd : md = outB (back c J.val) h) {sm' : DmaSem sig} (hsm : sm' = CO h)
    {hsrc : ms.view.WordExact} {hdst : md.view.WordExact} {hsem : DmaTarget.Typed (nD := nD) (τ := τ) (p := Proc.tc) .vmem (.dma sm') (.here md)}
    {k : PUnit → Prog (TpuEff nD τ sig (Elt F) Λ₀ .tc) α} :
    Full c (stV h) (CO h) (sv m (back c J.val) h) ⊢ iprop(OT c h n -∗ (FO m c h (back c J.val) -∗ OT c h n' -∗ WP c (k ⟨⟩) Q)
      -∗ WP c (.op (.enqueueDma ms (.here md) (.dma sm') hsrc hdst hsem) k) Q) := by
  subst hn hn'
  unfold OT Full FO ov
  rw [Tail_step]
  iintro ⟨Hs, Hz⟩ ⟨Hd, HT⟩ Hk
  iapply (st_copyOut c (CO h) (stV h) squeezes_S1x2048x1024_S2048x1024 (outB (back c J.val) h) (N := NO) rfl NO_pos hms hmd hsm) $$ Hs Hd Hz
  iintro Hf
  iapply Hk $$ Hf HT

theorem st_outwait {Q : α → sProp 𝕄} (h : Fin 2) (J : Fin 8) {n n' : ℕ} (hn : n = J.val) (hn' : n' = J.val + 1) {na nq : ℕ}
    {sp sp' : Space} {s s' : Shape} {e e' : EltTy} {srcw : Memref sig .tc sp s e} {dstw : Memref sig .tc sp' s' e'} (hN : dstw.view.dmaCredit = NO) {sm' : DmaSem sig} (hsm : sm' = CO h)
    {hsrc : srcw.view.WordExact} {hdst : dstw.view.WordExact} {k : PUnit → Prog (TpuEff nD τ sig (Elt F) Λ₀ .tc) α} :
    (ctx m K : sProp 𝕄) ⊢ iprop(owe c (Orem c 7 7 7 na nq) -∗ FO m c h (back c J.val) -∗ OD m c h n
      -∗ (owe c (Orem c 7 7 7 na nq) -∗ Idle c (stV h) (CO h) -∗ OD m c h n' -∗ WP c (k ⟨⟩) Q)
      -∗ WP c (.op (.waitDma2 sm' srcw dstw hsrc hdst) k) Q) := by
  subst hn hn'
  unfold OD FO Idle
  rw [Head_step]
  iintro #HI HO HF HD Hk
  iapply (st_copywait m K c (CO h) (by have := h.isLt; show 3 + h.val < 5; omega) hsm hN) $$ HI HO HF
  iintro HO ⟨Ho, Hs⟩ Hz
  iapply Hk $$ HO [Hs Hz] [Ho HD]
  · isplitl [Hs]; · iexact Hs
    iexact Hz
  · isplitl [Ho]; · iexact Ho
    iexact HD

theorem st_loadSlot {Q : α → sProp 𝕄} (h : Fin 2) {off : Fin 3 → ℕ} (ho : off = ![h.val, 0, 0]) {inb : ∀ a, off a + S1x2048x1024.size a ≤ S2x2048x1024.size a}
    {hl : bS.view.LoadsAt (Rect.unit (s := S2x2048x1024) off S1x2048x1024.size inb).toLoadRect} {k : (S1x2048x1024.Idx → Elt F .bf16) → Prog (TpuEff nD τ sig (Elt F) Λ₀ .tc) α} :
    Idle c (stV h) (CO h) ⊢ iprop((∀ X, Idle c (stV h) (CO h) -∗ WP c (k X) Q) -∗ WP c (.op (.load bS (Rect.unit (s := S2x2048x1024) off S1x2048x1024.size inb).toLoadRect hl) k) Q) := by
  subst ho
  unfold Idle
  iintro ⟨H, Hz⟩ Hk
  iapply (st_loadJS c (Mr := stV h) (hr := fun _ => rfl) rfl) $$ H
  iintro %X H
  iapply Hk
  isplitl [H]; · iexact H
  iexact Hz
theorem st_storeSlot {Q : α → sProp 𝕄} (s : Dev nD) (h : Fin 2) {w' : S1x2048x1024.Idx → Elt F .bf16} (hw : w' = sv m s h) {off : Fin 3 → ℕ} (ho : off = ![h.val, 0, 0]) {inb : ∀ a, off a + S1x2048x1024.size a ≤ S2x2048x1024.size a}
    {hx : (bS.access (Rect.unit (s := S2x2048x1024) off S1x2048x1024.size inb)).Stores Finset.univ}
    {hm : (Finset.univ : Finset (Rect.unit (s := S2x2048x1024) off S1x2048x1024.size inb).shape.Idx) = Finset.univ ∨ ∀ a, (Rect.unit (s := S2x2048x1024) off S1x2048x1024.size inb).stride a = 1}
    {k : PUnit → Prog (TpuEff nD τ sig (Elt F) Λ₀ .tc) α} :
    Idle c (stV h) (CO h) ⊢ iprop((Full c (stV h) (CO h) (sv m s h) -∗ WP c (k ⟨⟩) Q)
      -∗ WP c (.op (.store bS (Rect.unit (s := S2x2048x1024) off S1x2048x1024.size inb) w' Finset.univ hx hm) k) Q) := by
  subst ho
  unfold Idle Full
  iintro ⟨H, Hz⟩ Hk
  iapply (st_storeJS c (Mr := stV h) (hr := fun _ => rfl) rfl (sv m s h) hw) $$ H
  iintro H
  iapply Hk
  isplitl [H]; · iexact H
  iexact Hz

end Copies

end Cert.KProof
-- ==== Proof.Glue.lean ====
/- What the pieces of the body need between them: splitting and joining shares, families over the eight devices, and the
   tilings the blocks make of their arrays. -/
module

public import proofs.«01_k».proof.Proof.Moves

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs -/

section Progs
variable (c : Dev nD) {α β : Type}

theorem WP_dev {Q : α → sProp 𝕄} {k : Dev nD → Prog (TpuEff nD τ sig (Elt F) Λ₀ .tc) α} : WP c (k c) Q ⊢ WP c (.op .deviceId k) Q :=
  Entails.of_eq (wp_deviceId (c := (c : Thread nD τ)) ..).symm
theorem WP_ret {Q : α → sProp 𝕄} {r : α} : Q r ⊢ WP c (.ret r) Q := by
  show Q r ⊢ iprop(|={Set.univ}[frame]=> Q r)
  exact fupd_intro
theorem WP_pure {Q : α → sProp 𝕄} {r : α} : Q r ⊢ WP c (pure r) Q := WP_ret c
theorem WP_bind {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := Entails.of_eq (wp_bind ..).symm
end Progs

/-! ## Shares -/

instance elt_nonempty (e : EltTy) : Nonempty (Elt F e) := by
  cases e
  all_goals first
    | exact ⟨(0 : BitVec _)⟩
    | exact ⟨FloatOps.ofBits .fp8e4m3 0⟩
    | exact ⟨FloatOps.ofBits .fp8e5m2 0⟩
    | exact ⟨FloatOps.ofBits .bf16 0⟩
    | exact ⟨FloatOps.ofBits .f16 0⟩
    | exact ⟨FloatOps.ofBits .f32 0⟩

section Shares
variable (c : Dev nD) {sp : Space} {s : Shape} {e : EltTy} (M : Memref sig .tc sp s e) (X : s.Idx → Elt F e)

/-- What is owned at `X` is held at any contents that read as `X`. -/
theorem owns_at (q : PosShare TreeShare) {f : M.view.ty.Contents (Elt F)} (hf : M.view.read (Elt F) f = X) :
    owns (c : Thread nD τ) M q X ⊢ (M.view.loc (c : Thread nD τ) ↦[M.view.set]{q} f : sProp 𝕄) := by
  unfold owns
  iintro ⟨%g, %hg, H⟩
  have he : ∀ i ∈ M.view.set, g i = f i := fun i hi => by
    rw [View.set, Finset.mem_map] at hi
    obtain ⟨x, -, rfl⟩ := hi
    have h := congrFun (hg.trans hf.symm) x
    simp only [View.read] at h
    exact (cast_inj _).mp h
  iapply (Entails.of_eq (pointsTo_congr (ℓ := M.view.loc (c : Thread nD τ)) (I := M.view.set) (q := q) (f := g) (g := f) he)) $$ H

/-- A share lent `n` times. -/
theorem owns_lend (q : PosShare TreeShare) (n : ℕ) :
    owns (c : Thread nD τ) M q X ⊢ (iprop(owns (c : Thread nD τ) M (Transfers.shareDrop q n) X
      ∗ bigSep Finset.univ fun i : Fin n => owns (c : Thread nD τ) M (Transfers.shareTok q n i) X) : sProp 𝕄) := by
  have hI : ∀ (f : M.view.ty.Contents (Elt F)) (hf : M.view.read (Elt F) f = X) (p : PosShare TreeShare),
      (M.view.loc (c : Thread nD τ) ↦[M.view.set]{p} f : sProp 𝕄) ⊢ owns (c : Thread nD τ) M p X := fun f hf p => by
    subst hf; exact owns_intro (c : Thread nD τ) M p f
  conv_lhs => unfold owns
  iintro ⟨%f, %hf, H⟩
  ihave H := (Transfers.pointsTo_toks_split q n) $$ H
  icases H with ⟨H, HT⟩
  isplitl [H]
  · iapply (hI f hf _) $$ H
  · iapply (show (bigSep Finset.univ fun i : Fin n => (M.view.loc (c : Thread nD τ) ↦[M.view.set]{Transfers.shareTok q n i} f : sProp 𝕄)) ⊢ bigSep Finset.univ fun i : Fin n => owns (c : Thread nD τ) M (Transfers.shareTok q n i) X
      from bigSep_mono fun i _ => hI f hf _) $$ HT

/-- The lent shares come back. -/
theorem owns_unlend (q : PosShare TreeShare) (n : ℕ) :
    (iprop(owns (c : Thread nD τ) M (Transfers.shareDrop q n) X
      ∗ bigSep Finset.univ fun i : Fin n => owns (c : Thread nD τ) M (Transfers.shareTok q n i) X) : sProp 𝕄) ⊢ owns (c : Thread nD τ) M q X := by
  iintro ⟨H, HT⟩
  ihave H' := (show owns (c : Thread nD τ) M (Transfers.shareDrop q n) X
    ⊢ iprop(∃ f, ⌜M.view.read (Elt F) f = X⌝ ∗ M.view.loc (c : Thread nD τ) ↦[M.view.set]{Transfers.shareDrop q n} f) from .rfl) $$ H
  icases H' with ⟨%f, %hf, H⟩
  ihave HT := (show (bigSep Finset.univ fun i : Fin n => owns (c : Thread nD τ) M (Transfers.shareTok q n i) X) ⊢ bigSep Finset.univ fun i : Fin n => (M.view.loc (c : Thread nD τ) ↦[M.view.set]{Transfers.shareTok q n i} f : sProp 𝕄)
      from bigSep_mono fun i _ => owns_at c M X _ hf) $$ HT
  ihave H := (Transfers.pointsTo_toks_join q n) $$ [H HT]
  · isplitl [H] <;> iassumption
  subst hf
  iapply (owns_intro (c : Thread nD τ) M q f) $$ H
end Shares

/-! ## Families over the devices -/

theorem bs_sep {ι : Type} (s : Finset ι) (Φ Ψ : ι → sProp 𝕄) : bigSep s (fun i => iprop(Φ i ∗ Ψ i)) = iprop(bigSep s Φ ∗ bigSep s Ψ) := bigSep_sep s Φ Ψ

/-- A family over the devices is `c`'s member and the members of the seven behind it. -/
theorem split_src (c : Dev nD) (Φ : Dev nD → sProp 𝕄) :
    bigSep Finset.univ Φ = iprop(Φ c ∗ bigSep Finset.univ fun j : Fin 7 => Φ (src c j)) := by
  have hi : Function.Injective (src c) := fun a b h => by revert c a b; decide
  have hu : (Finset.univ : Finset (Dev nD)) = insert c (Finset.univ.map ⟨src c, hi⟩) := by revert c; decide
  rw [hu, bigSep_insert (by revert c; decide), bigSep_map]; rfl
/-- A family over the devices is `c`'s member and the members of the seven ahead of it. -/
theorem split_peer (c : Dev nD) (Φ : Dev nD → sProp 𝕄) :
    bigSep Finset.univ Φ = iprop(Φ c ∗ bigSep Finset.univ fun j : Fin 7 => Φ (peer c j)) := by
  have hi : Function.Injective (peer c) := fun a b h => by revert c a b; decide
  have hu : (Finset.univ : Finset (Dev nD)) = insert c (Finset.univ.map ⟨peer c, hi⟩) := by revert c; decide
  rw [hu, bigSep_insert (by revert c; decide), bigSep_map]; rfl

/-! ## Tilings -/

section Tile
variable {d : Fin 2 → ℕ} {T : Type} [Fintype T] [DecidableEq T] (R C nr nc : ℕ) (row col : T → ℕ) (off : T → Fin 2 → ℕ) (hoff : ∀ t, off t = ![R * row t, C * col t])
  (inb : ∀ t a, off t a + (![R, C] : Fin 2 → ℕ) a ≤ (⟨2, d⟩ : Shape).size a)

include hoff in
theorem tile_disjoint (hinj : ∀ t t', row t = row t' → col t = col t' → t = t') (t t' : T) (h : t ≠ t') :
    Disjoint (Rect.unit (s := ⟨2, d⟩) (off t) ![R, C] (inb t)).set (Rect.unit (s := ⟨2, d⟩) (off t') ![R, C] (inb t')).set := by
  have key : ∀ (a : Fin 2) (N : ℕ) (f : T → ℕ), (∀ t, off t a = N * f t) → (![R, C] : Fin 2 → ℕ) a = N → f t ≠ f t' →
      off t a + (![R, C] : Fin 2 → ℕ) a ≤ off t' a ∨ off t' a + (![R, C] : Fin 2 → ℕ) a ≤ off t a := fun a N f h1 h2 hne => by
    rw [h1, h1, h2]
    rcases Nat.lt_or_gt_of_ne hne with hl | hl
    · left; have := Nat.mul_le_mul_left N (Nat.succ_le_of_lt hl); rw [Nat.mul_succ] at this; exact this
    · right; have := Nat.mul_le_mul_left N (Nat.succ_le_of_lt hl); rw [Nat.mul_succ] at this; exact this
  by_cases hr : row t = row t'
  · exact Rect.unit_disjoint (s := ⟨2, d⟩) 1 (key 1 C col (fun t => by rw [hoff]; rfl) rfl fun hc => h (hinj t t' hr hc))
  · exact Rect.unit_disjoint (s := ⟨2, d⟩) 0 (key 0 R row (fun t => by rw [hoff]; rfl) rfl hr)

include hoff in
theorem tile_cover (hR : 0 < R) (hC : 0 < C) (h0 : d 0 = nr * R) (h1 : d 1 = nc * C) (hcov : ∀ a < nr, ∀ b < nc, ∃ t, row t = a ∧ col t = b) :
    Finset.univ.biUnion (fun t => (Rect.unit (s := ⟨2, d⟩) (off t) ![R, C] (inb t)).set) = Finset.univ := by
  ext i
  simp only [Finset.mem_biUnion, Finset.mem_univ, _root_.true_and, _root_.iff_true]
  have hi0 : (i 0).val < nr * R := h0 ▸ (i 0).isLt
  have hi1 : (i 1).val < nc * C := h1 ▸ (i 1).isLt
  obtain ⟨t, hr, hc⟩ := hcov ((i 0).val / R) ((Nat.div_lt_iff_lt_mul hR).mpr hi0) ((i 1).val / C) ((Nat.div_lt_iff_lt_mul hC).mpr hi1)
  refine ⟨t, Rect.mem_set_unit.mpr (Fin.forall_fin_two.mpr ⟨?_, ?_⟩)⟩
  · rw [hoff]
    show R * row t ≤ (i 0).val ∧ (i 0).val < R * row t + R
    rw [hr]
    exact ⟨Nat.mul_div_le _ _, Nat.lt_mul_div_succ _ hR⟩
  · rw [hoff]
    show C * col t ≤ (i 1).val ∧ (i 1).val < C * col t + C
    rw [hc]
    exact ⟨Nat.mul_div_le _ _, Nat.lt_mul_div_succ _ hC⟩
end Tile

theorem off1_closed (c : Dev nD) : k0_off1 c = ![512 * c.val, 2048 * 0] := by revert c; decide +kernel
theorem off3_closed (c : Dev nD) : k0_off3 c = ![2048 * 0, 512 * c.val] := by revert c; decide +kernel
theorem off10_closed (c : Dev nD) : k0_off10 c = ![1 * c.val, 128 * 0] := by revert c; decide +kernel

/-- The table of maxima, row by row. -/
theorem rows_disjoint (t t' : Dev nD) (h : t ≠ t') :
    Disjoint (Rect.unit (s := S8x128) (k0_off10 t) S1x128.size (k0_off10_inb t)).set (Rect.unit (s := S8x128) (k0_off10 t') S1x128.size (k0_off10_inb t')).set :=
  tile_disjoint 1 128 (fun t : Dev nD => t.val) (fun _ => 0) k0_off10 off10_closed k0_off10_inb (fun _ _ h _ => Fin.ext h) t t' h
theorem rows_cover : Finset.univ.biUnion (fun t : Dev nD => (Rect.unit (s := S8x128) (k0_off10 t) S1x128.size (k0_off10_inb t)).set) = Finset.univ :=
  tile_cover 1 128 8 1 (fun t : Dev nD => t.val) (fun _ => 0) k0_off10 off10_closed k0_off10_inb (by decide) (by decide) rfl rfl
    (fun a ha b hb => ⟨⟨a, ha⟩, rfl, by omega⟩)

variable (m : (ℓ : Loc nD τ sig) → Buf (Elt F) ℓ) (c : Dev nD)

theorem AM_row (s : Dev nD) : (fun j => AM m ((Rect.unit (s := S8x128) (k0_off10 s) S1x128.size (k0_off10_inb s)).emb j)) = am m s := by
  funext j
  have h0 : (j 0).val < 1 := (j 0).isLt
  have he : ∀ a, (((Rect.unit (s := S8x128) (k0_off10 s) S1x128.size (k0_off10_inb s)).emb j) a).val = k0_off10 s a + 1 * (j a).val := fun a => rfl
  have e0 := (he 0).trans (congrArg (fun f : Fin 2 → ℕ => f 0 + 1 * (j 0).val) (off10_closed s))
  have e1 := (he 1).trans (congrArg (fun f : Fin 2 → ℕ => f 1 + 1 * (j 1).val) (off10_closed s))
  have e0' : (((Rect.unit (s := S8x128) (k0_off10 s) S1x128.size (k0_off10_inb s)).emb j) 0).val = s.val := by rw [e0]; show 1 * s.val + 1 * (j 0).val = _; omega
  have e1' : (((Rect.unit (s := S8x128) (k0_off10 s) S1x128.size (k0_off10_inb s)).emb j) 1).val = (j 1).val := by rw [e1]; show 128 * 0 + 1 * (j 1).val = _; omega
  unfold AM
  have hs : (⟨(((Rect.unit (s := S8x128) (k0_off10 s) S1x128.size (k0_off10_inb s)).emb j) 0).val, (((Rect.unit (s := S8x128) (k0_off10 s) S1x128.size (k0_off10_inb s)).emb j) 0).isLt⟩ : Dev nD) = s := Fin.ext e0'
  refine (congrArg (fun d : Dev nD => am m d _) hs).trans (congrArg (am m s) (funext fun a => Fin.ext ?_))
  match a with
  | ⟨0, _⟩ => show 0 = (j 0).val; omega
  | ⟨1, _⟩ => exact e1'

/-- All eight rows at a share are the table at it. -/
theorem rows_join (q : PosShare TreeShare) : (bigSep Finset.univ fun t : Dev nD => owns (c : Thread nD τ) (amB t) q (am m t)) ⊢ (owns (c : Thread nD τ) bA q (AM m) : sProp 𝕄) := by
  have h := owns_of_rects (Val := Elt F) (Ix := Unit) (Name := ℕ) (U := UU) (Lvl := ℕ) (c : Thread nD τ) bA q (fun t : Dev nD => Rect.unit (s := S8x128) (k0_off10 t) S1x128.size (k0_off10_inb t)) (fun _ _ => rfl) rows_disjoint rows_cover (AM m)
  simp only [AM_row] at h
  exact h
theorem rows_split (q : PosShare TreeShare) : (owns (c : Thread nD τ) bA q (AM m) : sProp 𝕄) ⊢ bigSep Finset.univ fun t : Dev nD => owns (c : Thread nD τ) (amB t) q (am m t) := by
  have h := owns_rects (Val := Elt F) (Ix := Unit) (Name := ℕ) (U := UU) (Lvl := ℕ) (c : Thread nD τ) bA q (fun t : Dev nD => Rect.unit (s := S8x128) (k0_off10 t) S1x128.size (k0_off10_inb t)) (fun _ _ => rfl) rows_disjoint rows_cover (AM m)
  simp only [AM_row] at h
  exact h

/-! ## The credits of a wait, whichever block it names -/

theorem cred_x {off : Fin 2 → ℕ} {inb} {hr} : (aX.slice (Rect.unit (s := S4096x512) off S2048x512.size inb) hr).view.dmaCredit = NK 0 := by
  show sig.dmaCredit _ _ _ _ _ = sig.dmaCredit _ _ _ _ _
  unfold sig
  rfl
theorem cred_w {off : Fin 2 → ℕ} {inb} {hr} : (aW.slice (Rect.unit (s := S512x8192) off S512x2048.size inb) hr).view.dmaCredit = NK 2 := by
  show sig.dmaCredit _ _ _ _ _ = sig.dmaCredit _ _ _ _ _
  unfold sig
  rfl
theorem cred_o {off : Fin 2 → ℕ} {inb} {hr} : (aO.slice (Rect.unit (s := S4096x8192) off S2048x1024.size inb) hr).view.dmaCredit = NO := by
  show sig.dmaCredit _ _ _ _ _ = sig.dmaCredit _ _ _ _ _
  unfold sig
  rfl
theorem cred_q : bQ.view.dmaCredit = NK 6 := by
  show sig.dmaCredit _ _ _ _ _ = sig.dmaCredit _ _ _ _ _
  unfold sig
  rfl

/-! ## Between the parts -/

abbrev LL : sProp 𝕄 := bigSep Finset.univ fun j : Fin 7 => Lands (F := F) (peer c j) c
def LW : sProp 𝕄 := bigSep Finset.univ fun j : Fin 7 => any (F := F) (peer c j) (wgB c)
def LX : sProp 𝕄 := bigSep Finset.univ fun j : Fin 7 => any (F := F) (peer c j) (xgB c)
def LA : sProp 𝕄 := bigSep Finset.univ fun j : Fin 7 => any (F := F) (peer c j) (amB c)
def LQ : sProp 𝕄 := bigSep Finset.univ fun j : Fin 7 => any (F := F) (peer c j) (qgB c)
/-- The duty tokens of the transfers counted by arrays `ks` (here) and `kr` (there). -/
def PT (ks kr : Fin 8) : sProp 𝕄 := bigSep Finset.univ fun j : Fin 7 =>
  iprop(dutyTok (ER (F := F)) (cell c ks j) 0 (0 : Fin 7) ∗ dutyTok (ER (F := F)) (cell (peer c j) kr j) 0 (0 : Fin 7))
/-- The shares of this device's columns of `w` (rows of `x`) lent to the transfers. -/
def PWs : sProp 𝕄 := bigSep Finset.univ fun j : Fin 7 => owns (c : Thread nD τ) (wR (peer c j)) (Transfers.shareTok fullShare 8 j.castSucc) (wb m (peer c j) c)
def PXs : sProp 𝕄 := bigSep Finset.univ fun j : Fin 7 => owns (c : Thread nD τ) (xR (peer c j)) (Transfers.shareTok fullShare 8 j.castSucc) (xb m (peer c j) c)
def AP (k : Fin 8) : sProp 𝕄 := bigSep Finset.univ fun j : Fin 7 => atPos (ER (F := F)) (cell c k j) 0 ∅ 0

theorem lands_split : LL (F := F) c ⊢ (iprop(LW c ∗ LX c ∗ LA c ∗ LQ c) : sProp 𝕄) := by
  unfold LL LW LX LA LQ Lands
  rw [bs_sep, bs_sep, bs_sep]

theorem mk_snd (ks kr : Fin 8) {sp sp' : Space} {s : Shape} {e : EltTy} (S : Fin 7 → Memref sig .tc sp s e) (q : Fin 7 → PosShare TreeShare) (X : Fin 7 → s.Idx → Elt F e) (D : Memref sig .tc sp' s e) :
    PT (F := F) c ks kr ⊢ iprop((bigSep Finset.univ fun j => owns (c : Thread nD τ) (S j) (q j) (X j)) -∗ (bigSep Finset.univ fun j : Fin 7 => any (F := F) (peer c j) D)
      -∗ (Tail (snd c ks kr S q X D) 0 ∗ Head (crd (F := F) c ks) 0)) := by
  rw [Tail_zero, Head_zero]
  unfold PT snd
  rw [bs_sep, bs_sep, bs_sep, bs_sep]
  iintro ⟨Ha, Hb⟩ Hs Hd
  isplitl [Ha Hb Hs Hd]
  · isplitl [Ha]; · iexact Ha
    isplitl [Hb]; · iexact Hb
    isplitl [Hs]; · iexact Hs
    iexact Hd
  · iempintro

theorem mkW : PT (F := F) c 2 3 ⊢ iprop(PWs m c -∗ LW c -∗ SW m c 0) := mk_snd c 2 3 _ _ _ _
theorem mkX : PT (F := F) c 0 1 ⊢ iprop(PXs m c -∗ LX c -∗ SX m c 0) := mk_snd c 0 1 _ _ _ _
theorem mkA : owns (c : Thread nD τ) (amB c) fullShare (am m c) ⊢ iprop(PT (F := F) c 4 5 -∗ LA c -∗ (SA m c 0 ∗ AMo m c)) := by
  unfold AMo SA
  iintro H HP HL
  ihave H := (owns_lend c (amB c) (am m c) fullShare 7) $$ H
  icases H with ⟨Ho, HT⟩
  isplitr [Ho]
  · unfold LA
    iapply (mk_snd c 4 5 (fun _ => amB c) (fun j => Transfers.shareTok fullShare 7 j) (fun _ => am m c) (amB c)) $$ HP HT HL
  · iexact Ho
theorem mkQ : owns (c : Thread nD τ) bQ fullShare (qv m c) ⊢ iprop(PT (F := F) c 6 7 -∗ LQ c -∗ (SQ m c 0 ∗ QMo m c)) := by
  unfold QMo SQ
  iintro H HP HL
  ihave H := (owns_lend c bQ (qv m c) fullShare 7) $$ H
  icases H with ⟨Ho, HT⟩
  isplitr [Ho]
  · unfold LQ
    iapply (mk_snd c 6 7 (fun _ => bQ) (fun j => Transfers.shareTok fullShare 7 j) (fun _ => qv m c) (qgB c)) $$ HP HT HL
  · iexact Ho

theorem mk_back (k : Fin 8) {A : sProp 𝕄} : iprop(A ∗ Head (crd (F := F) c k) 7) ⊢ iprop(AP (F := F) c k -∗ RC (F := F) c k 0) := by
  unfold AP RC
  rw [Tail_zero, Head_zero, Head_all]
  unfold wtk
  rw [bs_sep]
  iintro ⟨-, Hc⟩ Ha
  isplitl [Hc Ha]
  · isplitl [Hc]; · iexact Hc
    iexact Ha
  · iempintro
theorem backX : SX m c 7 ⊢ iprop(AP (F := F) c 0 -∗ RC (F := F) c 0 0) := mk_back c 0
theorem backW : SW m c 7 ⊢ iprop(AP (F := F) c 2 -∗ RC (F := F) c 2 0) := mk_back c 2
theorem backA : SA m c 7 ⊢ iprop(AP (F := F) c 4 -∗ RC (F := F) c 4 0) := mk_back c 4
theorem backQ : SQ m c 7 ⊢ iprop(AP (F := F) c 6 -∗ RC (F := F) c 6 0) := mk_back c 6

theorem GA_zero (k : Fin 8) : (iprop(emp) : sProp 𝕄) ⊢ GA m c k 0 := by
  unfold GA; rw [Head_zero]

theorem swap_buf {X : S2048x512.Idx → Elt F .bf16} : Full c bX CX X ⊢ iprop(any (F := F) c bR -∗ (any c bX ∗ Idle (F := F) c bR CX)) := by
  unfold Full Idle
  iintro ⟨H, Hz⟩ HR
  isplitl [H]
  · iapply (owns_any c bX X) $$ H
  · isplitl [HR]; · iexact HR
    iexact Hz

theorem back_cast0 : back c ((0 : Fin 8).val) = c := back_zero c

/-- The load of the whole table of maxima, this device's row being partly lent. -/
theorem st_loadAM {α : Type} {Q : α → sProp 𝕄} {off : Fin 2 → ℕ} (h0 : off = fun _ => 0) {inb : ∀ a, off a + S8x128.size a ≤ S8x128.size a}
    {hl : bA.view.LoadsAt (Rect.unit (s := S8x128) off S8x128.size inb).toLoadRect} {k : (S8x128.Idx → Elt F .f32) → Prog (TpuEff nD τ sig (Elt F) Λ₀ .tc) α} :
    AMo m c ⊢ iprop(GA m c 5 7 -∗ (AMo m c -∗ GA m c 5 7 -∗ WP c (k (AM m)) Q)
      -∗ WP c (.op (.load bA (Rect.unit (s := S8x128) off S8x128.size inb).toLoadRect hl) k) Q) := by
  have hl5 : GA m c 5 7 ⊢ (iprop((bigSep Finset.univ fun j : Fin 7 => owns (c : Thread nD τ) (amB (src c j)) (Transfers.shareDrop fullShare 7) (am m (src c j)))
      ∗ bigSep Finset.univ fun j : Fin 7 => bigSep Finset.univ fun i : Fin 7 => owns (c : Thread nD τ) (amB (src c j)) (Transfers.shareTok fullShare 7 i) (am m (src c j))) : sProp 𝕄) := by
    unfold GA; rw [Head_all, ← bs_sep]
    exact bigSep_mono fun j _ => owns_lend c (amB (src c j)) (am m (src c j)) fullShare 7
  have hu5 : (iprop((bigSep Finset.univ fun j : Fin 7 => owns (c : Thread nD τ) (amB (src c j)) (Transfers.shareDrop fullShare 7) (am m (src c j)))
      ∗ bigSep Finset.univ fun j : Fin 7 => bigSep Finset.univ fun i : Fin 7 => owns (c : Thread nD τ) (amB (src c j)) (Transfers.shareTok fullShare 7 i) (am m (src c j))) : sProp 𝕄) ⊢ GA m c 5 7 := by
    unfold GA; rw [Head_all, ← bs_sep]
    exact bigSep_mono fun j _ => owns_unlend c (amB (src c j)) (am m (src c j)) fullShare 7
  have hs := split_src c fun t => owns (c : Thread nD τ) (amB t) (Transfers.shareDrop fullShare 7) (am m t)
  unfold AMo
  iintro Ho HG Hk
  ihave HG := hl5 $$ HG
  icases HG with ⟨Hd, Ht⟩
  ihave H := (show (iprop(owns (c : Thread nD τ) (amB c) (Transfers.shareDrop fullShare 7) (am m c)
      ∗ bigSep Finset.univ fun j : Fin 7 => owns (c : Thread nD τ) (amB (src c j)) (Transfers.shareDrop fullShare 7) (am m (src c j))) : sProp 𝕄) ⊢ owns (c : Thread nD τ) bA (Transfers.shareDrop fullShare 7) (AM m)
      from (Entails.of_eq hs.symm).trans (rows_join m c _)) $$ [Ho Hd]
  · isplitl [Ho] <;> iassumption
  iapply (st_loadZ c h0) $$ H
  iintro H
  ihave H := ((rows_split m c (Transfers.shareDrop fullShare 7)).trans (Entails.of_eq hs)) $$ H
  icases H with ⟨Ho, Hd⟩
  iapply Hk $$ Ho
  iapply hu5
  isplitl [Hd]; · iexact Hd
  iexact Ht

end Cert.KProof

end
-- ==== Proof.PartsA.lean ====
/- The body up to its last transfer of a block: the signals, the barrier and fourteen transfers. One lemma for each stretch of the printed program. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p1 {Q : (Σ' (d0 : Dev nD) (v2 : BitVec 32) (v19 : BitVec 32) (v29 : BitVec 32) (v30 : Sems sig S_) (v33 : BitVec 32) (v34 : BitVec 32) (v35 : BitVec 1) (v36 : BitVec 1), BitVec 32) → sProp 𝕄} :
    (ctx m K : sProp 𝕄) ⊢ iprop((∀ (r1 : BitVec 32) (r2 : BitVec 32) (r3 : BitVec 32) (r5 : BitVec 32) (r6 : BitVec 32) (r7 : BitVec 1) (r8 : BitVec 1) (r9 : BitVec 32), Q ⟨c, r1, r2, r3, (SemArray.scalar (sig.barrier 0 rfl)), r5, r6, r7, r8, r9⟩)
      -∗ WP c (k0_part1 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 ) Q) := by
  rw [k0_part1_eq_skeleton]; unfold k0_part1_skel
  simp only [semSignalWord, semWaitWord, Prog.lift, Prog.bind_op, Prog.bind_ret, Prog.pure_eq_ret]
  iintro #HI Hk
  iapply (WP_dev c)
  iapply (WP_ret c)
  iapply Hk

theorem p2 {Q : (BitVec 32) → sProp 𝕄} (v2 : BitVec 32) (v33 : BitVec 32) (v34 : BitVec 32) (v35 : BitVec 1) (v36 : BitVec 1) (c0_i32_17 : BitVec 32) :
    (ctx m K : sProp 𝕄) ⊢ iprop(owe c (Orem c 0 0 0 0 0) -∗ SB c 0 -∗ (∀ (r0 : BitVec 32), owe c (Orem c 3 0 0 0 0) -∗ SB c 3 -∗ Q r0)
      -∗ WP c (k0_part2 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (SemArray.scalar (sig.barrier 0 rfl)) v33 v34 v35 v36 c0_i32_17) Q) := by
  rw [k0_part2_eq_skeleton]; unfold k0_part2_skel
  simp only [semSignalWord, semWaitWord, Prog.lift, Prog.bind_op, Prog.bind_ret, Prog.pure_eq_ret]
  iintro #HI HO HSB Hk
  iapply (st_signal m K c 0 (n := 0) (n' := 1) rfl rfl (dev1_eq c) rfl rfl) $$ HI HO HSB
  iintro HO HSB
  iapply (st_signal m K c 1 (n := 1) (n' := 2) rfl rfl (dev2_eq c) rfl rfl) $$ HI HO HSB
  iintro HO HSB
  iapply (st_signal m K c 2 (n := 2) (n' := 3) rfl rfl (dev3_eq c) rfl rfl) $$ HI HO HSB
  iintro HO HSB
  iapply (WP_ret c)
  iapply Hk $$ HO HSB

theorem p3 {Q : (Σ' (v98 : BitVec 32) (v99 : BitVec 32) (v100 : BitVec 1) (v101 : BitVec 1), BitVec 32) → sProp 𝕄} (v2 : BitVec 32) (c4_i32_39 : BitVec 32) :
    (ctx m K : sProp 𝕄) ⊢ iprop(owe c (Orem c 3 0 0 0 0) -∗ SB c 3 -∗ (∀ (r0 : BitVec 32) (r1 : BitVec 32) (r2 : BitVec 1) (r3 : BitVec 1) (r4 : BitVec 32), owe c (Orem c 5 0 0 0 0) -∗ SB c 5 -∗ Q ⟨r0, r1, r2, r3, r4⟩)
      -∗ WP c (k0_part3 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (SemArray.scalar (sig.barrier 0 rfl)) c4_i32_39) Q) := by
  rw [k0_part3_eq_skeleton]; unfold k0_part3_skel
  simp only [semSignalWord, semWaitWord, Prog.lift, Prog.bind_op, Prog.bind_ret, Prog.pure_eq_ret]
  iintro #HI HO HSB Hk
  iapply (st_signal m K c 3 (n := 3) (n' := 4) rfl rfl (dev4_eq c) rfl rfl) $$ HI HO HSB
  iintro HO HSB
  iapply (st_signal m K c 4 (n := 4) (n' := 5) rfl rfl (dev5_eq c) rfl rfl) $$ HI HO HSB
  iintro HO HSB
  iapply (WP_ret c)
  iapply Hk $$ HO HSB

theorem p4 {Q : (Σ' (v132 : BitVec 32) (c4_i32_84 : BitVec 32) (v133 : BitVec 32), BitVec 1) → sProp 𝕄} (v2 : BitVec 32) (v98 : BitVec 32) (v99 : BitVec 32) (v100 : BitVec 1) (v101 : BitVec 1) (c0_i32_63 : BitVec 32) :
    (ctx m K : sProp 𝕄) ⊢ iprop(owe c (Orem c 5 0 0 0 0) -∗ SB c 5 -∗ cred (tallyAt (bar c) () 7) -∗ atPos (ER (F := F)) (bar c) 0 ∅ 0 -∗ (∀ (r0 : BitVec 32) (r1 : BitVec 32) (r2 : BitVec 32) (r3 : BitVec 1), owe c (Orem c 7 0 0 0 0) -∗ SB c 7 -∗ semVal (bar c) 0 -∗ LL c -∗ Q ⟨r0, r1, r2, r3⟩)
      -∗ WP c (k0_part4 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (SemArray.scalar (sig.barrier 0 rfl)) v98 v99 v100 v101 c0_i32_63) Q) := by
  rw [k0_part4_eq_skeleton]; unfold k0_part4_skel
  simp only [semSignalWord, semWaitWord, Prog.lift, Prog.bind_op, Prog.bind_ret, Prog.pure_eq_ret]
  iintro #HI HO HSB HBC HBA Hk
  iapply (st_signal m K c 5 (n := 5) (n' := 6) rfl rfl (dev6_eq c) rfl rfl) $$ HI HO HSB
  iintro HO HSB
  iapply (st_signal m K c 6 (n := 6) (n' := 7) rfl rfl (dev7_eq c) rfl rfl) $$ HI HO HSB
  iintro HO HSB
  iapply (st_barwait m K c rfl rfl) $$ HI HO HBC HBA
  iintro HO HBZ HBL
  iapply (WP_ret c)
  iapply Hk $$ HO HSB HBZ HBL

theorem p5 {Q : (PUnit) → sProp 𝕄} (v2 : BitVec 32) (v132 : BitVec 32) (c4_i32_84 : BitVec 32) (v133 : BitVec 32) (v134 : BitVec 1) :
    (ctx m K : sProp 𝕄) ⊢ iprop(owe c (Orem c 7 0 0 0 0) -∗ SW m c 0 -∗ (owe c (Orem c 7 1 0 0 0) -∗ SW m c 1 -∗ Q ⟨⟩)
      -∗ WP c (k0_part5 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v132 c4_i32_84 v133 v134) Q) := by
  rw [k0_part5_eq_skeleton]; unfold k0_part5_skel
  simp only [semSignalWord, semWaitWord, Prog.lift, Prog.bind_op, Prog.bind_ret, Prog.pure_eq_ret]
  iintro #HI HO HSW Hk
  iapply (st_sendW m K c 0 (n := 0) (n' := 1) rfl rfl (dev8_eq c) (Memref.slice_unit_congr aW (off2_eq c 0) _ _ _ _) rfl rfl) $$ HI HO HSW
  iintro HO HSW
  iapply (WP_ret c)
  iapply Hk $$ HO HSW

theorem p6 {Q : (Σ' (v190 : BitVec 32) (v207 : BitVec 32) (c4_i32_125 : BitVec 32) (v208 : BitVec 1), BitVec 32) → sProp 𝕄} (v2 : BitVec 32) (v132 : BitVec 32) :
    (ctx m K : sProp 𝕄) ⊢ iprop(owe c (Orem c 7 1 0 0 0) -∗ SX m c 0 -∗ (∀ (r0 : BitVec 32) (r1 : BitVec 32) (r2 : BitVec 32) (r3 : BitVec 1) (r4 : BitVec 32), owe c (Orem c 7 1 1 0 0) -∗ SX m c 1 -∗ Q ⟨r0, r1, r2, r3, r4⟩)
      -∗ WP c (k0_part6 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v132) Q) := by
  rw [k0_part6_eq_skeleton]; unfold k0_part6_skel
  simp only [semSignalWord, semWaitWord, Prog.lift, Prog.bind_op, Prog.bind_ret, Prog.pure_eq_ret]
  iintro #HI HO HSX Hk
  iapply (st_sendX m K c 0 (n := 0) (n' := 1) rfl rfl (dev9_eq c) (Memref.slice_unit_congr aX (off4_eq c 0) _ _ _ _) rfl rfl) $$ HI HO HSX
  iintro HO HSX
  iapply (WP_ret c)
  iapply Hk $$ HO HSX

theorem p7 {Q : (Σ' (v240 : BitVec 32) (v241 : BitVec 32), BitVec 1) → sProp 𝕄} (v2 : BitVec 32) (v190 : BitVec 32) (v207 : BitVec 32) (c4_i32_125 : BitVec 32) (v208 : BitVec 1) (c1_i32_127 : BitVec 32) :
    (ctx m K : sProp 𝕄) ⊢ iprop(owe c (Orem c 7 1 1 0 0) -∗ SW m c 1 -∗ SX m c 1 -∗ (∀ (r0 : BitVec 32) (r1 : BitVec 32) (r2 : BitVec 1), owe c (Orem c 7 2 2 0 0) -∗ SW m c 2 -∗ SX m c 2 -∗ Q ⟨r0, r1, r2⟩)
      -∗ WP c (k0_part7 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v190 v207 c4_i32_125 v208 c1_i32_127) Q) := by
  rw [k0_part7_eq_skeleton]; unfold k0_part7_skel
  simp only [semSignalWord, semWaitWord, Prog.lift, Prog.bind_op, Prog.bind_ret, Prog.pure_eq_ret]
  iintro #HI HO HSW HSX Hk
  iapply (st_sendW m K c 1 (n := 1) (n' := 2) rfl rfl (dev10_eq c) (Memref.slice_unit_congr aW (off2_eq c 1) _ _ _ _) rfl rfl) $$ HI HO HSW
  iintro HO HSW
  iapply (st_sendX m K c 1 (n := 1) (n' := 2) rfl rfl (dev11_eq c) (Memref.slice_unit_congr aX (off4_eq c 1) _ _ _ _) rfl rfl) $$ HI HO HSX
  iintro HO HSX
  iapply (WP_ret c)
  iapply Hk $$ HO HSW HSX

theorem p8 {Q : (Σ' (v248 : BitVec 32), BitVec 32) → sProp 𝕄} (v2 : BitVec 32) (v240 : BitVec 32) (v241 : BitVec 32) (v242 : BitVec 1) :
    (ctx m K : sProp 𝕄) ⊢ iprop((∀ (r0 : BitVec 32) (r1 : BitVec 32), Q ⟨r0, r1⟩)
      -∗ WP c (k0_part8 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 v2 v240 v241 v242) Q) := by
  rw [k0_part8_eq_skeleton]; unfold k0_part8_skel
  simp only [semSignalWord, semWaitWord, Prog.lift, Prog.bind_op, Prog.bind_ret, Prog.pure_eq_ret]
  iintro #HI Hk
  iapply (WP_ret c)
  iapply Hk

theorem p9 {Q : (Σ' (v306 : BitVec 32) (c4_i32_190 : BitVec 32) (v307 : BitVec 32) (v312 : BitVec 32), BitVec 32) → sProp 𝕄} (v2 : BitVec 32) (v248 : BitVec 32) (v265 : BitVec 32) :
    (ctx m K : sProp 𝕄) ⊢ iprop(owe c (Orem c 7 2 2 0 0) -∗ SW m c 2 -∗ SX m c 2 -∗ (∀ (r0 : BitVec 32) (r1 : BitVec 32) (r2 : BitVec 32) (r3 : BitVec 32) (r4 : BitVec 32), owe c (Orem c 7 3 3 0 0) -∗ SW m c 3 -∗ SX m c 3 -∗ Q ⟨r0, r1, r2, r3, r4⟩)
      -∗ WP c (k0_part9 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v248 v265) Q) := by
  rw [k0_part9_eq_skeleton]; unfold k0_part9_skel
  simp only [semSignalWord, semWaitWord, Prog.lift, Prog.bind_op, Prog.bind_ret, Prog.pure_eq_ret]
  iintro #HI HO HSW HSX Hk
  iapply (st_sendW m K c 2 (n := 2) (n' := 3) rfl rfl (dev12_eq c) (Memref.slice_unit_congr aW (off2_eq c 2) _ _ _ _) rfl rfl) $$ HI HO HSW
  iintro HO HSW
  iapply (st_sendX m K c 2 (n := 2) (n' := 3) rfl rfl (dev13_eq c) (Memref.slice_unit_congr aX (off4_eq c 2) _ _ _ _) rfl rfl) $$ HI HO HSX
  iintro HO HSX
  iapply (WP_ret c)
  iapply Hk $$ HO HSW HSX

theorem p10 {Q : (PUnit) → sProp 𝕄} (v2 : BitVec 32) (v306 : BitVec 32) (c4_i32_190 : BitVec 32) (v307 : BitVec 32) (v312 : BitVec 32) (v317 : BitVec 32) :
    (ctx m K : sProp 𝕄) ⊢ iprop(owe c (Orem c 7 3 3 0 0) -∗ SW m c 3 -∗ (owe c (Orem c 7 4 3 0 0) -∗ SW m c 4 -∗ Q ⟨⟩)
      -∗ WP c (k0_part10 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v306 c4_i32_190 v307 v312 v317) Q) := by
  rw [k0_part10_eq_skeleton]; unfold k0_part10_skel
  simp only [semSignalWord, semWaitWord, Prog.lift, Prog.bind_op, Prog.bind_ret, Prog.pure_eq_ret]
  iintro #HI HO HSW Hk
  iapply (st_sendW m K c 3 (n := 3) (n' := 4) rfl rfl (dev14_eq c) (Memref.slice_unit_congr aW (off2_eq c 3) _ _ _ _) rfl rfl) $$ HI HO HSW
  iintro HO HSW
  iapply (WP_ret c)
  iapply Hk $$ HO HSW

theorem p11 {Q : (Σ' (v364 : BitVec 32) (v381 : BitVec 32), BitVec 32) → sProp 𝕄} (v2 : BitVec 32) :
    (ctx m K : sProp 𝕄) ⊢ iprop(owe c (Orem c 7 4 3 0 0) -∗ SX m c 3 -∗ (∀ (r0 : BitVec 32) (r1 : BitVec 32) (r2 : BitVec 32), owe c (Orem c 7 4 4 0 0) -∗ SX m c 4 -∗ Q ⟨r0, r1, r2⟩)
      -∗ WP c (k0_part11 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2) Q) := by
  rw [k0_part11_eq_skeleton]; unfold k0_part11_skel
  simp only [semSignalWord, semWaitWord, Prog.lift, Prog.bind_op, Prog.bind_ret, Prog.pure_eq_ret]
  iintro #HI HO HSX Hk
  iapply (st_sendX m K c 3 (n := 3) (n' := 4) rfl rfl (dev15_eq c) (Memref.slice_unit_congr aX (off4_eq c 3) _ _ _ _) rfl rfl) $$ HI HO HSX
  iintro HO HSX
  iapply (WP_ret c)
  iapply Hk $$ HO HSX

theorem p12 {Q : (Σ' (v422 : BitVec 32) (c4_i32_262 : BitVec 32) (v423 : BitVec 32), BitVec 1) → sProp 𝕄} (v2 : BitVec 32) (v364 : BitVec 32) (v381 : BitVec 32) (v391 : BitVec 32) :
    (ctx m K : sProp 𝕄) ⊢ iprop(owe c (Orem c 7 4 4 0 0) -∗ SW m c 4 -∗ SX m c 4 -∗ (∀ (r0 : BitVec 32) (r1 : BitVec 32) (r2 : BitVec 32) (r3 : BitVec 1), owe c (Orem c 7 5 5 0 0) -∗ SW m c 5 -∗ SX m c 5 -∗ Q ⟨r0, r1, r2, r3⟩)
      -∗ WP c (k0_part12 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v364 v381 v391) Q) := by
  rw [k0_part12_eq_skeleton]; unfold k0_part12_skel
  simp only [semSignalWord, semWaitWord, Prog.lift, Prog.bind_op, Prog.bind_ret, Prog.pure_eq_ret]
  iintro #HI HO HSW HSX Hk
  iapply (st_sendW m K c 4 (n := 4) (n' := 5) rfl rfl (dev16_eq c) (Memref.slice_unit_congr aW (off2_eq c 4) _ _ _ _) rfl rfl) $$ HI HO HSW
  iintro HO HSW
  iapply (st_sendX m K c 4 (n := 4) (n' := 5) rfl rfl (dev17_eq c) (Memref.slice_unit_congr aX (off4_eq c 4) _ _ _ _) rfl rfl) $$ HI HO HSX
  iintro HO HSX
  iapply (WP_ret c)
  iapply Hk $$ HO HSW HSX

theorem p13 {Q : (PUnit) → sProp 𝕄} (v2 : BitVec 32) (v422 : BitVec 32) (c4_i32_262 : BitVec 32) (v423 : BitVec 32) (v424 : BitVec 1) :
    (ctx m K : sProp 𝕄) ⊢ iprop(owe c (Orem c 7 5 5 0 0) -∗ SW m c 5 -∗ (owe c (Orem c 7 6 5 0 0) -∗ SW m c 6 -∗ Q ⟨⟩)
      -∗ WP c (k0_part13 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v422 c4_i32_262 v423 v424) Q) := by
  rw [k0_part13_eq_skeleton]; unfold k0_part13_skel
  simp only [semSignalWord, semWaitWord, Prog.lift, Prog.bind_op, Prog.bind_ret, Prog.pure_eq_ret]
  iintro #HI HO HSW Hk
  iapply (st_sendW m K c 5 (n := 5) (n' := 6) rfl rfl (dev18_eq c) (Memref.slice_unit_congr aW (off2_eq c 5) _ _ _ _) rfl rfl) $$ HI HO HSW
  iintro HO HSW
  iapply (WP_ret c)
  iapply Hk $$ HO HSW

theorem p14 {Q : (Σ' (v480 : BitVec 32) (v497 : BitVec 32) (c4_i32_305 : BitVec 32) (v498 : BitVec 1), BitVec 32) → sProp 𝕄} (v2 : BitVec 32) (v422 : BitVec 32) :
    (ctx m K : sProp 𝕄) ⊢ iprop(owe c (Orem c 7 6 5 0 0) -∗ SX m c 5 -∗ (∀ (r0 : BitVec 32) (r1 : BitVec 32) (r2 : BitVec 32) (r3 : BitVec 1) (r4 : BitVec 32), owe c (Orem c 7 6 6 0 0) -∗ SX m c 6 -∗ Q ⟨r0, r1, r2, r3, r4⟩)
      -∗ WP c (k0_part14 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v422) Q) := by
  rw [k0_part14_eq_skeleton]; unfold k0_part14_skel
  simp only [semSignalWord, semWaitWord, Prog.lift, Prog.bind_op, Prog.bind_ret, Prog.pure_eq_ret]
  iintro #HI HO HSX Hk
  iapply (st_sendX m K c 5 (n := 5) (n' := 6) rfl rfl (dev19_eq c) (Memref.slice_unit_congr aX (off4_eq c 5) _ _ _ _) rfl rfl) $$ HI HO HSX
  iintro HO HSX
  iapply (WP_ret c)
  iapply Hk $$ HO HSX

theorem p15 {Q : (PUnit) → sProp 𝕄} (v2 : BitVec 32) (v19 : BitVec 32) (v29 : BitVec 32) (v480 : BitVec 32) (v497 : BitVec 32) (c4_i32_305 : BitVec 32) (v498 : BitVec 1) (c1_i32_307 : BitVec 32) :
    (ctx m K : sProp 𝕄) ⊢ iprop(owe c (Orem c 7 6 6 0 0) -∗ SW m c 6 -∗ SX m c 6 -∗ GX0 m c -∗ Idle c bX CX -∗ GW0 m c -∗ Idle c bW CW -∗ (owe c (Orem c 7 7 7 0 0) -∗ SW m c 7 -∗ SX m c 7 -∗ Going c bX CX (xb m c c) -∗ Going c bW CW (wb m c c) -∗ Q ⟨⟩)
      -∗ WP c (k0_part15 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 v480 v497 c4_i32_305 v498 c1_i32_307) Q) := by
  rw [k0_part15_eq_skeleton]; unfold k0_part15_skel
  simp only [semSignalWord, semWaitWord, Prog.lift, Prog.bind_op, Prog.bind_ret, Prog.pure_eq_ret]
  iintro #HI HO HSW HSX HI0 HX HJ0 HW Hk
  iapply (st_sendW m K c 6 (n := 6) (n' := 7) rfl rfl (dev20_eq c) (Memref.slice_unit_congr aW (off2_eq c 6) _ _ _ _) rfl rfl) $$ HI HO HSW
  iintro HO HSW
  iapply (st_sendX m K c 6 (n := 6) (n' := 7) rfl rfl (dev21_eq c) (Memref.slice_unit_congr aX (off4_eq c 6) _ _ _ _) rfl rfl) $$ HI HO HSX
  iintro HO HSX
  iapply (st_fill c bX CX (View.dmaCredit_pos _ (by decide)) (xR c) (Transfers.shareTok fullShare 8 7) (xb m c c) (P := GX0 m c) (Entails.of_eq rfl) rfl rfl) $$ HI0 HX
  iintro HX
  iapply (st_fill c bW CW (View.dmaCredit_pos _ (by decide)) (wR c) (Transfers.shareTok fullShare 8 7) (wb m c c) (P := GW0 m c) (Entails.of_eq rfl) rfl rfl) $$ HJ0 HW
  iintro HW
  iapply (WP_ret c)
  iapply Hk $$ HO HSW HSX HX HW

end Cert.KProof
-- ==== Proof.PartsB.lean ====
/- The body from the first product to the maximum: seven blocks taken in, each after its wait. One lemma for each stretch of the printed program. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p16 {Q : (BitVec 32) → sProp 𝕄} (v2 : BitVec 32) (v132 : BitVec 32) :
    (ctx m K : sProp 𝕄) ⊢ iprop(owe c (Orem c 7 7 7 0 0) -∗ Going c bX CX (xb m c c) -∗ Going c bW CW (wb m c c) -∗ YA c -∗ RC c 1 0 -∗ (∀ (r0 : BitVec 32), owe c (Orem c 7 7 7 0 0) -∗ Going c bX CX (xb m c (src c 0)) -∗ Full c bW CW (wb m c c) -∗ YD m c 0 -∗ RC c 1 1 -∗ Q r0)
      -∗ WP c (k0_part16 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v132) Q) := by
  rw [k0_part16_eq_skeleton]; unfold k0_part16_skel
  simp only [semSignalWord, semWaitWord, Prog.lift, Prog.bind_op, Prog.bind_ret, Prog.pure_eq_ret]
  iintro #HI HO HX HW HY HRC1 Hk
  iapply (st_filled m K c bX CX (by decide) rfl) $$ HI HO HX
  iintro HO HX
  iapply (st_filled m K c bW CW (by decide) rfl) $$ HI HO HW
  iintro HO HW
  iapply (st_loadFull c bX CX (by decide)) $$ HX
  iintro HX
  iapply (st_loadFull c bW CW (by decide)) $$ HW
  iintro HW
  iapply (st_loadJ c (M := bY) (by decide)) $$ HY
  iintro %_ HY
  iapply (st_storeJ c (M := bY) (Yacc m c 0) rfl (by decide)) $$ HY
  iintro HY
  iapply (st_recvX m K c 0 (n := 0) (n' := 1) rfl rfl (dstw := xgB c) rfl rfl) $$ HI HO HRC1
  iintro HO HRC1 HGX0
  ihave HX := full_idle c $$ HX
  iapply (st_fill c bX CX (View.dmaCredit_pos _ (by decide)) (xgB (src c 0)) fullShare (xb m c (src c 0)) (P := GX m c (src c 0)) (Entails.of_eq rfl) (Memref.slice_unit_congr gX (off7_eq c 0) _ _ _ _) rfl) $$ HGX0 HX
  iintro HX
  iapply (WP_ret c)
  iapply Hk $$ HO HX HW HY HRC1

theorem p17 {Q : (BitVec 32) → sProp 𝕄} (v2 : BitVec 32) (v190 : BitVec 32) (v548 : BitVec 32) :
    (ctx m K : sProp 𝕄) ⊢ iprop(owe c (Orem c 7 7 7 0 0) -∗ RC c 3 0 -∗ Full c bW CW (wb m c c) -∗ Going c bX CX (xb m c (src c 0)) -∗ YD m c 0 -∗ (∀ (r0 : BitVec 32), owe c (Orem c 7 7 7 0 0) -∗ RC c 3 1 -∗ Full c bW CW (wb m c (src c 0)) -∗ Full c bX CX (xb m c (src c 0)) -∗ YD m c 1 -∗ Q r0)
      -∗ WP c (k0_part17 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v190 v548) Q) := by
  rw [k0_part17_eq_skeleton]; unfold k0_part17_skel
  simp only [semSignalWord, semWaitWord, Prog.lift, Prog.bind_op, Prog.bind_ret, Prog.pure_eq_ret]
  iintro #HI HO HRC3 HW HX HY Hk
  iapply (st_recvW m K c 0 (n := 0) (n' := 1) rfl rfl (dstw := wgB c) rfl rfl) $$ HI HO HRC3
  iintro HO HRC3 HGW0
  ihave HW := full_idle c $$ HW
  iapply (st_fill c bW CW (View.dmaCredit_pos _ (by decide)) (wgB (src c 0)) fullShare (wb m c (src c 0)) (P := GW m c (src c 0)) (Entails.of_eq rfl) (Memref.slice_unit_congr gW (off8_eq c 0) _ _ _ _) rfl) $$ HGW0 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 1 rfl (by decide)) $$ HY
  iintro HY
  iapply (WP_ret c)
  iapply Hk $$ HO HRC3 HW HX HY

theorem p18 {Q : (Σ' (v612 : BitVec 32), BitVec 32) → sProp 𝕄} (v2 : BitVec 32) (v190 : BitVec 32) (v584 : BitVec 32) :
    (ctx m K : sProp 𝕄) ⊢ iprop(owe c (Orem c 7 7 7 0 0) -∗ RC c 1 1 -∗ Full c bX CX (xb m c (src c 0)) -∗ RC c 3 1 -∗ Full c bW CW (wb m c (src c 0)) -∗ YD m c 1 -∗ (∀ (r0 : BitVec 32) (r1 : BitVec 32), owe c (Orem c 7 7 7 0 0) -∗ RC c 1 2 -∗ Full c bX CX (xb m c (src c 1)) -∗ RC c 3 2 -∗ Full c bW CW (wb m c (src c 1)) -∗ YD m c 2 -∗ Q ⟨r0, r1⟩)
      -∗ WP c (k0_part18 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v190 v584) Q) := by
  rw [k0_part18_eq_skeleton]; unfold k0_part18_skel
  simp only [semSignalWord, semWaitWord, Prog.lift, Prog.bind_op, Prog.bind_ret, Prog.pure_eq_ret]
  iintro #HI HO HRC1 HX HRC3 HW HY Hk
  iapply (st_recvX m K c 1 (n := 1) (n' := 2) rfl rfl (dstw := xgB c) rfl rfl) $$ HI HO HRC1
  iintro HO HRC1 HGX1
  ihave HX := full_idle c $$ HX
  iapply (st_fill c bX CX (View.dmaCredit_pos _ (by decide)) (xgB (src c 1)) fullShare (xb m c (src c 1)) (P := GX m c (src c 1)) (Entails.of_eq rfl) (Memref.slice_unit_congr gX (off7_eq c 1) _ _ _ _) rfl) $$ HGX1 HX
  iintro HX
  iapply (st_recvW m K c 1 (n := 1) (n' := 2) rfl rfl (dstw := wgB c) rfl rfl) $$ HI HO HRC3
  iintro HO HRC3 HGW1
  ihave HW := full_idle c $$ HW
  iapply (st_fill c bW CW (View.dmaCredit_pos _ (by decide)) (wgB (src c 1)) fullShare (wb m c (src c 1)) (P := GW m c (src c 1)) (Entails.of_eq rfl) (Memref.slice_unit_congr gW (off8_eq c 1) _ _ _ _) rfl) $$ HGW1 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 2 rfl (by decide)) $$ HY
  iintro HY
  iapply (WP_ret c)
  iapply Hk $$ HO HRC1 HX HRC3 HW HY

theorem p19 {Q : (Σ' (v640 : FVec F S2048x2048 .f32), Vec F S2048x512 .bf16) → sProp 𝕄} (v248 : BitVec 32) (v612 : BitVec 32) (v613 : BitVec 32) :
    (ctx m K : sProp 𝕄) ⊢ iprop(owe c (Orem c 7 7 7 0 0) -∗ RC c 1 2 -∗ Full c bX CX (xb m c (src c 1)) -∗ RC c 3 2 -∗ Full c bW CW (wb m c (src c 1)) -∗ YD m c 2 -∗ (owe c (Orem c 7 7 7 0 0) -∗ RC c 1 3 -∗ Full c bX CX (xb m c (src c 2)) -∗ RC c 3 3 -∗ Full c bW CW (wb m c (src c 2)) -∗ YD m c 2 -∗ Q ⟨k0_pay4 (Yacc m c 2), (xb m c (src c 2))⟩)
      -∗ WP c (k0_part19 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v248 v612 v613) Q) := by
  rw [k0_part19_eq_skeleton]; unfold k0_part19_skel
  simp only [semSignalWord, semWaitWord, Prog.lift, Prog.bind_op, Prog.bind_ret, Prog.pure_eq_ret]
  iintro #HI HO HRC1 HX HRC3 HW HY Hk
  iapply (st_recvX m K c 2 (n := 2) (n' := 3) rfl rfl (dstw := xgB c) rfl rfl) $$ HI HO HRC1
  iintro HO HRC1 HGX2
  ihave HX := full_idle c $$ HX
  iapply (st_fill c bX CX (View.dmaCredit_pos _ (by decide)) (xgB (src c 2)) fullShare (xb m c (src c 2)) (P := GX m c (src c 2)) (Entails.of_eq rfl) (Memref.slice_unit_congr gX (off7_eq c 2) _ _ _ _) rfl) $$ HGX2 HX
  iintro HX
  iapply (st_recvW m K c 2 (n := 2) (n' := 3) rfl rfl (dstw := wgB c) rfl rfl) $$ HI HO HRC3
  iintro HO HRC3 HGW2
  ihave HW := full_idle c $$ HW
  iapply (st_fill c bW CW (View.dmaCredit_pos _ (by decide)) (wgB (src c 2)) fullShare (wb m c (src c 2)) (P := GW m c (src c 2)) (Entails.of_eq rfl) (Memref.slice_unit_congr gW (off8_eq c 2) _ _ _ _) rfl) $$ HGW2 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (WP_ret c)
  iapply Hk $$ HO HRC1 HX HRC3 HW HY

theorem p20 {Q : (PUnit) → sProp 𝕄} (v2 : BitVec 32) (v306 : BitVec 32) :
    (ctx m K : sProp 𝕄) ⊢ iprop(Full c bW CW (wb m c (src c 2)) -∗ YD m c 2 -∗ owe c (Orem c 7 7 7 0 0) -∗ RC c 1 3 -∗ Full c bX CX (xb m c (src c 2)) -∗ RC c 3 3 -∗ (Full c bW CW (wb m c (src c 2)) -∗ YD m c 3 -∗ owe c (Orem c 7 7 7 0 0) -∗ RC c 1 4 -∗ Going c bX CX (xb m c (src c 3)) -∗ RC c 3 4 -∗ GW m c (src c 3) -∗ Q ⟨⟩)
      -∗ WP c (k0_part20 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v306 (k0_pay4 (Yacc m c 2)) ((xb m c (src c 2)))) Q) := by
  rw [k0_part20_eq_skeleton]; unfold k0_part20_skel
  simp only [semSignalWord, semWaitWord, Prog.lift, Prog.bind_op, Prog.bind_ret, Prog.pure_eq_ret]
  iintro #HI HW HY HO HRC1 HX HRC3 Hk
  iapply (st_loadFull c bW CW (by decide)) $$ HW
  iintro HW
  iapply (st_loadY m c (by decide)) $$ HY
  iintro HY
  iapply (st_storeY m c 3 rfl (by decide)) $$ HY
  iintro HY
  iapply (st_recvX m K c 3 (n := 3) (n' := 4) rfl rfl (dstw := xgB c) rfl rfl) $$ HI HO HRC1
  iintro HO HRC1 HGX3
  ihave HX := full_idle c $$ HX
  iapply (st_fill c bX CX (View.dmaCredit_pos _ (by decide)) (xgB (src c 3)) fullShare (xb m c (src c 3)) (P := GX m c (src c 3)) (Entails.of_eq rfl) (Memref.slice_unit_congr gX (off7_eq c 3) _ _ _ _) rfl) $$ HGX3 HX
  iintro HX
  iapply (st_recvW m K c 3 (n := 3) (n' := 4) rfl rfl (dstw := wgB c) rfl rfl) $$ HI HO HRC3
  iintro HO HRC3 HGW3
  iapply (WP_ret c)
  iapply Hk $$ HW HY HO HRC1 HX HRC3 HGW3

theorem p21 {Q : (BitVec 32) → sProp 𝕄} (v2 : BitVec 32) (v364 : BitVec 32) :
    (ctx m K : sProp 𝕄) ⊢ iprop(Full c bW CW (wb m c (src c 2)) -∗ GW m c (src c 3) -∗ owe c (Orem c 7 7 7 0 0) -∗ Going c bX CX (xb m c (src c 3)) -∗ YD m c 3 -∗ RC c 1 4 -∗ (∀ (r0 : BitVec 32), Full c bW CW (wb m c (src c 3)) -∗ owe c (Orem c 7 7 7 0 0) -∗ Full c bX CX (xb m c (src c 3)) -∗ YD m c 4 -∗ RC c 1 5 -∗ GX m c (src c 4) -∗ Q r0)
      -∗ WP c (k0_part21 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v364) Q) := by
  rw [k0_part21_eq_skeleton]; unfold k0_part21_skel
  simp only [semSignalWord, semWaitWord, Prog.lift, Prog.bind_op, Prog.bind_ret, Prog.pure_eq_ret]
  iintro #HI HW HGW3 HO HX HY HRC1 Hk
  ihave HW := full_idle c $$ HW
  iapply (st_fill c bW CW (View.dmaCredit_pos _ (by decide)) (wgB (src c 3)) fullShare (wb m c (src c 3)) (P := GW m c (src c 3)) (Entails.of_eq rfl) (Memref.slice_unit_congr gW (off8_eq c 3) _ _ _ _) rfl) $$ HGW3 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 4 rfl (by decide)) $$ HY
  iintro HY
  iapply (st_recvX m K c 4 (n := 4) (n' := 5) rfl rfl (dstw := xgB c) rfl rfl) $$ HI HO HRC1
  iintro HO HRC1 HGX4
  iapply (WP_ret c)
  iapply Hk $$ HW HO HX HY HRC1 HGX4

theorem p22 {Q : (Σ' (v721 : BitVec 32) (v726 : BitVec 1), BitVec 32) → sProp 𝕄} (v2 : BitVec 32) (v364 : BitVec 32) (v692 : BitVec 32) :
    (ctx m K : sProp 𝕄) ⊢ iprop(Full c bX CX (xb m c (src c 3)) -∗ GX m c (src c 4) -∗ owe c (Orem c 7 7 7 0 0) -∗ RC c 3 4 -∗ Full c bW CW (wb m c (src c 3)) -∗ YD m c 4 -∗ (∀ (r0 : BitVec 32) (r1 : BitVec 1) (r2 : BitVec 32), Full c bX CX (xb m c (src c 4)) -∗ owe c (Orem c 7 7 7 0 0) -∗ RC c 3 5 -∗ Full c bW CW (wb m c (src c 4)) -∗ YD m c 5 -∗ Q ⟨r0, r1, r2⟩)
      -∗ WP c (k0_part22 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v364 v692) Q) := by
  rw [k0_part22_eq_skeleton]; unfold k0_part22_skel
  simp only [semSignalWord, semWaitWord, Prog.lift, Prog.bind_op, Prog.bind_ret, Prog.pure_eq_ret]
  iintro #HI HX HGX4 HO HRC3 HW HY Hk
  ihave HX := full_idle c $$ HX
  iapply (st_fill c bX CX (View.dmaCredit_pos _ (by decide)) (xgB (src c 4)) fullShare (xb m c (src c 4)) (P := GX m c (src c 4)) (Entails.of_eq rfl) (Memref.slice_unit_congr gX (off7_eq c 4) _ _ _ _) rfl) $$ HGX4 HX
  iintro HX
  iapply (st_recvW m K c 4 (n := 4) (n' := 5) rfl rfl (dstw := wgB c) rfl rfl) $$ HI HO HRC3
  iintro HO HRC3 HGW4
  ihave HW := full_idle c $$ HW
  iapply (st_fill c bW CW (View.dmaCredit_pos _ (by decide)) (wgB (src c 4)) fullShare (wb m c (src c 4)) (P := GW m c (src c 4)) (Entails.of_eq rfl) (Memref.slice_unit_congr gW (off8_eq c 4) _ _ _ _) rfl) $$ HGW4 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 5 rfl (by decide)) $$ HY
  iintro HY
  iapply (WP_ret c)
  iapply Hk $$ HX HO HRC3 HW HY

theorem p23 {Q : (PUnit) → sProp 𝕄} (v422 : BitVec 32) (v721 : BitVec 32) (v726 : BitVec 1) (v727 : BitVec 32) :
    (ctx m K : sProp 𝕄) ⊢ iprop(owe c (Orem c 7 7 7 0 0) -∗ RC c 1 5 -∗ Full c bX CX (xb m c (src c 4)) -∗ RC c 3 5 -∗ Full c bW CW (wb m c (src c 4)) -∗ YD m c 5 -∗ (owe c (Orem c 7 7 7 0 0) -∗ RC c 1 6 -∗ Full c bX CX (xb m c (src c 5)) -∗ RC c 3 6 -∗ Full c bW CW (wb m c (src c 5)) -∗ YD m c 6 -∗ Q ⟨⟩)
      -∗ WP c (k0_part23 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v422 v721 v726 v727) Q) := by
  rw [k0_part23_eq_skeleton]; unfold k0_part23_skel
  simp only [semSignalWord, semWaitWord, Prog.lift, Prog.bind_op, Prog.bind_ret, Prog.pure_eq_ret]
  iintro #HI HO HRC1 HX HRC3 HW HY Hk
  iapply (st_recvX m K c 5 (n := 5) (n' := 6) rfl rfl (dstw := xgB c) rfl rfl) $$ HI HO HRC1
  iintro HO HRC1 HGX5
  ihave HX := full_idle c $$ HX
  iapply (st_fill c bX CX (View.dmaCredit_pos _ (by decide)) (xgB (src c 5)) fullShare (xb m c (src c 5)) (P := GX m c (src c 5)) (Entails.of_eq rfl) (Memref.slice_unit_congr gX (off7_eq c 5) _ _ _ _) rfl) $$ HGX5 HX
  iintro HX
  iapply (st_recvW m K c 5 (n := 5) (n' := 6) rfl rfl (dstw := wgB c) rfl rfl) $$ HI HO HRC3
  iintro HO HRC3 HGW5
  ihave HW := full_idle c $$ HW
  iapply (st_fill c bW CW (View.dmaCredit_pos _ (by decide)) (wgB (src c 5)) fullShare (wb m c (src c 5)) (P := GW m c (src c 5)) (Entails.of_eq rfl) (Memref.slice_unit_congr gW (off8_eq c 5) _ _ _ _) rfl) $$ HGW5 HW
  iintro HW
  iapply (st_filled m K c bX CX (by decide) rfl) $$ HI HO HX
  iintro HO HX
  iapply (st_filled m K c bW CW (by decide) rfl) $$ HI HO HW
  iintro HO HW
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 6 rfl (by decide)) $$ HY
  iintro HY
  iapply (WP_ret c)
  iapply Hk $$ HO HRC1 HX HRC3 HW HY

theorem p24 {Q : (PUnit) → sProp 𝕄} (v2 : BitVec 32) (v480 : BitVec 32) :
    (ctx m K : sProp 𝕄) ⊢ iprop(owe c (Orem c 7 7 7 0 0) -∗ RC c 1 6 -∗ Full c bX CX (xb m c (src c 5)) -∗ RC c 3 6 -∗ Full c bW CW (wb m c (src c 5)) -∗ (owe c (Orem c 7 7 7 0 0) -∗ RC c 1 7 -∗ Full c bX CX (xb m c (src c 6)) -∗ RC c 3 7 -∗ Full c bW CW (wb m c (src c 6)) -∗ Q ⟨⟩)
      -∗ WP c (k0_part24 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v480) Q) := by
  rw [k0_part24_eq_skeleton]; unfold k0_part24_skel
  simp only [semSignalWord, semWaitWord, Prog.lift, Prog.bind_op, Prog.bind_ret, Prog.pure_eq_ret]
  iintro #HI HO HRC1 HX HRC3 HW Hk
  iapply (st_recvX m K c 6 (n := 6) (n' := 7) rfl rfl (dstw := xgB c) rfl rfl) $$ HI HO HRC1
  iintro HO HRC1 HGX6
  ihave HX := full_idle c $$ HX
  iapply (st_fill c bX CX (View.dmaCredit_pos _ (by decide)) (xgB (src c 6)) fullShare (xb m c (src c 6)) (P := GX m c (src c 6)) (Entails.of_eq rfl) (Memref.slice_unit_congr gX (off7_eq c 6) _ _ _ _) rfl) $$ HGX6 HX
  iintro HX
  iapply (st_recvW m K c 6 (n := 6) (n' := 7) rfl rfl (dstw := wgB c) rfl rfl) $$ HI HO HRC3
  iintro HO HRC3 HGW6
  ihave HW := full_idle c $$ HW
  iapply (st_fill c bW CW (View.dmaCredit_pos _ (by decide)) (wgB (src c 6)) fullShare (wb m c (src c 6)) (P := GW m c (src c 6)) (Entails.of_eq rfl) (Memref.slice_unit_congr gW (off8_eq c 6) _ _ _ _) rfl) $$ HGW6 HW
  iintro HW
  iapply (st_filled m K c bX CX (by decide) rfl) $$ HI HO HX
  iintro HO HX
  iapply (st_filled m K c bW CW (by decide) rfl) $$ HI HO HW
  iintro HO HW
  iapply (WP_ret c)
  iapply Hk $$ HO HRC1 HX HRC3 HW

theorem p25 {Q : (BitVec 32) → sProp 𝕄} (v2 : BitVec 32) :
    (ctx m K : sProp 𝕄) ⊢ iprop(YD m c 6 -∗ Full c bX CX (xb m c (src c 6)) -∗ Full c bW CW (wb m c (src c 6)) -∗ any c (amB c) -∗ (∀ (r0 : BitVec 32), YD m c 7 -∗ Full c bX CX (xb m c (src c 6)) -∗ Full c bW CW (wb m c (src c 6)) -∗ owns (c : Thread nD τ) (amB c) fullShare (am m c) -∗ Q r0)
      -∗ WP c (k0_part25 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2) Q) := by
  rw [k0_part25_eq_skeleton]; unfold k0_part25_skel
  simp only [semSignalWord, semWaitWord, Prog.lift, Prog.bind_op, Prog.bind_ret, Prog.pure_eq_ret]
  iintro #HI HY HX HW HAR Hk
  iapply (st_loadY m c (by decide)) $$ HY
  iintro HY
  iapply (st_loadFull c bX CX (by decide)) $$ HX
  iintro HX
  iapply (st_loadFull c bW CW (by decide)) $$ HW
  iintro HW
  iapply (st_loadY m c (by decide)) $$ HY
  iintro HY
  iapply (st_storeY m c 7 rfl (by decide)) $$ HY
  iintro HY
  iapply (st_loadY m c (by decide)) $$ HY
  iintro HY
  iapply (st_loadJS c (M := bA) (r := Rect.unit (s := S8x128) (k0_off9 c) S1x128.size (k0_off9_inb c)) (Mr := amB c) (hr := fun _ => rfl) (Memref.slice_unit_congr bA (off9_eq c) _ _ _ _)) $$ HAR
  iintro %_ HAR
  iapply (st_storeJS c (M := bA) (r := Rect.unit (s := S8x128) (k0_off9 c) S1x128.size (k0_off9_inb c)) (Mr := amB c) (hr := fun _ => rfl) (Memref.slice_unit_congr bA (off9_eq c) _ _ _ _) (am m c) rfl) $$ HAR
  iintro HAR
  iapply (WP_ret c)
  iapply Hk $$ HY HX HW HAR

end Cert.KProof
-- ==== Proof.PartsC.lean ====
/- The exchange of the maxima, the quantised tile and its seven transfers. One lemma for each stretch of the printed program. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p26 {Q : (Σ' (v831 : BitVec 32), BitVec 32) → sProp 𝕄} (v2 : BitVec 32) :
    (ctx m K : sProp 𝕄) ⊢ iprop(owe c (Orem c 7 7 7 0 0) -∗ SA m c 0 -∗ (∀ (r0 : BitVec 32) (r1 : BitVec 32), owe c (Orem c 7 7 7 2 0) -∗ SA m c 2 -∗ Q ⟨r0, r1⟩)
      -∗ WP c (k0_part26 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2) Q) := by
  rw [k0_part26_eq_skeleton]; unfold k0_part26_skel
  simp only [semSignalWord, semWaitWord, Prog.lift, Prog.bind_op, Prog.bind_ret, Prog.pure_eq_ret]
  iintro #HI HO HSA Hk
  iapply (st_sendA m K c 0 (n := 0) (n' := 1) rfl rfl (dev22_eq c) rfl rfl) $$ HI HO HSA
  iintro HO HSA
  iapply (st_sendA m K c 1 (n := 1) (n' := 2) rfl rfl (dev23_eq c) rfl rfl) $$ HI HO HSA
  iintro HO HSA
  iapply (WP_ret c)
  iapply Hk $$ HO HSA

theorem p27 {Q : (Σ' (v869 : BitVec 32) (v880 : BitVec 32) (v881 : BitVec 32) (v882 : BitVec 1) (v883 : BitVec 1), BitVec 32) → sProp 𝕄} (v2 : BitVec 32) (v850 : BitVec 32) :
    (ctx m K : sProp 𝕄) ⊢ iprop(owe c (Orem c 7 7 7 2 0) -∗ SA m c 2 -∗ (∀ (r0 : BitVec 32) (r1 : BitVec 32) (r2 : BitVec 32) (r3 : BitVec 1) (r4 : BitVec 1) (r5 : BitVec 32), owe c (Orem c 7 7 7 4 0) -∗ SA m c 4 -∗ Q ⟨r0, r1, r2, r3, r4, r5⟩)
      -∗ WP c (k0_part27 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v850) Q) := by
  rw [k0_part27_eq_skeleton]; unfold k0_part27_skel
  simp only [semSignalWord, semWaitWord, Prog.lift, Prog.bind_op, Prog.bind_ret, Prog.pure_eq_ret]
  iintro #HI HO HSA Hk
  iapply (st_sendA m K c 2 (n := 2) (n' := 3) rfl rfl (dev24_eq c) rfl rfl) $$ HI HO HSA
  iintro HO HSA
  iapply (st_sendA m K c 3 (n := 3) (n' := 4) rfl rfl (dev25_eq c) rfl rfl) $$ HI HO HSA
  iintro HO HSA
  iapply (WP_ret c)
  iapply Hk $$ HO HSA

theorem p28 {Q : (Σ' (v888 : BitVec 32) (v907 : BitVec 32) (v916 : BitVec 32), BitVec 32) → sProp 𝕄} (v2 : BitVec 32) (v880 : BitVec 32) (v881 : BitVec 32) (v882 : BitVec 1) (v883 : BitVec 1) (c0_i32_639 : BitVec 32) :
    (ctx m K : sProp 𝕄) ⊢ iprop(owe c (Orem c 7 7 7 4 0) -∗ SA m c 4 -∗ (∀ (r0 : BitVec 32) (r1 : BitVec 32) (r2 : BitVec 32) (r3 : BitVec 32), owe c (Orem c 7 7 7 6 0) -∗ SA m c 6 -∗ Q ⟨r0, r1, r2, r3⟩)
      -∗ WP c (k0_part28 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v880 v881 v882 v883 c0_i32_639) Q) := by
  rw [k0_part28_eq_skeleton]; unfold k0_part28_skel
  simp only [semSignalWord, semWaitWord, Prog.lift, Prog.bind_op, Prog.bind_ret, Prog.pure_eq_ret]
  iintro #HI HO HSA Hk
  iapply (st_sendA m K c 4 (n := 4) (n' := 5) rfl rfl (dev26_eq c) rfl rfl) $$ HI HO HSA
  iintro HO HSA
  iapply (st_sendA m K c 5 (n := 5) (n' := 6) rfl rfl (dev27_eq c) rfl rfl) $$ HI HO HSA
  iintro HO HSA
  iapply (WP_ret c)
  iapply Hk $$ HO HSA

theorem p29 {Q : (BitVec 32) → sProp 𝕄} (v812 : BitVec 32) (v831 : BitVec 32) (v850 : BitVec 32) (v916 : BitVec 32) (v918 : BitVec 32) :
    (ctx m K : sProp 𝕄) ⊢ iprop(owe c (Orem c 7 7 7 6 0) -∗ SA m c 6 -∗ RC c 5 0 -∗ GA m c 5 0 -∗ (∀ (r0 : BitVec 32), owe c (Orem c 7 7 7 7 0) -∗ SA m c 7 -∗ RC c 5 2 -∗ GA m c 5 2 -∗ Q r0)
      -∗ WP c (k0_part29 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v812 v831 v850 v916 v918) Q) := by
  rw [k0_part29_eq_skeleton]; unfold k0_part29_skel
  simp only [semSignalWord, semWaitWord, Prog.lift, Prog.bind_op, Prog.bind_ret, Prog.pure_eq_ret]
  iintro #HI HO HSA HRC5 HGA5 Hk
  iapply (st_sendA m K c 6 (n := 6) (n' := 7) rfl rfl (dev28_eq c) rfl rfl) $$ HI HO HSA
  iintro HO HSA
  iapply (st_recvA m K c 0 (n := 0) (n' := 1) rfl rfl 5 (by decide) (.inr (by decide)) (dstw := amB c) rfl rfl) $$ HI HO HRC5 HGA5
  iintro HO HRC5 HGA5
  iapply (st_recvA m K c 1 (n := 1) (n' := 2) rfl rfl 5 (by decide) (.inr (by decide)) (dstw := amB c) rfl rfl) $$ HI HO HRC5 HGA5
  iintro HO HRC5 HGA5
  iapply (WP_ret c)
  iapply Hk $$ HO HSA HRC5 HGA5

theorem p30 {Q : (Vec F S8x128 .f32) → sProp 𝕄} (v869 : BitVec 32) (v888 : BitVec 32) (v907 : BitVec 32) (v926 : BitVec 32) :
    (ctx m K : sProp 𝕄) ⊢ iprop(owe c (Orem c 7 7 7 7 0) -∗ RC c 5 2 -∗ GA m c 5 2 -∗ AMo m c -∗ (owe c (Orem c 7 7 7 7 0) -∗ RC c 5 7 -∗ GA m c 5 7 -∗ AMo m c -∗ Q (AM m))
      -∗ WP c (k0_part30 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v869 v888 v907 v926) Q) := by
  rw [k0_part30_eq_skeleton]; unfold k0_part30_skel
  simp only [semSignalWord, semWaitWord, Prog.lift, Prog.bind_op, Prog.bind_ret, Prog.pure_eq_ret]
  iintro #HI HO HRC5 HGA5 HAM Hk
  iapply (st_recvA m K c 2 (n := 2) (n' := 3) rfl rfl 5 (by decide) (.inr (by decide)) (dstw := amB c) rfl rfl) $$ HI HO HRC5 HGA5
  iintro HO HRC5 HGA5
  iapply (st_recvA m K c 3 (n := 3) (n' := 4) rfl rfl 5 (by decide) (.inr (by decide)) (dstw := amB c) rfl rfl) $$ HI HO HRC5 HGA5
  iintro HO HRC5 HGA5
  iapply (st_recvA m K c 4 (n := 4) (n' := 5) rfl rfl 5 (by decide) (.inr (by decide)) (dstw := amB c) rfl rfl) $$ HI HO HRC5 HGA5
  iintro HO HRC5 HGA5
  iapply (st_recvA m K c 5 (n := 5) (n' := 6) rfl rfl 5 (by decide) (.inr (by decide)) (dstw := amB c) rfl rfl) $$ HI HO HRC5 HGA5
  iintro HO HRC5 HGA5
  iapply (st_recvA m K c 6 (n := 6) (n' := 7) rfl rfl 5 (by decide) (.inr (by decide)) (dstw := amB c) rfl rfl) $$ HI HO HRC5 HGA5
  iintro HO HRC5 HGA5
  iapply (st_loadAM m c (by decide)) $$ HAM HGA5
  iintro HAM HGA5
  iapply (WP_ret c)
  iapply Hk $$ HO HRC5 HGA5 HAM

theorem p31 {Q : (Σ' (v983 : F .f32) (v1004 : BitVec 32), BitVec 32) → sProp 𝕄} (v2 : BitVec 32) (v19 : BitVec 32) (v29 : BitVec 32) :
    (ctx m K : sProp 𝕄) ⊢ iprop(YD m c 7 -∗ any c bQ -∗ PT c 6 7 -∗ LQ c -∗ owe c (Orem c 7 7 7 7 0) -∗ (∀ (r1 : BitVec 32) (r2 : BitVec 32), YD m c 7 -∗ SQ m c 1 -∗ QMo m c -∗ owe c (Orem c 7 7 7 7 1) -∗ Q ⟨k0_pay11 ((AM m)), r1, r2⟩)
      -∗ WP c (k0_part31 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 ((AM m))) Q) := by
  rw [k0_part31_eq_skeleton]; unfold k0_part31_skel
  simp only [semSignalWord, semWaitWord, Prog.lift, Prog.bind_op, Prog.bind_ret, Prog.pure_eq_ret]
  iintro #HI HY HQR HPQ HLQ HO Hk
  iapply (st_loadY m c (by decide)) $$ HY
  iintro HY
  iapply (st_loadJ c (M := bQ) (by decide)) $$ HQR
  iintro %_ HQR
  iapply (st_storeJ c (M := bQ) (qv m c) rfl (by decide)) $$ HQR
  iintro HQR
  ihave HSQ := (mkQ m c) $$ HQR HPQ HLQ
  icases HSQ with ⟨HSQ, HQM⟩
  iapply (st_sendQ m K c 0 (n := 0) (n' := 1) rfl rfl (dev29_eq c) rfl rfl) $$ HI HO HSQ
  iintro HO HSQ
  iapply (WP_ret c)
  iapply Hk $$ HY HSQ HQM HO

theorem p32 {Q : (Σ' (v1024 : BitVec 32) (v1044 : BitVec 32) (v1047 : BitVec 32), BitVec 32) → sProp 𝕄} (v2 : BitVec 32) (v19 : BitVec 32) (v29 : BitVec 32) (c2_i32_737 : BitVec 32) :
    (ctx m K : sProp 𝕄) ⊢ iprop(owe c (Orem c 7 7 7 7 1) -∗ SQ m c 1 -∗ (∀ (r0 : BitVec 32) (r1 : BitVec 32) (r2 : BitVec 32) (r3 : BitVec 32), owe c (Orem c 7 7 7 7 2) -∗ SQ m c 2 -∗ Q ⟨r0, r1, r2, r3⟩)
      -∗ WP c (k0_part32 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 c2_i32_737) Q) := by
  rw [k0_part32_eq_skeleton]; unfold k0_part32_skel
  simp only [semSignalWord, semWaitWord, Prog.lift, Prog.bind_op, Prog.bind_ret, Prog.pure_eq_ret]
  iintro #HI HO HSQ Hk
  iapply (st_sendQ m K c 1 (n := 1) (n' := 2) rfl rfl (dev30_eq c) rfl rfl) $$ HI HO HSQ
  iintro HO HSQ
  iapply (WP_ret c)
  iapply Hk $$ HO HSQ

theorem p33 {Q : (Σ' (v1064 : BitVec 32) (v1084 : BitVec 32), BitVec 32) → sProp 𝕄} (v2 : BitVec 32) (v19 : BitVec 32) (v29 : BitVec 32) (v1047 : BitVec 32) (c0_i32_762 : BitVec 32) :
    (ctx m K : sProp 𝕄) ⊢ iprop(owe c (Orem c 7 7 7 7 2) -∗ SQ m c 2 -∗ (∀ (r0 : BitVec 32) (r1 : BitVec 32) (r2 : BitVec 32), owe c (Orem c 7 7 7 7 4) -∗ SQ m c 4 -∗ Q ⟨r0, r1, r2⟩)
      -∗ WP c (k0_part33 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 v1047 c0_i32_762) Q) := by
  rw [k0_part33_eq_skeleton]; unfold k0_part33_skel
  simp only [semSignalWord, semWaitWord, Prog.lift, Prog.bind_op, Prog.bind_ret, Prog.pure_eq_ret]
  iintro #HI HO HSQ Hk
  iapply (st_sendQ m K c 2 (n := 2) (n' := 3) rfl rfl (dev31_eq c) rfl rfl) $$ HI HO HSQ
  iintro HO HSQ
  iapply (st_sendQ m K c 3 (n := 3) (n' := 4) rfl rfl (dev32_eq c) rfl rfl) $$ HI HO HSQ
  iintro HO HSQ
  iapply (WP_ret c)
  iapply Hk $$ HO HSQ

theorem p34 {Q : (Σ' (v1104 : BitVec 32) (v1116 : BitVec 32) (v1117 : BitVec 32) (v1118 : BitVec 1), BitVec 32) → sProp 𝕄} (v2 : BitVec 32) (v19 : BitVec 32) (v29 : BitVec 32) (v1084 : BitVec 32) (c2048_i32_783 : BitVec 32) :
    (ctx m K : sProp 𝕄) ⊢ iprop(owe c (Orem c 7 7 7 7 4) -∗ SQ m c 4 -∗ (∀ (r0 : BitVec 32) (r1 : BitVec 32) (r2 : BitVec 32) (r3 : BitVec 1) (r4 : BitVec 32), owe c (Orem c 7 7 7 7 6) -∗ SQ m c 6 -∗ Q ⟨r0, r1, r2, r3, r4⟩)
      -∗ WP c (k0_part34 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 v1084 c2048_i32_783) Q) := by
  rw [k0_part34_eq_skeleton]; unfold k0_part34_skel
  simp only [semSignalWord, semWaitWord, Prog.lift, Prog.bind_op, Prog.bind_ret, Prog.pure_eq_ret]
  iintro #HI HO HSQ Hk
  iapply (st_sendQ m K c 4 (n := 4) (n' := 5) rfl rfl (dev33_eq c) rfl rfl) $$ HI HO HSQ
  iintro HO HSQ
  iapply (st_sendQ m K c 5 (n := 5) (n' := 6) rfl rfl (dev34_eq c) rfl rfl) $$ HI HO HSQ
  iintro HO HSQ
  iapply (WP_ret c)
  iapply Hk $$ HO HSQ

theorem p35 {Q : (Σ' (v1124 : BitVec 32) (v1144 : BitVec 32) (v1145 : BitVec 32) (v1156 : BitVec 1) (v1157 : BitVec 32), BitVec 32) → sProp 𝕄} (v2 : BitVec 32) (v19 : BitVec 32) (v29 : BitVec 32) (v1116 : BitVec 32) (v1117 : BitVec 32) (v1118 : BitVec 1) (c0_i32_807 : BitVec 32) :
    (ctx m K : sProp 𝕄) ⊢ iprop(owe c (Orem c 7 7 7 7 6) -∗ SQ m c 6 -∗ (∀ (r0 : BitVec 32) (r1 : BitVec 32) (r2 : BitVec 32) (r3 : BitVec 1) (r4 : BitVec 32) (r5 : BitVec 32), owe c (Orem c 7 7 7 7 7) -∗ SQ m c 7 -∗ Q ⟨r0, r1, r2, r3, r4, r5⟩)
      -∗ WP c (k0_part35 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v19 v29 v1116 v1117 v1118 c0_i32_807) Q) := by
  rw [k0_part35_eq_skeleton]; unfold k0_part35_skel
  simp only [semSignalWord, semWaitWord, Prog.lift, Prog.bind_op, Prog.bind_ret, Prog.pure_eq_ret]
  iintro #HI HO HSQ Hk
  iapply (st_sendQ m K c 6 (n := 6) (n' := 7) rfl rfl (dev35_eq c) rfl rfl) $$ HI HO HSQ
  iintro HO HSQ
  iapply (WP_ret c)
  iapply Hk $$ HO HSQ

end Cert.KProof
-- ==== Proof.PartsD.lean ====
/- The results: this device's own tile and the seven it receives, each written in two halves. One lemma for each stretch of the printed program. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p36 {Q : (Σ' (v1161 : BitVec 32) (v1171 : BitVec 32), FVec F S2048x1024 .bf16) → sProp 𝕄} (v1144 : BitVec 32) (v1145 : BitVec 32) (v1156 : BitVec 1) (v1157 : BitVec 32) (c0_i32_827 : BitVec 32) :
    (ctx m K : sProp 𝕄) ⊢ iprop(QMo m c -∗ Idle c (stV 0) (CO 0) -∗ OT c 0 0 -∗ (∀ (r0 : BitVec 32) (r1 : BitVec 32), QMo m c -∗ FO m c 0 (back c (0 : Fin 8).val) -∗ OT c 0 1 -∗ Q ⟨r0, r1, k0_pay14 (k0_pay11 ((AM m))) (hv m c 1)⟩)
      -∗ WP c (k0_part36 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1144 v1145 v1156 v1157 c0_i32_827) Q) := by
  rw [k0_part36_eq_skeleton]; unfold k0_part36_skel
  simp only [semSignalWord, semWaitWord, Prog.lift, Prog.bind_op, Prog.bind_ret, Prog.pure_eq_ret]
  iintro #HI HQM HS0 HOT0 Hk
  iapply (st_loadOwn m c 0 (by decide)) $$ HQM
  iintro HQM
  iapply (st_loadSlot c 0 (by decide)) $$ HS0
  iintro %_ HS0
  iapply (st_storeSlot m c (back c (0 : Fin 8).val) 0 (by rw [back_cast0 c]; rfl) (by decide)) $$ HS0
  iintro HS0
  iapply (st_out m c 0 0 (n := 0) (n' := 1) rfl rfl rfl (Memref.slice_unit_congr aO (off12_eq c 0 0) _ _ _ _) rfl) $$ HS0 HOT0
  iintro HS0 HOT0
  iapply (st_loadOwn m c 1 (by decide)) $$ HQM
  iintro HQM
  iapply (WP_ret c)
  iapply Hk $$ HQM HS0 HOT0

theorem p37 {Q : (Σ' (v1214 : BitVec 32) (v1215 : BitVec 32), BitVec 1) → sProp 𝕄} (v2 : BitVec 32) (v1161 : BitVec 32) (v1171 : BitVec 32) :
    (ctx m K : sProp 𝕄) ⊢ iprop(Idle c (stV 1) (CO 1) -∗ OT c 1 0 -∗ (∀ (r0 : BitVec 32) (r1 : BitVec 32) (r2 : BitVec 1), FO m c 1 (back c (0 : Fin 8).val) -∗ OT c 1 1 -∗ Q ⟨r0, r1, r2⟩)
      -∗ WP c (k0_part37 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v1161 v1171 (k0_pay14 (k0_pay11 ((AM m))) (hv m c 1))) Q) := by
  rw [k0_part37_eq_skeleton]; unfold k0_part37_skel
  simp only [semSignalWord, semWaitWord, Prog.lift, Prog.bind_op, Prog.bind_ret, Prog.pure_eq_ret]
  iintro #HI HS1 HOT1 Hk
  iapply (st_loadSlot c 1 (by decide)) $$ HS1
  iintro %_ HS1
  iapply (st_storeSlot m c (back c (0 : Fin 8).val) 1 (by rw [back_cast0 c]; rfl) (by decide)) $$ HS1
  iintro HS1
  iapply (st_out m c 1 0 (n := 0) (n' := 1) rfl rfl rfl (Memref.slice_unit_congr aO (off12_eq c 0 1) _ _ _ _) rfl) $$ HS1 HOT1
  iintro HS1 HOT1
  iapply (WP_ret c)
  iapply Hk $$ HS1 HOT1

theorem p38 {Q : (Σ' (v1231 : BitVec 32) (v1241 : BitVec 32), FVec F S1x2048x1024 .bf16) → sProp 𝕄} (v1004 : BitVec 32) (v1214 : BitVec 32) (v1215 : BitVec 32) (v1229 : BitVec 1) :
    (ctx m K : sProp 𝕄) ⊢ iprop(owe c (Orem c 7 7 7 7 7) -∗ RC c 7 0 -∗ Idle c bR CX -∗ FO m c 0 (back c (0 : Fin 8).val) -∗ OD m c 0 0 -∗ (∀ (r0 : BitVec 32) (r1 : BitVec 32), owe c (Orem c 7 7 7 7 7) -∗ RC c 7 1 -∗ Full c bR CX (qv m (src c 0)) -∗ Idle c (stV 0) (CO 0) -∗ OD m c 0 1 -∗ Q ⟨r0, r1, k0_pay16 (k0_pay11 ((AM m))) (hv m (src c 0) 0)⟩)
      -∗ WP c (k0_part38 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1004 v1214 v1215 v1229) Q) := by
  rw [k0_part38_eq_skeleton]; unfold k0_part38_skel
  simp only [semSignalWord, semWaitWord, Prog.lift, Prog.bind_op, Prog.bind_ret, Prog.pure_eq_ret]
  iintro #HI HO HRC7 HR HS0 HOD0 Hk
  iapply (st_recvQ m K c 0 (n := 0) (n' := 1) rfl rfl (by decide) (by decide) (dstw := qgB c) rfl rfl) $$ HI HO HRC7
  iintro HO HRC7 HGQ0
  iapply (st_fill c bR CX (View.dmaCredit_pos _ (by decide)) (qgB (src c 0)) fullShare (qv m (src c 0)) (P := GQ m c (src c 0)) (Entails.of_eq rfl) (Memref.slice_unit_congr gQ (off13_eq c 0) _ _ _ _) rfl) $$ HGQ0 HR
  iintro HR
  iapply (st_filled m K c bR CX (by decide) rfl) $$ HI HO HR
  iintro HO HR
  iapply (st_outwait m K c 0 0 (n := 0) (n' := 1) rfl rfl (dstw := aO.slice (Rect.unit (s := S4096x8192) (k0_off12 c 0#32 0#32) S2048x1024.size _) (fun _ => rfl)) cred_o rfl) $$ HI HO HS0 HOD0
  iintro HO HS0 HOD0
  iapply (st_loadHalf m c (src c 0) 0 (by decide)) $$ HR
  iintro HR
  iapply (st_loadSlot c 0 (by decide)) $$ HS0
  iintro %_ HS0
  iapply (WP_ret c)
  iapply Hk $$ HO HRC7 HR HS0 HOD0

theorem p39 {Q : (Σ' (v1293 : BitVec 32), BitVec 32) → sProp 𝕄} (v2 : BitVec 32) (v1231 : BitVec 32) (v1241 : BitVec 32) :
    (ctx m K : sProp 𝕄) ⊢ iprop(Idle c (stV 0) (CO 0) -∗ OT c 0 1 -∗ owe c (Orem c 7 7 7 7 7) -∗ FO m c 1 (back c (0 : Fin 8).val) -∗ OD m c 1 0 -∗ Full c bR CX (qv m (src c 0)) -∗ OT c 1 1 -∗ (∀ (r0 : BitVec 32) (r1 : BitVec 32), FO m c 0 (back c (1 : Fin 8).val) -∗ OT c 0 2 -∗ owe c (Orem c 7 7 7 7 7) -∗ FO m c 1 (back c (1 : Fin 8).val) -∗ OD m c 1 1 -∗ Full c bR CX (qv m (src c 0)) -∗ OT c 1 2 -∗ Q ⟨r0, r1⟩)
      -∗ WP c (k0_part39 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (k0_pay11 ((AM m))) v1231 v1241 (k0_pay16 (k0_pay11 ((AM m))) (hv m (src c 0) 0))) Q) := by
  rw [k0_part39_eq_skeleton]; unfold k0_part39_skel
  simp only [semSignalWord, semWaitWord, Prog.lift, Prog.bind_op, Prog.bind_ret, Prog.pure_eq_ret]
  iintro #HI HS0 HOT0 HO HS1 HOD1 HR HOT1 Hk
  iapply (st_storeSlot m c (back c (1 : Fin 8).val) 0 rfl (by decide)) $$ HS0
  iintro HS0
  iapply (st_out m c 0 1 (n := 1) (n' := 2) rfl rfl rfl (Memref.slice_unit_congr aO (off12_eq c 1 0) _ _ _ _) rfl) $$ HS0 HOT0
  iintro HS0 HOT0
  iapply (st_outwait m K c 1 0 (n := 0) (n' := 1) rfl rfl (dstw := aO.slice (Rect.unit (s := S4096x8192) (k0_off12 c 0#32 1024#32) S2048x1024.size _) (fun _ => rfl)) cred_o rfl) $$ HI HO HS1 HOD1
  iintro HO HS1 HOD1
  iapply (st_loadHalf m c (src c 0) 1 (by decide)) $$ HR
  iintro HR
  iapply (st_loadSlot c 1 (by decide)) $$ HS1
  iintro %_ HS1
  iapply (st_storeSlot m c (back c (1 : Fin 8).val) 1 rfl (by decide)) $$ HS1
  iintro HS1
  iapply (st_out m c 1 1 (n := 1) (n' := 2) rfl rfl rfl (Memref.slice_unit_congr aO (off12_eq c 1 1) _ _ _ _) rfl) $$ HS1 HOT1
  iintro HS1 HOT1
  iapply (WP_ret c)
  iapply Hk $$ HS0 HOT0 HO HS1 HOD1 HR HOT1

theorem p40 {Q : (Σ' (v1320 : BitVec 32) (v1330 : BitVec 32) (v1331 : BitVec 32), BitVec 32) → sProp 𝕄} (v1024 : BitVec 32) (v1293 : BitVec 32) (c8_i32_915 : BitVec 32) :
    (ctx m K : sProp 𝕄) ⊢ iprop((∀ (r0 : BitVec 32) (r1 : BitVec 32) (r2 : BitVec 32) (r3 : BitVec 32), Q ⟨r0, r1, r2, r3⟩)
      -∗ WP c (k0_part40 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 v1024 v1293 c8_i32_915) Q) := by
  rw [k0_part40_eq_skeleton]; unfold k0_part40_skel
  simp only [semSignalWord, semWaitWord, Prog.lift, Prog.bind_op, Prog.bind_ret, Prog.pure_eq_ret]
  iintro #HI Hk
  iapply (WP_ret c)
  iapply Hk

theorem p41 {Q : (PUnit) → sProp 𝕄} (v1320 : BitVec 32) (v1330 : BitVec 32) (v1331 : BitVec 32) (c0_i32_937 : BitVec 32) :
    (ctx m K : sProp 𝕄) ⊢ iprop(owe c (Orem c 7 7 7 7 7) -∗ RC c 7 1 -∗ Full c bR CX (qv m (src c 0)) -∗ FO m c 0 (back c (1 : Fin 8).val) -∗ OD m c 0 1 -∗ OT c 0 2 -∗ (owe c (Orem c 7 7 7 7 7) -∗ RC c 7 2 -∗ Full c bR CX (qv m (src c 1)) -∗ FO m c 0 (back c (2 : Fin 8).val) -∗ OD m c 0 2 -∗ OT c 0 3 -∗ Q ⟨⟩)
      -∗ WP c (k0_part41 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1320 v1330 v1331 c0_i32_937) Q) := by
  rw [k0_part41_eq_skeleton]; unfold k0_part41_skel
  simp only [semSignalWord, semWaitWord, Prog.lift, Prog.bind_op, Prog.bind_ret, Prog.pure_eq_ret]
  iintro #HI HO HRC7 HR HS0 HOD0 HOT0 Hk
  iapply (st_recvQ m K c 1 (n := 1) (n' := 2) rfl rfl (by decide) (by decide) (dstw := qgB c) rfl rfl) $$ HI HO HRC7
  iintro HO HRC7 HGQ1
  ihave HR := full_idle c $$ HR
  iapply (st_fill c bR CX (View.dmaCredit_pos _ (by decide)) (qgB (src c 1)) fullShare (qv m (src c 1)) (P := GQ m c (src c 1)) (Entails.of_eq rfl) (Memref.slice_unit_congr gQ (off13_eq c 1) _ _ _ _) rfl) $$ HGQ1 HR
  iintro HR
  iapply (st_filled m K c bR CX (by decide) rfl) $$ HI HO HR
  iintro HO HR
  iapply (st_outwait m K c 0 1 (n := 1) (n' := 2) rfl rfl (dstw := aO.slice (Rect.unit (s := S4096x8192) (k0_off12 c 1#32 0#32) S2048x1024.size _) (fun _ => rfl)) cred_o rfl) $$ HI HO HS0 HOD0
  iintro HO HS0 HOD0
  iapply (st_loadHalf m c (src c 1) 0 (by decide)) $$ HR
  iintro HR
  iapply (st_loadSlot c 0 (by decide)) $$ HS0
  iintro %_ HS0
  iapply (st_storeSlot m c (back c (2 : Fin 8).val) 0 rfl (by decide)) $$ HS0
  iintro HS0
  iapply (st_out m c 0 2 (n := 2) (n' := 3) rfl rfl rfl (Memref.slice_unit_congr aO (off12_eq c 2 0) _ _ _ _) rfl) $$ HS0 HOT0
  iintro HS0 HOT0
  iapply (WP_ret c)
  iapply Hk $$ HO HRC7 HR HS0 HOD0 HOT0

theorem p42 {Q : (Σ' (v1392 : BitVec 32) (c4_i32_979 : BitVec 32) (v1393 : BitVec 32), BitVec 32) → sProp 𝕄} (v2 : BitVec 32) (v1320 : BitVec 32) (v1330 : BitVec 32) :
    (ctx m K : sProp 𝕄) ⊢ iprop(owe c (Orem c 7 7 7 7 7) -∗ FO m c 1 (back c (1 : Fin 8).val) -∗ OD m c 1 1 -∗ Full c bR CX (qv m (src c 1)) -∗ OT c 1 2 -∗ (∀ (r0 : BitVec 32) (r1 : BitVec 32) (r2 : BitVec 32) (r3 : BitVec 32), owe c (Orem c 7 7 7 7 7) -∗ FO m c 1 (back c (2 : Fin 8).val) -∗ OD m c 1 2 -∗ Full c bR CX (qv m (src c 1)) -∗ OT c 1 3 -∗ Q ⟨r0, r1, r2, r3⟩)
      -∗ WP c (k0_part42 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (k0_pay11 ((AM m))) v1320 v1330) Q) := by
  rw [k0_part42_eq_skeleton]; unfold k0_part42_skel
  simp only [semSignalWord, semWaitWord, Prog.lift, Prog.bind_op, Prog.bind_ret, Prog.pure_eq_ret]
  iintro #HI HO HS1 HOD1 HR HOT1 Hk
  iapply (st_outwait m K c 1 1 (n := 1) (n' := 2) rfl rfl (dstw := aO.slice (Rect.unit (s := S4096x8192) (k0_off12 c 1#32 1024#32) S2048x1024.size _) (fun _ => rfl)) cred_o rfl) $$ HI HO HS1 HOD1
  iintro HO HS1 HOD1
  iapply (st_loadHalf m c (src c 1) 1 (by decide)) $$ HR
  iintro HR
  iapply (st_loadSlot c 1 (by decide)) $$ HS1
  iintro %_ HS1
  iapply (st_storeSlot m c (back c (2 : Fin 8).val) 1 rfl (by decide)) $$ HS1
  iintro HS1
  iapply (st_out m c 1 2 (n := 2) (n' := 3) rfl rfl rfl (Memref.slice_unit_congr aO (off12_eq c 2 1) _ _ _ _) rfl) $$ HS1 HOT1
  iintro HS1 HOT1
  iapply (WP_ret c)
  iapply Hk $$ HO HS1 HOD1 HR HOT1

theorem p43 {Q : (Σ' (v1409 : BitVec 32), BitVec 32) → sProp 𝕄} (v1044 : BitVec 32) (v1392 : BitVec 32) (c4_i32_979 : BitVec 32) (v1393 : BitVec 32) (v1398 : BitVec 32) :
    (ctx m K : sProp 𝕄) ⊢ iprop(owe c (Orem c 7 7 7 7 7) -∗ RC c 7 2 -∗ Full c bR CX (qv m (src c 1)) -∗ FO m c 0 (back c (2 : Fin 8).val) -∗ OD m c 0 2 -∗ (∀ (r0 : BitVec 32) (r1 : BitVec 32), owe c (Orem c 7 7 7 7 7) -∗ RC c 7 3 -∗ Full c bR CX (qv m (src c 2)) -∗ Idle c (stV 0) (CO 0) -∗ OD m c 0 3 -∗ Q ⟨r0, r1⟩)
      -∗ WP c (k0_part43 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v1044 v1392 c4_i32_979 v1393 v1398) Q) := by
  rw [k0_part43_eq_skeleton]; unfold k0_part43_skel
  simp only [semSignalWord, semWaitWord, Prog.lift, Prog.bind_op, Prog.bind_ret, Prog.pure_eq_ret]
  iintro #HI HO HRC7 HR HS0 HOD0 Hk
  iapply (st_recvQ m K c 2 (n := 2) (n' := 3) rfl rfl (by decide) (by decide) (dstw := qgB c) rfl rfl) $$ HI HO HRC7
  iintro HO HRC7 HGQ2
  ihave HR := full_idle c $$ HR
  iapply (st_fill c bR CX (View.dmaCredit_pos _ (by decide)) (qgB (src c 2)) fullShare (qv m (src c 2)) (P := GQ m c (src c 2)) (Entails.of_eq rfl) (Memref.slice_unit_congr gQ (off13_eq c 2) _ _ _ _) rfl) $$ HGQ2 HR
  iintro HR
  iapply (st_filled m K c bR CX (by decide) rfl) $$ HI HO HR
  iintro HO HR
  iapply (st_outwait m K c 0 2 (n := 2) (n' := 3) rfl rfl (dstw := aO.slice (Rect.unit (s := S4096x8192) (k0_off12 c 2#32 0#32) S2048x1024.size _) (fun _ => rfl)) cred_o rfl) $$ HI HO HS0 HOD0
  iintro HO HS0 HOD0
  iapply (WP_ret c)
  iapply Hk $$ HO HRC7 HR HS0 HOD0

theorem p44 {Q : (PUnit) → sProp 𝕄} (v1409 : BitVec 32) (v1419 : BitVec 32) :
    (ctx m K : sProp 𝕄) ⊢ iprop(Full c bR CX (qv m (src c 2)) -∗ Idle c (stV 0) (CO 0) -∗ OT c 0 3 -∗ owe c (Orem c 7 7 7 7 7) -∗ FO m c 1 (back c (2 : Fin 8).val) -∗ OD m c 1 2 -∗ (Full c bR CX (qv m (src c 2)) -∗ FO m c 0 (back c (3 : Fin 8).val) -∗ OT c 0 4 -∗ owe c (Orem c 7 7 7 7 7) -∗ Full c (stV 1) (CO 1) (sv m (back c (3 : Fin 8).val) 1) -∗ OD m c 1 3 -∗ Q ⟨⟩)
      -∗ WP c (k0_part44 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1409 v1419) Q) := by
  rw [k0_part44_eq_skeleton]; unfold k0_part44_skel
  simp only [semSignalWord, semWaitWord, Prog.lift, Prog.bind_op, Prog.bind_ret, Prog.pure_eq_ret]
  iintro #HI HR HS0 HOT0 HO HS1 HOD1 Hk
  iapply (st_loadHalf m c (src c 2) 0 (by decide)) $$ HR
  iintro HR
  iapply (st_loadSlot c 0 (by decide)) $$ HS0
  iintro %_ HS0
  iapply (st_storeSlot m c (back c (3 : Fin 8).val) 0 rfl (by decide)) $$ HS0
  iintro HS0
  iapply (st_out m c 0 3 (n := 3) (n' := 4) rfl rfl rfl (Memref.slice_unit_congr aO (off12_eq c 3 0) _ _ _ _) rfl) $$ HS0 HOT0
  iintro HS0 HOT0
  iapply (st_outwait m K c 1 2 (n := 2) (n' := 3) rfl rfl (dstw := aO.slice (Rect.unit (s := S4096x8192) (k0_off12 c 2#32 1024#32) S2048x1024.size _) (fun _ => rfl)) cred_o rfl) $$ HI HO HS1 HOD1
  iintro HO HS1 HOD1
  iapply (st_loadHalf m c (src c 2) 1 (by decide)) $$ HR
  iintro HR
  iapply (st_loadSlot c 1 (by decide)) $$ HS1
  iintro %_ HS1
  iapply (st_storeSlot m c (back c (3 : Fin 8).val) 1 rfl (by decide)) $$ HS1
  iintro HS1
  iapply (WP_ret c)
  iapply Hk $$ HR HS0 HOT0 HO HS1 HOD1

theorem p45 {Q : (Σ' (v1498 : BitVec 32) (v1500 : BitVec 32) (v1501 : BitVec 32) (v1502 : BitVec 1), BitVec 32) → sProp 𝕄} (v2 : BitVec 32) :
    (ctx m K : sProp 𝕄) ⊢ iprop(Full c (stV 1) (CO 1) (sv m (back c (3 : Fin 8).val) 1) -∗ OT c 1 3 -∗ (∀ (r0 : BitVec 32) (r1 : BitVec 32) (r2 : BitVec 32) (r3 : BitVec 1) (r4 : BitVec 32), FO m c 1 (back c (3 : Fin 8).val) -∗ OT c 1 4 -∗ Q ⟨r0, r1, r2, r3, r4⟩)
      -∗ WP c (k0_part45 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2) Q) := by
  rw [k0_part45_eq_skeleton]; unfold k0_part45_skel
  simp only [semSignalWord, semWaitWord, Prog.lift, Prog.bind_op, Prog.bind_ret, Prog.pure_eq_ret]
  iintro #HI HS1 HOT1 Hk
  iapply (st_out m c 1 3 (n := 3) (n' := 4) rfl rfl rfl (Memref.slice_unit_congr aO (off12_eq c 3 1) _ _ _ _) rfl) $$ HS1 HOT1
  iintro HS1 HOT1
  iapply (WP_ret c)
  iapply Hk $$ HS1 HOT1

theorem p46 {Q : (BitVec 32) → sProp 𝕄} (v1064 : BitVec 32) (v1498 : BitVec 32) (v1500 : BitVec 32) (v1501 : BitVec 32) (v1502 : BitVec 1) (c0_i32_1048 : BitVec 32) :
    (ctx m K : sProp 𝕄) ⊢ iprop(owe c (Orem c 7 7 7 7 7) -∗ RC c 7 3 -∗ Full c bR CX (qv m (src c 2)) -∗ FO m c 0 (back c (3 : Fin 8).val) -∗ OD m c 0 3 -∗ (∀ (r0 : BitVec 32), owe c (Orem c 7 7 7 7 7) -∗ RC c 7 4 -∗ Full c bR CX (qv m (src c 3)) -∗ Full c (stV 0) (CO 0) (sv m (back c (4 : Fin 8).val) 0) -∗ OD m c 0 4 -∗ Q r0)
      -∗ WP c (k0_part46 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1064 v1498 v1500 v1501 v1502 c0_i32_1048) Q) := by
  rw [k0_part46_eq_skeleton]; unfold k0_part46_skel
  simp only [semSignalWord, semWaitWord, Prog.lift, Prog.bind_op, Prog.bind_ret, Prog.pure_eq_ret]
  iintro #HI HO HRC7 HR HS0 HOD0 Hk
  iapply (st_recvQ m K c 3 (n := 3) (n' := 4) rfl rfl (by decide) (by decide) (dstw := qgB c) rfl rfl) $$ HI HO HRC7
  iintro HO HRC7 HGQ3
  ihave HR := full_idle c $$ HR
  iapply (st_fill c bR CX (View.dmaCredit_pos _ (by decide)) (qgB (src c 3)) fullShare (qv m (src c 3)) (P := GQ m c (src c 3)) (Entails.of_eq rfl) (Memref.slice_unit_congr gQ (off13_eq c 3) _ _ _ _) rfl) $$ HGQ3 HR
  iintro HR
  iapply (st_filled m K c bR CX (by decide) rfl) $$ HI HO HR
  iintro HO HR
  iapply (st_outwait m K c 0 3 (n := 3) (n' := 4) rfl rfl (dstw := aO.slice (Rect.unit (s := S4096x8192) (k0_off12 c 3#32 0#32) S2048x1024.size _) (fun _ => rfl)) cred_o rfl) $$ HI HO HS0 HOD0
  iintro HO HS0 HOD0
  iapply (st_loadHalf m c (src c 3) 0 (by decide)) $$ HR
  iintro HR
  iapply (st_loadSlot c 0 (by decide)) $$ HS0
  iintro %_ HS0
  iapply (st_storeSlot m c (back c (4 : Fin 8).val) 0 rfl (by decide)) $$ HS0
  iintro HS0
  iapply (WP_ret c)
  iapply Hk $$ HO HRC7 HR HS0 HOD0

theorem p47 {Q : (Σ' (v1562 : BitVec 32) (v1563 : BitVec 32) (v1564 : BitVec 1), BitVec 1) → sProp 𝕄} (v2 : BitVec 32) (v1498 : BitVec 32) (v1508 : BitVec 32) :
    (ctx m K : sProp 𝕄) ⊢ iprop(Full c (stV 0) (CO 0) (sv m (back c (4 : Fin 8).val) 0) -∗ OT c 0 4 -∗ owe c (Orem c 7 7 7 7 7) -∗ FO m c 1 (back c (3 : Fin 8).val) -∗ OD m c 1 3 -∗ Full c bR CX (qv m (src c 3)) -∗ OT c 1 4 -∗ (∀ (r0 : BitVec 32) (r1 : BitVec 32) (r2 : BitVec 1) (r3 : BitVec 1), FO m c 0 (back c (4 : Fin 8).val) -∗ OT c 0 5 -∗ owe c (Orem c 7 7 7 7 7) -∗ FO m c 1 (back c (4 : Fin 8).val) -∗ OD m c 1 4 -∗ Full c bR CX (qv m (src c 3)) -∗ OT c 1 5 -∗ Q ⟨r0, r1, r2, r3⟩)
      -∗ WP c (k0_part47 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (k0_pay11 ((AM m))) v1498 v1508) Q) := by
  rw [k0_part47_eq_skeleton]; unfold k0_part47_skel
  simp only [semSignalWord, semWaitWord, Prog.lift, Prog.bind_op, Prog.bind_ret, Prog.pure_eq_ret]
  iintro #HI HS0 HOT0 HO HS1 HOD1 HR HOT1 Hk
  iapply (st_out m c 0 4 (n := 4) (n' := 5) rfl rfl rfl (Memref.slice_unit_congr aO (off12_eq c 4 0) _ _ _ _) rfl) $$ HS0 HOT0
  iintro HS0 HOT0
  iapply (st_outwait m K c 1 3 (n := 3) (n' := 4) rfl rfl (dstw := aO.slice (Rect.unit (s := S4096x8192) (k0_off12 c 3#32 1024#32) S2048x1024.size _) (fun _ => rfl)) cred_o rfl) $$ HI HO HS1 HOD1
  iintro HO HS1 HOD1
  iapply (st_loadHalf m c (src c 3) 1 (by decide)) $$ HR
  iintro HR
  iapply (st_loadSlot c 1 (by decide)) $$ HS1
  iintro %_ HS1
  iapply (st_storeSlot m c (back c (4 : Fin 8).val) 1 rfl (by decide)) $$ HS1
  iintro HS1
  iapply (st_out m c 1 4 (n := 4) (n' := 5) rfl rfl rfl (Memref.slice_unit_congr aO (off12_eq c 4 1) _ _ _ _) rfl) $$ HS1 HOT1
  iintro HS1 HOT1
  iapply (WP_ret c)
  iapply Hk $$ HS0 HOT0 HO HS1 HOD1 HR HOT1

theorem p48 {Q : (Σ' (v1587 : BitVec 32), BitVec 32) → sProp 𝕄} (v1084 : BitVec 32) (v1562 : BitVec 32) (v1563 : BitVec 32) (v1564 : BitVec 1) (v1567 : BitVec 1) :
    (ctx m K : sProp 𝕄) ⊢ iprop(owe c (Orem c 7 7 7 7 7) -∗ RC c 7 4 -∗ Full c bR CX (qv m (src c 3)) -∗ (∀ (r0 : BitVec 32) (r1 : BitVec 32), owe c (Orem c 7 7 7 7 7) -∗ RC c 7 5 -∗ Going c bR CX (qv m (src c 4)) -∗ Q ⟨r0, r1⟩)
      -∗ WP c (k0_part48 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v1084 v1562 v1563 v1564 v1567) Q) := by
  rw [k0_part48_eq_skeleton]; unfold k0_part48_skel
  simp only [semSignalWord, semWaitWord, Prog.lift, Prog.bind_op, Prog.bind_ret, Prog.pure_eq_ret]
  iintro #HI HO HRC7 HR Hk
  iapply (st_recvQ m K c 4 (n := 4) (n' := 5) rfl rfl (by decide) (by decide) (dstw := qgB c) rfl rfl) $$ HI HO HRC7
  iintro HO HRC7 HGQ4
  ihave HR := full_idle c $$ HR
  iapply (st_fill c bR CX (View.dmaCredit_pos _ (by decide)) (qgB (src c 4)) fullShare (qv m (src c 4)) (P := GQ m c (src c 4)) (Entails.of_eq rfl) (Memref.slice_unit_congr gQ (off13_eq c 4) _ _ _ _) rfl) $$ HGQ4 HR
  iintro HR
  iapply (WP_ret c)
  iapply Hk $$ HO HRC7 HR

theorem p49 {Q : (FVec F S2048x1024 .bf16) → sProp 𝕄} (v1587 : BitVec 32) (v1597 : BitVec 32) :
    (ctx m K : sProp 𝕄) ⊢ iprop(owe c (Orem c 7 7 7 7 7) -∗ Going c bR CX (qv m (src c 4)) -∗ FO m c 0 (back c (4 : Fin 8).val) -∗ OD m c 0 4 -∗ OT c 0 5 -∗ FO m c 1 (back c (4 : Fin 8).val) -∗ OD m c 1 4 -∗ (owe c (Orem c 7 7 7 7 7) -∗ Full c bR CX (qv m (src c 4)) -∗ FO m c 0 (back c (5 : Fin 8).val) -∗ OD m c 0 5 -∗ OT c 0 6 -∗ Idle c (stV 1) (CO 1) -∗ OD m c 1 5 -∗ Q (k0_pay25 (k0_pay11 ((AM m))) (hv m (src c 4) 1)))
      -∗ WP c (k0_part49 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1587 v1597) Q) := by
  rw [k0_part49_eq_skeleton]; unfold k0_part49_skel
  simp only [semSignalWord, semWaitWord, Prog.lift, Prog.bind_op, Prog.bind_ret, Prog.pure_eq_ret]
  iintro #HI HO HR HS0 HOD0 HOT0 HS1 HOD1 Hk
  iapply (st_filled m K c bR CX (by decide) rfl) $$ HI HO HR
  iintro HO HR
  iapply (st_outwait m K c 0 4 (n := 4) (n' := 5) rfl rfl (dstw := aO.slice (Rect.unit (s := S4096x8192) (k0_off12 c 4#32 0#32) S2048x1024.size _) (fun _ => rfl)) cred_o rfl) $$ HI HO HS0 HOD0
  iintro HO HS0 HOD0
  iapply (st_loadHalf m c (src c 4) 0 (by decide)) $$ HR
  iintro HR
  iapply (st_loadSlot c 0 (by decide)) $$ HS0
  iintro %_ HS0
  iapply (st_storeSlot m c (back c (5 : Fin 8).val) 0 rfl (by decide)) $$ HS0
  iintro HS0
  iapply (st_out m c 0 5 (n := 5) (n' := 6) rfl rfl rfl (Memref.slice_unit_congr aO (off12_eq c 5 0) _ _ _ _) rfl) $$ HS0 HOT0
  iintro HS0 HOT0
  iapply (st_outwait m K c 1 4 (n := 4) (n' := 5) rfl rfl (dstw := aO.slice (Rect.unit (s := S4096x8192) (k0_off12 c 4#32 1024#32) S2048x1024.size _) (fun _ => rfl)) cred_o rfl) $$ HI HO HS1 HOD1
  iintro HO HS1 HOD1
  iapply (st_loadHalf m c (src c 4) 1 (by decide)) $$ HR
  iintro HR
  iapply (WP_ret c)
  iapply Hk $$ HO HR HS0 HOD0 HOT0 HS1 HOD1

theorem p50 {Q : (Σ' (v1659 : BitVec 32) (v1660 : BitVec 32), BitVec 1) → sProp 𝕄} (v2 : BitVec 32) (v1587 : BitVec 32) (v1597 : BitVec 32) :
    (ctx m K : sProp 𝕄) ⊢ iprop(Idle c (stV 1) (CO 1) -∗ OT c 1 5 -∗ (∀ (r0 : BitVec 32) (r1 : BitVec 32) (r2 : BitVec 1), FO m c 1 (back c (5 : Fin 8).val) -∗ OT c 1 6 -∗ Q ⟨r0, r1, r2⟩)
      -∗ WP c (k0_part50 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 v1587 v1597 ((k0_pay25 (k0_pay11 ((AM m))) (hv m (src c 4) 1)))) Q) := by
  rw [k0_part50_eq_skeleton]; unfold k0_part50_skel
  simp only [semSignalWord, semWaitWord, Prog.lift, Prog.bind_op, Prog.bind_ret, Prog.pure_eq_ret]
  iintro #HI HS1 HOT1 Hk
  iapply (st_loadSlot c 1 (by decide)) $$ HS1
  iintro %_ HS1
  iapply (st_storeSlot m c (back c (5 : Fin 8).val) 1 rfl (by decide)) $$ HS1
  iintro HS1
  iapply (st_out m c 1 5 (n := 5) (n' := 6) rfl rfl rfl (Memref.slice_unit_congr aO (off12_eq c 5 1) _ _ _ _) rfl) $$ HS1 HOT1
  iintro HS1 HOT1
  iapply (WP_ret c)
  iapply Hk $$ HS1 HOT1

theorem p51 {Q : (Σ' (v1676 : BitVec 32) (v1686 : BitVec 32), FVec F S1x2048x1024 .bf16) → sProp 𝕄} (v1104 : BitVec 32) (v1659 : BitVec 32) (v1660 : BitVec 32) (v1674 : BitVec 1) :
    (ctx m K : sProp 𝕄) ⊢ iprop(owe c (Orem c 7 7 7 7 7) -∗ RC c 7 5 -∗ Full c bR CX (qv m (src c 4)) -∗ FO m c 0 (back c (5 : Fin 8).val) -∗ OD m c 0 5 -∗ (∀ (r0 : BitVec 32) (r1 : BitVec 32), owe c (Orem c 7 7 7 7 7) -∗ RC c 7 6 -∗ Full c bR CX (qv m (src c 5)) -∗ Idle c (stV 0) (CO 0) -∗ OD m c 0 6 -∗ Q ⟨r0, r1, k0_pay27 (k0_pay11 ((AM m))) (hv m (src c 5) 0)⟩)
      -∗ WP c (k0_part51 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1104 v1659 v1660 v1674) Q) := by
  rw [k0_part51_eq_skeleton]; unfold k0_part51_skel
  simp only [semSignalWord, semWaitWord, Prog.lift, Prog.bind_op, Prog.bind_ret, Prog.pure_eq_ret]
  iintro #HI HO HRC7 HR HS0 HOD0 Hk
  iapply (st_recvQ m K c 5 (n := 5) (n' := 6) rfl rfl (by decide) (by decide) (dstw := qgB c) rfl rfl) $$ HI HO HRC7
  iintro HO HRC7 HGQ5
  ihave HR := full_idle c $$ HR
  iapply (st_fill c bR CX (View.dmaCredit_pos _ (by decide)) (qgB (src c 5)) fullShare (qv m (src c 5)) (P := GQ m c (src c 5)) (Entails.of_eq rfl) (Memref.slice_unit_congr gQ (off13_eq c 5) _ _ _ _) rfl) $$ HGQ5 HR
  iintro HR
  iapply (st_filled m K c bR CX (by decide) rfl) $$ HI HO HR
  iintro HO HR
  iapply (st_outwait m K c 0 5 (n := 5) (n' := 6) rfl rfl (dstw := aO.slice (Rect.unit (s := S4096x8192) (k0_off12 c 5#32 0#32) S2048x1024.size _) (fun _ => rfl)) cred_o rfl) $$ HI HO HS0 HOD0
  iintro HO HS0 HOD0
  iapply (st_loadHalf m c (src c 5) 0 (by decide)) $$ HR
  iintro HR
  iapply (st_loadSlot c 0 (by decide)) $$ HS0
  iintro %_ HS0
  iapply (WP_ret c)
  iapply Hk $$ HO HRC7 HR HS0 HOD0

theorem p52 {Q : (Σ' (v1738 : BitVec 32), BitVec 32) → sProp 𝕄} (v2 : BitVec 32) (v1676 : BitVec 32) (v1686 : BitVec 32) :
    (ctx m K : sProp 𝕄) ⊢ iprop(Idle c (stV 0) (CO 0) -∗ OT c 0 6 -∗ owe c (Orem c 7 7 7 7 7) -∗ FO m c 1 (back c (5 : Fin 8).val) -∗ OD m c 1 5 -∗ Full c bR CX (qv m (src c 5)) -∗ OT c 1 6 -∗ (∀ (r0 : BitVec 32) (r1 : BitVec 32), FO m c 0 (back c (6 : Fin 8).val) -∗ OT c 0 7 -∗ owe c (Orem c 7 7 7 7 7) -∗ FO m c 1 (back c (6 : Fin 8).val) -∗ OD m c 1 6 -∗ Full c bR CX (qv m (src c 5)) -∗ OT c 1 7 -∗ Q ⟨r0, r1⟩)
      -∗ WP c (k0_part52 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c v2 (k0_pay11 ((AM m))) v1676 v1686 (k0_pay27 (k0_pay11 ((AM m))) (hv m (src c 5) 0))) Q) := by
  rw [k0_part52_eq_skeleton]; unfold k0_part52_skel
  simp only [semSignalWord, semWaitWord, Prog.lift, Prog.bind_op, Prog.bind_ret, Prog.pure_eq_ret]
  iintro #HI HS0 HOT0 HO HS1 HOD1 HR HOT1 Hk
  iapply (st_storeSlot m c (back c (6 : Fin 8).val) 0 rfl (by decide)) $$ HS0
  iintro HS0
  iapply (st_out m c 0 6 (n := 6) (n' := 7) rfl rfl rfl (Memref.slice_unit_congr aO (off12_eq c 6 0) _ _ _ _) rfl) $$ HS0 HOT0
  iintro HS0 HOT0
  iapply (st_outwait m K c 1 5 (n := 5) (n' := 6) rfl rfl (dstw := aO.slice (Rect.unit (s := S4096x8192) (k0_off12 c 5#32 1024#32) S2048x1024.size _) (fun _ => rfl)) cred_o rfl) $$ HI HO HS1 HOD1
  iintro HO HS1 HOD1
  iapply (st_loadHalf m c (src c 5) 1 (by decide)) $$ HR
  iintro HR
  iapply (st_loadSlot c 1 (by decide)) $$ HS1
  iintro %_ HS1
  iapply (st_storeSlot m c (back c (6 : Fin 8).val) 1 rfl (by decide)) $$ HS1
  iintro HS1
  iapply (st_out m c 1 6 (n := 6) (n' := 7) rfl rfl rfl (Memref.slice_unit_congr aO (off12_eq c 6 1) _ _ _ _) rfl) $$ HS1 HOT1
  iintro HS1 HOT1
  iapply (WP_ret c)
  iapply Hk $$ HS0 HOT0 HO HS1 HOD1 HR HOT1

theorem p53 {Q : (Σ' (v1765 : BitVec 32) (v1775 : BitVec 32) (v1776 : BitVec 32), BitVec 32) → sProp 𝕄} (v1124 : BitVec 32) (v1738 : BitVec 32) (c8_i32_1205 : BitVec 32) :
    (ctx m K : sProp 𝕄) ⊢ iprop((∀ (r0 : BitVec 32) (r1 : BitVec 32) (r2 : BitVec 32) (r3 : BitVec 32), Q ⟨r0, r1, r2, r3⟩)
      -∗ WP c (k0_part53 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 v1124 v1738 c8_i32_1205) Q) := by
  rw [k0_part53_eq_skeleton]; unfold k0_part53_skel
  simp only [semSignalWord, semWaitWord, Prog.lift, Prog.bind_op, Prog.bind_ret, Prog.pure_eq_ret]
  iintro #HI Hk
  iapply (WP_ret c)
  iapply Hk

theorem p54 {Q : (PUnit) → sProp 𝕄} (v1765 : BitVec 32) (v1775 : BitVec 32) (v1776 : BitVec 32) (c0_i32_1227 : BitVec 32) :
    (ctx m K : sProp 𝕄) ⊢ iprop(owe c (Orem c 7 7 7 7 7) -∗ RC c 7 6 -∗ Full c bR CX (qv m (src c 5)) -∗ FO m c 0 (back c (6 : Fin 8).val) -∗ OD m c 0 6 -∗ OT c 0 7 -∗ (owe c (Orem c 7 7 7 7 7) -∗ RC c 7 7 -∗ Full c bR CX (qv m (src c 6)) -∗ FO m c 0 (back c (7 : Fin 8).val) -∗ OD m c 0 7 -∗ OT c 0 8 -∗ Q ⟨⟩)
      -∗ WP c (k0_part54 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1765 v1775 v1776 c0_i32_1227) Q) := by
  rw [k0_part54_eq_skeleton]; unfold k0_part54_skel
  simp only [semSignalWord, semWaitWord, Prog.lift, Prog.bind_op, Prog.bind_ret, Prog.pure_eq_ret]
  iintro #HI HO HRC7 HR HS0 HOD0 HOT0 Hk
  iapply (st_recvQ m K c 6 (n := 6) (n' := 7) rfl rfl (by decide) (by decide) (dstw := qgB c) rfl rfl) $$ HI HO HRC7
  iintro HO HRC7 HGQ6
  ihave HR := full_idle c $$ HR
  iapply (st_fill c bR CX (View.dmaCredit_pos _ (by decide)) (qgB (src c 6)) fullShare (qv m (src c 6)) (P := GQ m c (src c 6)) (Entails.of_eq rfl) (Memref.slice_unit_congr gQ (off13_eq c 6) _ _ _ _) rfl) $$ HGQ6 HR
  iintro HR
  iapply (st_filled m K c bR CX (by decide) rfl) $$ HI HO HR
  iintro HO HR
  iapply (st_outwait m K c 0 6 (n := 6) (n' := 7) rfl rfl (dstw := aO.slice (Rect.unit (s := S4096x8192) (k0_off12 c 6#32 0#32) S2048x1024.size _) (fun _ => rfl)) cred_o rfl) $$ HI HO HS0 HOD0
  iintro HO HS0 HOD0
  iapply (st_loadHalf m c (src c 6) 0 (by decide)) $$ HR
  iintro HR
  iapply (st_loadSlot c 0 (by decide)) $$ HS0
  iintro %_ HS0
  iapply (st_storeSlot m c (back c (7 : Fin 8).val) 0 rfl (by decide)) $$ HS0
  iintro HS0
  iapply (st_out m c 0 7 (n := 7) (n' := 8) rfl rfl rfl (Memref.slice_unit_congr aO (off12_eq c 7 0) _ _ _ _) rfl) $$ HS0 HOT0
  iintro HS0 HOT0
  iapply (WP_ret c)
  iapply Hk $$ HO HRC7 HR HS0 HOD0 HOT0

theorem p55 {Q : (PUnit) → sProp 𝕄} (v1765 : BitVec 32) (v1775 : BitVec 32) :
    (ctx m K : sProp 𝕄) ⊢ iprop(owe c (Orem c 7 7 7 7 7) -∗ FO m c 1 (back c (6 : Fin 8).val) -∗ OD m c 1 6 -∗ Full c bR CX (qv m (src c 6)) -∗ OT c 1 7 -∗ FO m c 0 (back c (7 : Fin 8).val) -∗ OD m c 0 7 -∗ (owe c (Orem c 7 7 7 7 7) -∗ Idle c (stV 1) (CO 1) -∗ OD m c 1 8 -∗ Full c bR CX (qv m (src c 6)) -∗ OT c 1 8 -∗ Idle c (stV 0) (CO 0) -∗ OD m c 0 8 -∗ Q ⟨⟩)
      -∗ WP c (k0_part55 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c (k0_pay11 ((AM m))) v1765 v1775) Q) := by
  rw [k0_part55_eq_skeleton]; unfold k0_part55_skel
  simp only [semSignalWord, semWaitWord, Prog.lift, Prog.bind_op, Prog.bind_ret, Prog.pure_eq_ret]
  iintro #HI HO HS1 HOD1 HR HOT1 HS0 HOD0 Hk
  iapply (st_outwait m K c 1 6 (n := 6) (n' := 7) rfl rfl (dstw := aO.slice (Rect.unit (s := S4096x8192) (k0_off12 c 6#32 1024#32) S2048x1024.size _) (fun _ => rfl)) cred_o rfl) $$ HI HO HS1 HOD1
  iintro HO HS1 HOD1
  iapply (st_loadHalf m c (src c 6) 1 (by decide)) $$ HR
  iintro HR
  iapply (st_loadSlot c 1 (by decide)) $$ HS1
  iintro %_ HS1
  iapply (st_storeSlot m c (back c (7 : Fin 8).val) 1 rfl (by decide)) $$ HS1
  iintro HS1
  iapply (st_out m c 1 7 (n := 7) (n' := 8) rfl rfl rfl (Memref.slice_unit_congr aO (off12_eq c 7 1) _ _ _ _) rfl) $$ HS1 HOT1
  iintro HS1 HOT1
  iapply (st_outwait m K c 0 7 (n := 7) (n' := 8) rfl rfl (dstw := aO.slice (Rect.unit (s := S4096x8192) (k0_off12 c 7#32 0#32) S2048x1024.size _) (fun _ => rfl)) cred_o rfl) $$ HI HO HS0 HOD0
  iintro HO HS0 HOD0
  iapply (st_outwait m K c 1 7 (n := 7) (n' := 8) rfl rfl (dstw := aO.slice (Rect.unit (s := S4096x8192) (k0_off12 c 7#32 1024#32) S2048x1024.size _) (fun _ => rfl)) cred_o rfl) $$ HI HO HS1 HOD1
  iintro HO HS1 HOD1
  iapply (WP_ret c)
  iapply Hk $$ HO HS1 HOD1 HR HOT1 HS0 HOD0

end Cert.KProof
-- ==== Proof.PartsE.lean ====
/- The waits for the transfers this device sent. One lemma for each stretch of the printed program. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p56 {Q : (PUnit) → sProp 𝕄} :
    (ctx m K : sProp 𝕄) ⊢ iprop(owe c (Orem c 7 7 7 7 7) -∗ RC c 0 0 -∗ GA m c 0 0 -∗ RC c 2 0 -∗ GA m c 2 0 -∗ (owe c (Orem c 7 7 7 7 7) -∗ RC c 0 3 -∗ GA m c 0 3 -∗ RC c 2 3 -∗ GA m c 2 3 -∗ Q ⟨⟩)
      -∗ WP c (k0_part56 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c) Q) := by
  rw [k0_part56_eq_skeleton]; unfold k0_part56_skel
  simp only [semSignalWord, semWaitWord, Prog.lift, Prog.bind_op, Prog.bind_ret, Prog.pure_eq_ret]
  iintro #HI HO HRC0 HGA0 HRC2 HGA2 Hk
  iapply (st_recvA m K c 0 (n := 0) (n' := 1) rfl rfl 0 (by decide) (.inl (by decide)) (dstw := aX.slice (Rect.unit (s := S4096x512) (k0_off4 c 1#32) S2048x512.size _) (fun _ => rfl)) rfl cred_x) $$ HI HO HRC0 HGA0
  iintro HO HRC0 HGA0
  iapply (st_recvA m K c 0 (n := 0) (n' := 1) rfl rfl 2 (by decide) (.inl (by decide)) (dstw := aW.slice (Rect.unit (s := S512x8192) (k0_off2 c 1#32) S512x2048.size _) (fun _ => rfl)) rfl cred_w) $$ HI HO HRC2 HGA2
  iintro HO HRC2 HGA2
  iapply (st_recvA m K c 1 (n := 1) (n' := 2) rfl rfl 0 (by decide) (.inl (by decide)) (dstw := aX.slice (Rect.unit (s := S4096x512) (k0_off4 c 2#32) S2048x512.size _) (fun _ => rfl)) rfl cred_x) $$ HI HO HRC0 HGA0
  iintro HO HRC0 HGA0
  iapply (st_recvA m K c 1 (n := 1) (n' := 2) rfl rfl 2 (by decide) (.inl (by decide)) (dstw := aW.slice (Rect.unit (s := S512x8192) (k0_off2 c 2#32) S512x2048.size _) (fun _ => rfl)) rfl cred_w) $$ HI HO HRC2 HGA2
  iintro HO HRC2 HGA2
  iapply (st_recvA m K c 2 (n := 2) (n' := 3) rfl rfl 0 (by decide) (.inl (by decide)) (dstw := aX.slice (Rect.unit (s := S4096x512) (k0_off4 c 3#32) S2048x512.size _) (fun _ => rfl)) rfl cred_x) $$ HI HO HRC0 HGA0
  iintro HO HRC0 HGA0
  iapply (st_recvA m K c 2 (n := 2) (n' := 3) rfl rfl 2 (by decide) (.inl (by decide)) (dstw := aW.slice (Rect.unit (s := S512x8192) (k0_off2 c 3#32) S512x2048.size _) (fun _ => rfl)) rfl cred_w) $$ HI HO HRC2 HGA2
  iintro HO HRC2 HGA2
  iapply (WP_ret c)
  iapply Hk $$ HO HRC0 HGA0 HRC2 HGA2

theorem p57 {Q : (PUnit) → sProp 𝕄} :
    (ctx m K : sProp 𝕄) ⊢ iprop(owe c (Orem c 7 7 7 7 7) -∗ RC c 0 3 -∗ GA m c 0 3 -∗ RC c 2 3 -∗ GA m c 2 3 -∗ (owe c (Orem c 7 7 7 7 7) -∗ RC c 0 6 -∗ GA m c 0 6 -∗ RC c 2 6 -∗ GA m c 2 6 -∗ Q ⟨⟩)
      -∗ WP c (k0_part57 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c) Q) := by
  rw [k0_part57_eq_skeleton]; unfold k0_part57_skel
  simp only [semSignalWord, semWaitWord, Prog.lift, Prog.bind_op, Prog.bind_ret, Prog.pure_eq_ret]
  iintro #HI HO HRC0 HGA0 HRC2 HGA2 Hk
  iapply (st_recvA m K c 3 (n := 3) (n' := 4) rfl rfl 0 (by decide) (.inl (by decide)) (dstw := aX.slice (Rect.unit (s := S4096x512) (k0_off4 c 4#32) S2048x512.size _) (fun _ => rfl)) rfl cred_x) $$ HI HO HRC0 HGA0
  iintro HO HRC0 HGA0
  iapply (st_recvA m K c 3 (n := 3) (n' := 4) rfl rfl 2 (by decide) (.inl (by decide)) (dstw := aW.slice (Rect.unit (s := S512x8192) (k0_off2 c 4#32) S512x2048.size _) (fun _ => rfl)) rfl cred_w) $$ HI HO HRC2 HGA2
  iintro HO HRC2 HGA2
  iapply (st_recvA m K c 4 (n := 4) (n' := 5) rfl rfl 0 (by decide) (.inl (by decide)) (dstw := aX.slice (Rect.unit (s := S4096x512) (k0_off4 c 5#32) S2048x512.size _) (fun _ => rfl)) rfl cred_x) $$ HI HO HRC0 HGA0
  iintro HO HRC0 HGA0
  iapply (st_recvA m K c 4 (n := 4) (n' := 5) rfl rfl 2 (by decide) (.inl (by decide)) (dstw := aW.slice (Rect.unit (s := S512x8192) (k0_off2 c 5#32) S512x2048.size _) (fun _ => rfl)) rfl cred_w) $$ HI HO HRC2 HGA2
  iintro HO HRC2 HGA2
  iapply (st_recvA m K c 5 (n := 5) (n' := 6) rfl rfl 0 (by decide) (.inl (by decide)) (dstw := aX.slice (Rect.unit (s := S4096x512) (k0_off4 c 6#32) S2048x512.size _) (fun _ => rfl)) rfl cred_x) $$ HI HO HRC0 HGA0
  iintro HO HRC0 HGA0
  iapply (st_recvA m K c 5 (n := 5) (n' := 6) rfl rfl 2 (by decide) (.inl (by decide)) (dstw := aW.slice (Rect.unit (s := S512x8192) (k0_off2 c 6#32) S512x2048.size _) (fun _ => rfl)) rfl cred_w) $$ HI HO HRC2 HGA2
  iintro HO HRC2 HGA2
  iapply (WP_ret c)
  iapply Hk $$ HO HRC0 HGA0 HRC2 HGA2

theorem p58 {Q : (PUnit) → sProp 𝕄} :
    (ctx m K : sProp 𝕄) ⊢ iprop(owe c (Orem c 7 7 7 7 7) -∗ RC c 0 6 -∗ GA m c 0 6 -∗ RC c 2 6 -∗ GA m c 2 6 -∗ RC c 4 0 -∗ GA m c 4 0 -∗ (owe c (Orem c 7 7 7 7 7) -∗ RC c 0 7 -∗ GA m c 0 7 -∗ RC c 2 7 -∗ GA m c 2 7 -∗ RC c 4 4 -∗ GA m c 4 4 -∗ Q ⟨⟩)
      -∗ WP c (k0_part58 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c) Q) := by
  rw [k0_part58_eq_skeleton]; unfold k0_part58_skel
  simp only [semSignalWord, semWaitWord, Prog.lift, Prog.bind_op, Prog.bind_ret, Prog.pure_eq_ret]
  iintro #HI HO HRC0 HGA0 HRC2 HGA2 HRC4 HGA4 Hk
  iapply (st_recvA m K c 6 (n := 6) (n' := 7) rfl rfl 0 (by decide) (.inl (by decide)) (dstw := aX.slice (Rect.unit (s := S4096x512) (k0_off4 c 7#32) S2048x512.size _) (fun _ => rfl)) rfl cred_x) $$ HI HO HRC0 HGA0
  iintro HO HRC0 HGA0
  iapply (st_recvA m K c 6 (n := 6) (n' := 7) rfl rfl 2 (by decide) (.inl (by decide)) (dstw := aW.slice (Rect.unit (s := S512x8192) (k0_off2 c 7#32) S512x2048.size _) (fun _ => rfl)) rfl cred_w) $$ HI HO HRC2 HGA2
  iintro HO HRC2 HGA2
  iapply (st_recvA m K c 0 (n := 0) (n' := 1) rfl rfl 4 (by decide) (.inl (by decide)) (dstw := amB c) rfl rfl) $$ HI HO HRC4 HGA4
  iintro HO HRC4 HGA4
  iapply (st_recvA m K c 1 (n := 1) (n' := 2) rfl rfl 4 (by decide) (.inl (by decide)) (dstw := amB c) rfl rfl) $$ HI HO HRC4 HGA4
  iintro HO HRC4 HGA4
  iapply (st_recvA m K c 2 (n := 2) (n' := 3) rfl rfl 4 (by decide) (.inl (by decide)) (dstw := amB c) rfl rfl) $$ HI HO HRC4 HGA4
  iintro HO HRC4 HGA4
  iapply (st_recvA m K c 3 (n := 3) (n' := 4) rfl rfl 4 (by decide) (.inl (by decide)) (dstw := amB c) rfl rfl) $$ HI HO HRC4 HGA4
  iintro HO HRC4 HGA4
  iapply (WP_ret c)
  iapply Hk $$ HO HRC0 HGA0 HRC2 HGA2 HRC4 HGA4

theorem p59 {Q : (PUnit) → sProp 𝕄} :
    (ctx m K : sProp 𝕄) ⊢ iprop(owe c (Orem c 7 7 7 7 7) -∗ RC c 4 4 -∗ GA m c 4 4 -∗ RC c 6 0 -∗ GA m c 6 0 -∗ (owe c (Orem c 7 7 7 7 7) -∗ RC c 4 7 -∗ GA m c 4 7 -∗ RC c 6 5 -∗ GA m c 6 5 -∗ Q ⟨⟩)
      -∗ WP c (k0_part59 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16 c) Q) := by
  rw [k0_part59_eq_skeleton]; unfold k0_part59_skel
  simp only [semSignalWord, semWaitWord, Prog.lift, Prog.bind_op, Prog.bind_ret, Prog.pure_eq_ret]
  iintro #HI HO HRC4 HGA4 HRC6 HGA6 Hk
  iapply (st_recvA m K c 4 (n := 4) (n' := 5) rfl rfl 4 (by decide) (.inl (by decide)) (dstw := amB c) rfl rfl) $$ HI HO HRC4 HGA4
  iintro HO HRC4 HGA4
  iapply (st_recvA m K c 5 (n := 5) (n' := 6) rfl rfl 4 (by decide) (.inl (by decide)) (dstw := amB c) rfl rfl) $$ HI HO HRC4 HGA4
  iintro HO HRC4 HGA4
  iapply (st_recvA m K c 6 (n := 6) (n' := 7) rfl rfl 4 (by decide) (.inl (by decide)) (dstw := amB c) rfl rfl) $$ HI HO HRC4 HGA4
  iintro HO HRC4 HGA4
  iapply (st_recvA m K c 0 (n := 0) (n' := 1) rfl rfl 6 (by decide) (.inl (by decide)) (dstw := bQ) rfl cred_q) $$ HI HO HRC6 HGA6
  iintro HO HRC6 HGA6
  iapply (st_recvA m K c 1 (n := 1) (n' := 2) rfl rfl 6 (by decide) (.inl (by decide)) (dstw := bQ) rfl cred_q) $$ HI HO HRC6 HGA6
  iintro HO HRC6 HGA6
  iapply (st_recvA m K c 2 (n := 2) (n' := 3) rfl rfl 6 (by decide) (.inl (by decide)) (dstw := bQ) rfl cred_q) $$ HI HO HRC6 HGA6
  iintro HO HRC6 HGA6
  iapply (st_recvA m K c 3 (n := 3) (n' := 4) rfl rfl 6 (by decide) (.inl (by decide)) (dstw := bQ) rfl cred_q) $$ HI HO HRC6 HGA6
  iintro HO HRC6 HGA6
  iapply (st_recvA m K c 4 (n := 4) (n' := 5) rfl rfl 6 (by decide) (.inl (by decide)) (dstw := bQ) rfl cred_q) $$ HI HO HRC6 HGA6
  iintro HO HRC6 HGA6
  iapply (WP_ret c)
  iapply Hk $$ HO HRC4 HGA4 HRC6 HGA6

end Cert.KProof
-- ==== Proof.Body.lean ====
/- The whole body, from what a device holds when it starts to what it holds when it ends. -/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem p60 {Q : Dev nD → sProp 𝕄} :
    (ctx m K : sProp 𝕄) ⊢ iprop(owe c (Orem c 0 0 0 0 0) -∗ SB c 0 -∗ cred (tallyAt (bar c) () 7) -∗ atPos (ER (F := F)) (bar c) 0 ∅ 0 -∗ Idle c bX CX -∗ Idle c bW CW -∗ GX0 m c -∗ GW0 m c -∗ YA c -∗ any c (amB c) -∗ any c bQ -∗ any c bR -∗ PT c 2 3 -∗ PT c 0 1 -∗ PT c 4 5 -∗ PT c 6 7 -∗ PWs m c -∗ PXs m c -∗ Idle c (stV 0) (CO 0) -∗ Idle c (stV 1) (CO 1) -∗ OT c 0 0 -∗ OT c 1 0 -∗ OD m c 0 0 -∗ OD m c 1 0 -∗ RC c 1 0 -∗ RC c 3 0 -∗ RC c 5 0 -∗ RC c 7 0 -∗ GA m c 4 0 -∗ GA m c 5 0 -∗ GA m c 6 0 -∗ AP c 0 -∗ AP c 2 -∗ AP c 4 -∗ AP c 6 -∗ GA m c 0 0 -∗ GA m c 2 0 -∗ (SB c 7 -∗ semVal (bar c) 0 -∗ RC c 1 7 -∗ RC c 3 7 -∗ Full c bW CW (wb m c (src c 6)) -∗ RC c 5 7 -∗ AMo m c -∗ GA m c 5 7 -∗ YD m c 7 -∗ QMo m c -∗ any c bX -∗ RC c 7 7 -∗ OT c 0 8 -∗ Full c bR CX (qv m (src c 6)) -∗ OT c 1 8 -∗ Idle c (stV 0) (CO 0) -∗ OD m c 0 8 -∗ Idle c (stV 1) (CO 1) -∗ OD m c 1 8 -∗ RC c 0 7 -∗ GA m c 0 7 -∗ RC c 2 7 -∗ GA m c 2 7 -∗ RC c 4 7 -∗ GA m c 4 7 -∗ owe c (Orem c 7 7 7 7 7) -∗ RC c 6 5 -∗ GA m c 6 5 -∗ Q c)
      -∗ WP c (k0_part60 (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16) Q) := by
  rw [k0_part60_eq_skeleton]; unfold k0_part60_skel
  iintro #HI HO HSB HBC HBA HX HW HI0 HJ0 HY HAR HQR HR HPW HPX HPA HPQ HHW HHX HS0 HS1 HOT0 HOT1 HOD0 HOD1 HRC1 HRC3 HRC5 HRC7 HGA4 HGA5 HGA6 HPO0 HPO2 HPO4 HPO6 HGA0 HGA2 Hk
  iapply (WP_bind c)
  iapply (p1 m K c) $$ HI
  iintro %w1_0 %w1_1 %w1_2 %w1_3 %w1_4 %w1_5 %w1_6 %w1_7
  try dsimp only
  iapply (WP_bind c)
  iapply (p2 m K c _ _ _ _ _ _) $$ HI HO HSB
  iintro %w2_0 HO HSB
  try dsimp only
  iapply (WP_bind c)
  iapply (p3 m K c _ _) $$ HI HO HSB
  iintro %w3_0 %w3_1 %w3_2 %w3_3 %w3_4 HO HSB
  try dsimp only
  iapply (WP_bind c)
  iapply (p4 m K c _ _ _ _ _ _) $$ HI HO HSB HBC HBA
  iintro %w4_0 %w4_1 %w4_2 %w4_3 HO HSB HBZ HBL
  try dsimp only
  ihave HBL := (lands_split c) $$ HBL
  icases HBL with ⟨HLW, HLX, HLA, HLQ⟩
  ihave HSW := (mkW m c) $$ HPW HHW HLW
  ihave HSX := (mkX m c) $$ HPX HHX HLX
  iapply (WP_bind c)
  iapply (p5 m K c _ _ _ _ _) $$ HI HO HSW
  iintro HO HSW
  try dsimp only
  iapply (WP_bind c)
  iapply (p6 m K c _ _) $$ HI HO HSX
  iintro %w6_0 %w6_1 %w6_2 %w6_3 %w6_4 HO HSX
  try dsimp only
  iapply (WP_bind c)
  iapply (p7 m K c _ _ _ _ _ _) $$ HI HO HSW HSX
  iintro %w7_0 %w7_1 %w7_2 HO HSW HSX
  try dsimp only
  iapply (WP_bind c)
  iapply (p8 m K c _ _ _ _) $$ HI
  iintro %w8_0 %w8_1
  try dsimp only
  iapply (WP_bind c)
  iapply (p9 m K c _ _ _) $$ HI HO HSW HSX
  iintro %w9_0 %w9_1 %w9_2 %w9_3 %w9_4 HO HSW HSX
  try dsimp only
  iapply (WP_bind c)
  iapply (p10 m K c _ _ _ _ _ _) $$ HI HO HSW
  iintro HO HSW
  try dsimp only
  iapply (WP_bind c)
  iapply (p11 m K c _) $$ HI HO HSX
  iintro %w11_0 %w11_1 %w11_2 HO HSX
  try dsimp only
  iapply (WP_bind c)
  iapply (p12 m K c _ _ _ _) $$ HI HO HSW HSX
  iintro %w12_0 %w12_1 %w12_2 %w12_3 HO HSW HSX
  try dsimp only
  iapply (WP_bind c)
  iapply (p13 m K c _ _ _ _ _) $$ HI HO HSW
  iintro HO HSW
  try dsimp only
  iapply (WP_bind c)
  iapply (p14 m K c _ _) $$ HI HO HSX
  iintro %w14_0 %w14_1 %w14_2 %w14_3 %w14_4 HO HSX
  try dsimp only
  iapply (WP_bind c)
  iapply (p15 m K c _ _ _ _ _ _ _ _) $$ HI HO HSW HSX HI0 HX HJ0 HW
  iintro HO HSW HSX HX HW
  try dsimp only
  iapply (WP_bind c)
  iapply (p16 m K c _ _) $$ HI HO HX HW HY HRC1
  iintro %w16_0 HO HX HW HY HRC1
  try dsimp only
  iapply (WP_bind c)
  iapply (p17 m K c _ _ _) $$ HI HO HRC3 HW HX HY
  iintro %w17_0 HO HRC3 HW HX HY
  try dsimp only
  iapply (WP_bind c)
  iapply (p18 m K c _ _ _) $$ HI HO HRC1 HX HRC3 HW HY
  iintro %w18_0 %w18_1 HO HRC1 HX HRC3 HW HY
  try dsimp only
  iapply (WP_bind c)
  iapply (p19 m K c _ _ _) $$ HI HO HRC1 HX HRC3 HW HY
  iintro HO HRC1 HX HRC3 HW HY
  try dsimp only
  iapply (WP_bind c)
  iapply (p20 m K c _ _) $$ HI HW HY HO HRC1 HX HRC3
  iintro HW HY HO HRC1 HX HRC3 HGW3
  try dsimp only
  iapply (WP_bind c)
  iapply (p21 m K c _ _) $$ HI HW HGW3 HO HX HY HRC1
  iintro %w21_0 HW HO HX HY HRC1 HGX4
  try dsimp only
  iapply (WP_bind c)
  iapply (p22 m K c _ _ _) $$ HI HX HGX4 HO HRC3 HW HY
  iintro %w22_0 %w22_1 %w22_2 HX HO HRC3 HW HY
  try dsimp only
  iapply (WP_bind c)
  iapply (p23 m K c _ _ _ _) $$ HI HO HRC1 HX HRC3 HW HY
  iintro HO HRC1 HX HRC3 HW HY
  try dsimp only
  iapply (WP_bind c)
  iapply (p24 m K c _ _) $$ HI HO HRC1 HX HRC3 HW
  iintro HO HRC1 HX HRC3 HW
  try dsimp only
  iapply (WP_bind c)
  iapply (p25 m K c _) $$ HI HY HX HW HAR
  iintro %w25_0 HY HX HW HAR
  try dsimp only
  ihave HSA := (mkA m c) $$ HAR HPA HLA
  icases HSA with ⟨HSA, HAM⟩
  iapply (WP_bind c)
  iapply (p26 m K c _) $$ HI HO HSA
  iintro %w26_0 %w26_1 HO HSA
  try dsimp only
  iapply (WP_bind c)
  iapply (p27 m K c _ _) $$ HI HO HSA
  iintro %w27_0 %w27_1 %w27_2 %w27_3 %w27_4 %w27_5 HO HSA
  try dsimp only
  iapply (WP_bind c)
  iapply (p28 m K c _ _ _ _ _ _) $$ HI HO HSA
  iintro %w28_0 %w28_1 %w28_2 %w28_3 HO HSA
  try dsimp only
  iapply (WP_bind c)
  iapply (p29 m K c _ _ _ _ _) $$ HI HO HSA HRC5 HGA5
  iintro %w29_0 HO HSA HRC5 HGA5
  try dsimp only
  iapply (WP_bind c)
  iapply (p30 m K c _ _ _ _) $$ HI HO HRC5 HGA5 HAM
  iintro HO HRC5 HGA5 HAM
  try dsimp only
  iapply (WP_bind c)
  iapply (p31 m K c _ _ _) $$ HI HY HQR HPQ HLQ HO
  iintro %w31_0 %w31_1 HY HSQ HQM HO
  try dsimp only
  iapply (WP_bind c)
  iapply (p32 m K c _ _ _ _) $$ HI HO HSQ
  iintro %w32_0 %w32_1 %w32_2 %w32_3 HO HSQ
  try dsimp only
  iapply (WP_bind c)
  iapply (p33 m K c _ _ _ _ _) $$ HI HO HSQ
  iintro %w33_0 %w33_1 %w33_2 HO HSQ
  try dsimp only
  iapply (WP_bind c)
  iapply (p34 m K c _ _ _ _ _) $$ HI HO HSQ
  iintro %w34_0 %w34_1 %w34_2 %w34_3 %w34_4 HO HSQ
  try dsimp only
  iapply (WP_bind c)
  iapply (p35 m K c _ _ _ _ _ _ _) $$ HI HO HSQ
  iintro %w35_0 %w35_1 %w35_2 %w35_3 %w35_4 %w35_5 HO HSQ
  try dsimp only
  iapply (WP_bind c)
  iapply (p36 m K c _ _ _ _ _) $$ HI HQM HS0 HOT0
  iintro %w36_0 %w36_1 HQM HS0 HOT0
  try dsimp only
  iapply (WP_bind c)
  iapply (p37 m K c _ _ _) $$ HI HS1 HOT1
  iintro %w37_0 %w37_1 %w37_2 HS1 HOT1
  try dsimp only
  ihave HR := (swap_buf c) $$ HX HR
  icases HR with ⟨HX, HR⟩
  iapply (WP_bind c)
  iapply (p38 m K c _ _ _ _) $$ HI HO HRC7 HR HS0 HOD0
  iintro %w38_0 %w38_1 HO HRC7 HR HS0 HOD0
  try dsimp only
  iapply (WP_bind c)
  iapply (p39 m K c _ _ _) $$ HI HS0 HOT0 HO HS1 HOD1 HR HOT1
  iintro %w39_0 %w39_1 HS0 HOT0 HO HS1 HOD1 HR HOT1
  try dsimp only
  iapply (WP_bind c)
  iapply (p40 m K c _ _ _) $$ HI
  iintro %w40_0 %w40_1 %w40_2 %w40_3
  try dsimp only
  iapply (WP_bind c)
  iapply (p41 m K c _ _ _ _) $$ HI HO HRC7 HR HS0 HOD0 HOT0
  iintro HO HRC7 HR HS0 HOD0 HOT0
  try dsimp only
  iapply (WP_bind c)
  iapply (p42 m K c _ _ _) $$ HI HO HS1 HOD1 HR HOT1
  iintro %w42_0 %w42_1 %w42_2 %w42_3 HO HS1 HOD1 HR HOT1
  try dsimp only
  iapply (WP_bind c)
  iapply (p43 m K c _ _ _ _ _) $$ HI HO HRC7 HR HS0 HOD0
  iintro %w43_0 %w43_1 HO HRC7 HR HS0 HOD0
  try dsimp only
  iapply (WP_bind c)
  iapply (p44 m K c _ _) $$ HI HR HS0 HOT0 HO HS1 HOD1
  iintro HR HS0 HOT0 HO HS1 HOD1
  try dsimp only
  iapply (WP_bind c)
  iapply (p45 m K c _) $$ HI HS1 HOT1
  iintro %w45_0 %w45_1 %w45_2 %w45_3 %w45_4 HS1 HOT1
  try dsimp only
  iapply (WP_bind c)
  iapply (p46 m K c _ _ _ _ _ _) $$ HI HO HRC7 HR HS0 HOD0
  iintro %w46_0 HO HRC7 HR HS0 HOD0
  try dsimp only
  iapply (WP_bind c)
  iapply (p47 m K c _ _ _) $$ HI HS0 HOT0 HO HS1 HOD1 HR HOT1
  iintro %w47_0 %w47_1 %w47_2 %w47_3 HS0 HOT0 HO HS1 HOD1 HR HOT1
  try dsimp only
  iapply (WP_bind c)
  iapply (p48 m K c _ _ _ _ _) $$ HI HO HRC7 HR
  iintro %w48_0 %w48_1 HO HRC7 HR
  try dsimp only
  iapply (WP_bind c)
  iapply (p49 m K c _ _) $$ HI HO HR HS0 HOD0 HOT0 HS1 HOD1
  iintro HO HR HS0 HOD0 HOT0 HS1 HOD1
  try dsimp only
  iapply (WP_bind c)
  iapply (p50 m K c _ _ _) $$ HI HS1 HOT1
  iintro %w50_0 %w50_1 %w50_2 HS1 HOT1
  try dsimp only
  iapply (WP_bind c)
  iapply (p51 m K c _ _ _ _) $$ HI HO HRC7 HR HS0 HOD0
  iintro %w51_0 %w51_1 HO HRC7 HR HS0 HOD0
  try dsimp only
  iapply (WP_bind c)
  iapply (p52 m K c _ _ _) $$ HI HS0 HOT0 HO HS1 HOD1 HR HOT1
  iintro %w52_0 %w52_1 HS0 HOT0 HO HS1 HOD1 HR HOT1
  try dsimp only
  iapply (WP_bind c)
  iapply (p53 m K c _ _ _) $$ HI
  iintro %w53_0 %w53_1 %w53_2 %w53_3
  try dsimp only
  iapply (WP_bind c)
  iapply (p54 m K c _ _ _ _) $$ HI HO HRC7 HR HS0 HOD0 HOT0
  iintro HO HRC7 HR HS0 HOD0 HOT0
  try dsimp only
  iapply (WP_bind c)
  iapply (p55 m K c _ _) $$ HI HO HS1 HOD1 HR HOT1 HS0 HOD0
  iintro HO HS1 HOD1 HR HOT1 HS0 HOD0
  try dsimp only
  ihave HRC0 := (backX m c) $$ HSX HPO0
  ihave HRC2 := (backW m c) $$ HSW HPO2
  ihave HRC4 := (backA m c) $$ HSA HPO4
  ihave HRC6 := (backQ m c) $$ HSQ HPO6
  iapply (WP_bind c)
  iapply (p56 m K c) $$ HI HO HRC0 HGA0 HRC2 HGA2
  iintro HO HRC0 HGA0 HRC2 HGA2
  try dsimp only
  iapply (WP_bind c)
  iapply (p57 m K c) $$ HI HO HRC0 HGA0 HRC2 HGA2
  iintro HO HRC0 HGA0 HRC2 HGA2
  try dsimp only
  iapply (WP_bind c)
  iapply (p58 m K c) $$ HI HO HRC0 HGA0 HRC2 HGA2 HRC4 HGA4
  iintro HO HRC0 HGA0 HRC2 HGA2 HRC4 HGA4
  try dsimp only
  iapply (WP_bind c)
  iapply (p59 m K c) $$ HI HO HRC4 HGA4 HRC6 HGA6
  iintro HO HRC4 HGA4 HRC6 HGA6
  try dsimp only
  iapply (WP_pure c)
  iapply Hk $$ HSB HBZ HRC1 HRC3 HW HRC5 HAM HGA5 HY HQM HX HRC7 HOT0 HR HOT1 HS0 HOD0 HS1 HOD1 HRC0 HGA0 HRC2 HGA2 HRC4 HGA4 HO HRC6 HGA6

theorem body {Q : PUnit → sProp 𝕄} :
    (ctx m K : sProp 𝕄) ⊢ iprop(owe c (Orem c 0 0 0 0 0) -∗ SB c 0 -∗ cred (tallyAt (bar c) () 7) -∗ atPos (ER (F := F)) (bar c) 0 ∅ 0 -∗ Idle c bX CX -∗ Idle c bW CW -∗ GX0 m c -∗ GW0 m c -∗ YA c -∗ any c (amB c) -∗ any c bQ -∗ any c bR -∗ PT c 2 3 -∗ PT c 0 1 -∗ PT c 4 5 -∗ PT c 6 7 -∗ PWs m c -∗ PXs m c -∗ Idle c (stV 0) (CO 0) -∗ Idle c (stV 1) (CO 1) -∗ OT c 0 0 -∗ OT c 1 0 -∗ OD m c 0 0 -∗ OD m c 1 0 -∗ RC c 1 0 -∗ RC c 3 0 -∗ RC c 5 0 -∗ RC c 7 0 -∗ GA m c 4 0 -∗ GA m c 5 0 -∗ GA m c 6 0 -∗ AP c 0 -∗ AP c 2 -∗ AP c 4 -∗ AP c 6 -∗ GA m c 0 0 -∗ GA m c 2 0 -∗ (SB c 7 -∗ semVal (bar c) 0 -∗ RC c 1 7 -∗ RC c 3 7 -∗ Full c bW CW (wb m c (src c 6)) -∗ RC c 5 7 -∗ AMo m c -∗ GA m c 5 7 -∗ YD m c 7 -∗ QMo m c -∗ any c bX -∗ RC c 7 7 -∗ OT c 0 8 -∗ Full c bR CX (qv m (src c 6)) -∗ OT c 1 8 -∗ Idle c (stV 0) (CO 0) -∗ OD m c 0 8 -∗ Idle c (stV 1) (CO 1) -∗ OD m c 1 8 -∗ RC c 0 7 -∗ GA m c 0 7 -∗ RC c 2 7 -∗ GA m c 2 7 -∗ RC c 4 7 -∗ GA m c 4 7 -∗ owe c (Orem c 7 7 7 7 7) -∗ RC c 6 7 -∗ GA m c 6 7 -∗ Q ⟨⟩)
      -∗ WP c (cc0__fused_body (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16) Q) := by
  rw [cc0__fused_body_eq_skeleton]; unfold cc0__fused_body_skel
  iintro #HI HO HSB HBC HBA HX HW HI0 HJ0 HY HAR HQR HR HPW HPX HPA HPQ HHW HHX HS0 HS1 HOT0 HOT1 HOD0 HOD1 HRC1 HRC3 HRC5 HRC7 HGA4 HGA5 HGA6 HPO0 HPO2 HPO4 HPO6 HGA0 HGA2 Hk
  iapply (WP_bind c)
  iapply (p60 m K c) $$ HI HO HSB HBC HBA HX HW HI0 HJ0 HY HAR HQR HR HPW HPX HPA HPQ HHW HHX HS0 HS1 HOT0 HOT1 HOD0 HOD1 HRC1 HRC3 HRC5 HRC7 HGA4 HGA5 HGA6 HPO0 HPO2 HPO4 HPO6 HGA0 HGA2
  iintro HSB HBZ HRC1 HRC3 HW HRC5 HAM HGA5 HY HQM HX HRC7 HOT0 HR HOT1 HS0 HOD0 HS1 HOD1 HRC0 HGA0 HRC2 HGA2 HRC4 HGA4 HO HRC6 HGA6
  simp only [Prog.lift, Prog.bind_op, Prog.bind_ret, Prog.pure_eq_ret]
  iapply (st_recvA m K c 5 (n := 5) (n' := 6) rfl rfl 6 (by decide) (.inl (by decide)) (dstw := bQ) rfl cred_q) $$ HI HO HRC6 HGA6
  iintro HO HRC6 HGA6
  iapply (st_recvA m K c 6 (n := 6) (n' := 7) rfl rfl 6 (by decide) (.inl (by decide)) (dstw := bQ) rfl cred_q) $$ HI HO HRC6 HGA6
  iintro HO HRC6 HGA6
  iapply (WP_ret c)
  iapply Hk $$ HSB HBZ HRC1 HRC3 HW HRC5 HAM HGA5 HY HQM HX HRC7 HOT0 HR HOT1 HS0 HOD0 HS1 HOD1 HRC0 HGA0 HRC2 HGA2 HRC4 HGA4 HO HRC6 HGA6

end Cert.KProof
-- ==== Proof.Split.lean ====
/- The arrays split into the blocks the run works with, and put together again from the blocks it leaves. -/
module

public import proofs.«01_k».proof.Proof.Glue

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Whole arrays and blocks -/

/-- A whole buffer at some contents, as a block held at no contents in particular. -/
theorem whole_any (b : Ref sig .tc) (f : Buf (Elt F) ((c : Thread nD τ).loc b)) :
    ((((c : Thread nD τ).loc b) ↦{fullShare} f : sProp 𝕄)) ⊢ any c (Memref.whole b) :=
  (Entails.of_eq (owns_whole (c : Thread nD τ) b fullShare f).symm).trans (owns_any c (Memref.whole b) f)
theorem any_whole (b : Ref sig .tc) :
    (any c (Memref.whole b) : sProp 𝕄) ⊢ iprop(∃ f : Buf (Elt F) ((c : Thread nD τ).loc b), (((c : Thread nD τ).loc b) ↦{fullShare} f)) := by
  iintro H
  ihave H := (any_owns c (Memref.whole b)) $$ H
  icases H with ⟨%X, H⟩
  iexists X
  iapply (Entails.of_eq (owns_whole (c : Thread nD τ) b fullShare X)) $$ H

section Blocks
variable {sp : Space} {sh : Shape} {e : EltTy} (M : Memref sig .tc sp sh e) {T : Type} [Fintype T] [DecidableEq T] (r : T → Rect sh) (hr : ∀ t a, (r t).stride a = 1)
  (hd : ∀ t t', t ≠ t' → Disjoint (r t).set (r t').set) (hcov : (Finset.univ : Finset T).biUnion (fun t => (r t).set) = Finset.univ)
include hd hcov

theorem any_blocks : (any c M : sProp 𝕄) ⊢ bigSep Finset.univ fun t => any c (M.slice (r t) (hr t)) := by
  iintro H
  ihave H := (any_owns c M) $$ H
  icases H with ⟨%X, H⟩
  iapply (show owns (c : Thread nD τ) M fullShare X ⊢ (bigSep Finset.univ fun t => any c (M.slice (r t) (hr t)) : sProp 𝕄) from
    (owns_rects (Val := Elt F) (Ix := Unit) (Name := ℕ) (U := UU) (Lvl := ℕ) (c : Thread nD τ) M fullShare r hr hd hcov X).trans (bigSep_mono fun t _ => owns_any c _ _)) $$ H

theorem blocks_any : (bigSep Finset.univ fun t => any c (M.slice (r t) (hr t))) ⊢ (any c M : sProp 𝕄) := by
  have h := ownsSat_of_rects (Val := Elt F) (Ix := Unit) (Name := ℕ) (U := UU) (Lvl := ℕ) (c : Thread nD τ) M fullShare r hr hd hcov (fun _ _ => True)
  simp only [implies_true] at h
  exact h
end Blocks

/-! ## The four landing areas -/

theorem area_x : (any c gX : sProp 𝕄) ⊢ bigSep Finset.univ fun s : Dev nD => any c (xgB s) :=
  any_blocks c gX (fun t : Dev nD => Rect.unit (s := S2048x4096) (k0_off3 t) S2048x512.size (k0_off3_inb t)) (fun _ _ => rfl)
    (tile_disjoint 2048 512 (fun _ => 0) (fun t : Dev nD => t.val) k0_off3 off3_closed k0_off3_inb (fun _ _ _ h => Fin.ext h))
    (tile_cover 2048 512 1 8 (fun _ => 0) (fun t : Dev nD => t.val) k0_off3 off3_closed k0_off3_inb (by decide) (by decide) rfl rfl
      (fun a ha b hb => ⟨⟨b, hb⟩, by omega, rfl⟩))
theorem area_w : (any c gW : sProp 𝕄) ⊢ bigSep Finset.univ fun s : Dev nD => any c (wgB s) :=
  any_blocks c gW (fun t : Dev nD => Rect.unit (s := S4096x2048) (k0_off1 t) S512x2048.size (k0_off1_inb t)) (fun _ _ => rfl)
    (tile_disjoint 512 2048 (fun t : Dev nD => t.val) (fun _ => 0) k0_off1 off1_closed k0_off1_inb (fun _ _ h _ => Fin.ext h))
    (tile_cover 512 2048 8 1 (fun t : Dev nD => t.val) (fun _ => 0) k0_off1 off1_closed k0_off1_inb (by decide) (by decide) rfl rfl
      (fun a ha b hb => ⟨⟨a, ha⟩, rfl, by omega⟩))
theorem area_a : (any c bA : sProp 𝕄) ⊢ bigSep Finset.univ fun s : Dev nD => any c (amB s) :=
  any_blocks c bA (fun t : Dev nD => Rect.unit (s := S8x128) (k0_off10 t) S1x128.size (k0_off10_inb t)) (fun _ _ => rfl) rows_disjoint rows_cover
theorem area_q : (any c gQ : sProp 𝕄) ⊢ bigSep Finset.univ fun s : Dev nD => any c (qgB s) :=
  any_blocks c gQ (fun t : Dev nD => Rect.unit (s := S4096x8192) (k0_off11 t) S2048x2048.size (k0_off11_inb t)) (fun _ _ => rfl)
    (tile_disjoint 2048 2048 (fun t : Dev nD => t.val / 4) (fun t : Dev nD => t.val % 4) k0_off11 off11_closed k0_off11_inb
      (fun t t' h1 h2 => Fin.ext (by omega)))
    (tile_cover 2048 2048 2 4 (fun t : Dev nD => t.val / 4) (fun t : Dev nD => t.val % 4) k0_off11 off11_closed k0_off11_inb (by decide) (by decide) rfl rfl
      (fun a ha b hb => ⟨⟨4 * a + b, by show _ < 8; omega⟩, by show (4 * a + b) / 4 = a; omega, by show (4 * a + b) % 4 = b; omega⟩))

/-- The landing areas of device `c`, dealt to the devices that fill them; its own row of the table of maxima stays. -/
theorem deal_lands : iprop(any (F := F) c gW ∗ any (F := F) c gX ∗ any (F := F) c bA ∗ any (F := F) c gQ)
    ⊢ (iprop(any c (amB c) ∗ bigSep Finset.univ fun j : Fin 7 => Lands c (peer c j)) : sProp 𝕄) := by
  unfold Lands
  rw [bs_sep, bs_sep, bs_sep]
  have key : ∀ {A : sProp 𝕄} {Φ : Dev nD → sProp 𝕄}, (A ⊢ bigSep Finset.univ Φ) → A ⊢ iprop(Φ c ∗ bigSep Finset.univ fun j : Fin 7 => Φ (peer c j)) :=
    fun {A Φ} h => h.trans (Entails.of_eq (split_peer c Φ))
  iintro ⟨HW, HX, HA, HQ⟩
  ihave HW := (key (area_w c)) $$ HW
  icases HW with ⟨-, HW⟩
  ihave HX := (key (area_x c)) $$ HX
  icases HX with ⟨-, HX⟩
  ihave HA := (key (area_a c)) $$ HA
  icases HA with ⟨Ha, HA⟩
  ihave HQ := (key (area_q c)) $$ HQ
  icases HQ with ⟨-, HQ⟩
  isplitl [Ha]; · iexact Ha
  isplitl [HW]; · iexact HW
  isplitl [HX]; · iexact HX
  isplitl [HA]; · iexact HA
  iexact HQ

/-! ## The arguments, lent -/

theorem fin8_split (Φ : Fin 8 → sProp 𝕄) : bigSep Finset.univ Φ = iprop(Φ 7 ∗ bigSep Finset.univ fun j : Fin 7 => Φ j.castSucc) := by
  rw [show (Finset.univ : Finset (Fin 8)) = insert 7 (Finset.univ.map ⟨Fin.castSucc, Fin.castSucc_injective 7⟩) from by decide,
    bigSep_insert (by decide), bigSep_map]; rfl

theorem lend_x : (((c : Thread nD τ).loc main_arg0) ↦{fullShare} m ((c : Thread nD τ).loc main_arg0) : sProp 𝕄)
    ⊢ iprop((((c : Thread nD τ).loc main_arg0) ↦{Transfers.shareDrop fullShare 8} m ((c : Thread nD τ).loc main_arg0)) ∗ GX0 m c ∗ PXs m c) := by
  have h1 : ∀ (q : PosShare TreeShare) (p : Dev nD), owns (c : Thread nD τ) aX q (m ((c : Thread nD τ).loc main_arg0)) ⊢ (owns (c : Thread nD τ) (xR p) q (xb m p c) : sProp 𝕄) := fun q p => by
    refine (owns_slice_split (Val := Elt F) (Ix := Unit) (Name := ℕ) (U := UU) (Lvl := ℕ) (c : Thread nD τ) aX q (Rect.unit (s := S4096x512) (k0_off5 p) S2048x512.size (k0_off5_inb p)) (fun _ => rfl) (m ((c : Thread nD τ).loc main_arg0))).trans ?_
    exact sep_elim_left
  rw [← owns_whole (c : Thread nD τ) main_arg0, ← owns_whole (c : Thread nD τ) main_arg0]
  refine (owns_lend c aX _ fullShare 8).trans ?_
  rw [fin8_split]
  unfold GX0 PXs
  exact sep_mono_right (BIClass.sep_mono (h1 _ c) (bigSep_mono fun j _ => h1 _ (peer c j)))
theorem lend_w : (((c : Thread nD τ).loc main_arg1) ↦{fullShare} m ((c : Thread nD τ).loc main_arg1) : sProp 𝕄)
    ⊢ iprop((((c : Thread nD τ).loc main_arg1) ↦{Transfers.shareDrop fullShare 8} m ((c : Thread nD τ).loc main_arg1)) ∗ GW0 m c ∗ PWs m c) := by
  have h1 : ∀ (q : PosShare TreeShare) (p : Dev nD), owns (c : Thread nD τ) aW q (m ((c : Thread nD τ).loc main_arg1)) ⊢ (owns (c : Thread nD τ) (wR p) q (wb m p c) : sProp 𝕄) := fun q p => by
    refine (owns_slice_split (Val := Elt F) (Ix := Unit) (Name := ℕ) (U := UU) (Lvl := ℕ) (c : Thread nD τ) aW q (Rect.unit (s := S512x8192) (k0_off6 p) S512x2048.size (k0_off6_inb p)) (fun _ => rfl) (m ((c : Thread nD τ).loc main_arg1))).trans ?_
    exact sep_elim_left
  rw [← owns_whole (c : Thread nD τ) main_arg1, ← owns_whole (c : Thread nD τ) main_arg1]
  refine (owns_lend c aW _ fullShare 8).trans ?_
  rw [fin8_split]
  unfold GW0 PWs
  exact sep_mono_right (BIClass.sep_mono (h1 _ c) (bigSep_mono fun j _ => h1 _ (peer c j)))

/-! ## The result, block by block -/

abbrev outT (t : Dev nD × Fin 2) : Rect S4096x8192 :=
  Rect.unit (s := S4096x8192) (k0_off12 t.1 (BitVec.ofNat 32 (0 : Fin 8).val) (BitVec.ofNat 32 (1024 * t.2.val))) S2048x1024.size (k0_off12_inb t.1 0 t.2)
theorem outT_closed (t : Dev nD × Fin 2) :
    k0_off12 t.1 (BitVec.ofNat 32 (0 : Fin 8).val) (BitVec.ofNat 32 (1024 * t.2.val)) = ![2048 * (t.1.val / 4), 1024 * (2 * (t.1.val % 4) + t.2.val)] := by
  rw [off12_closed]; congr 2; omega
theorem out_disjoint (t t' : Dev nD × Fin 2) (h : t ≠ t') : Disjoint (outT t).set (outT t').set :=
  tile_disjoint 2048 1024 (fun t : Dev nD × Fin 2 => t.1.val / 4) (fun t : Dev nD × Fin 2 => 2 * (t.1.val % 4) + t.2.val)
    (fun t => k0_off12 t.1 (BitVec.ofNat 32 (0 : Fin 8).val) (BitVec.ofNat 32 (1024 * t.2.val))) outT_closed (fun t => k0_off12_inb t.1 0 t.2)
    (fun t t' h1 h2 => by
      have hl := t.2.isLt; have hl' := t'.2.isLt
      exact Prod.ext (Fin.ext (by omega)) (Fin.ext (by omega))) t t' h
theorem out_cover : Finset.univ.biUnion (fun t : Dev nD × Fin 2 => (outT t).set) = Finset.univ :=
  tile_cover 2048 1024 2 8 (fun t : Dev nD × Fin 2 => t.1.val / 4) (fun t : Dev nD × Fin 2 => 2 * (t.1.val % 4) + t.2.val)
    (fun t => k0_off12 t.1 (BitVec.ofNat 32 (0 : Fin 8).val) (BitVec.ofNat 32 (1024 * t.2.val))) outT_closed (fun t => k0_off12_inb t.1 0 t.2)
    (by decide) (by decide) rfl rfl
    (fun a ha b hb => ⟨(⟨4 * a + b / 2, by show _ < 8; omega⟩, ⟨b % 2, by omega⟩), by show (4 * a + b / 2) / 4 = a; omega, by show 2 * ((4 * a + b / 2) % 4) + b % 2 = b; omega⟩)

/-- The result array every device ends with. -/
def OUT : FVec F S4096x8192 .bf16 := Rect.glue outT out_cover fun t => ov m t.1 t.2
theorem OUT_at (s : Dev nD) (h : Fin 2) (j : S2048x1024.Idx) : OUT m ((outT (s, h)).emb j) = ov m s h j :=
  Rect.glue_emb outT out_cover out_disjoint (fun t => ov m t.1 t.2) (s, h) j

theorem back_bij (c : Dev nD) : Function.Bijective (fun J : Fin 8 => back c J.val) := by revert c; decide
/-- A family over the devices in the order device `c` takes them. -/
theorem by_back (Φ : Dev nD → sProp 𝕄) : bigSep Finset.univ Φ = bigSep Finset.univ fun J : Fin 8 => Φ (back c J.val) :=
  bigSep_univ_equiv (Equiv.ofBijective _ (back_bij c)) Φ
theorem fin2_split (Φ : Fin 2 → sProp 𝕄) : bigSep Finset.univ Φ = iprop(Φ 0 ∗ Φ 1) := bigSep_univ_eq_bigSepL [0, 1] (by decide) (by decide) Φ

theorem out_split : (any c aO : sProp 𝕄) ⊢ iprop(OT c 0 0 ∗ OT c 1 0) := by
  unfold OT
  rw [Tail_zero, Tail_zero, ← bs_sep, ← by_back c fun s => iprop(any (F := F) c (outB s 0) ∗ any (F := F) c (outB s 1))]
  refine (any_blocks c aO outT (fun _ _ => rfl) out_disjoint out_cover).trans ?_
  rw [bigSep_univ_prod]
  exact bigSep_mono fun s _ => Entails.of_eq (fin2_split _)
theorem out_join : iprop(OD m c 0 8 ∗ OD m c 1 8) ⊢ (((c : Thread nD τ).loc main_v1_0) ↦{fullShare} OUT m : sProp 𝕄) := by
  have h := owns_of_rects (Val := Elt F) (Ix := Unit) (Name := ℕ) (U := UU) (Lvl := ℕ) (c : Thread nD τ) aO fullShare outT (fun _ _ => rfl) out_disjoint out_cover (OUT m)
  unfold OD
  rw [Head_all, Head_all, ← bs_sep, ← by_back c fun s => iprop(owns (c : Thread nD τ) (outB s 0) fullShare (ov m s 0) ∗ owns (c : Thread nD τ) (outB s 1) fullShare (ov m s 1)),
    ← owns_whole (c : Thread nD τ) main_v1_0]
  rw [bigSep_univ_prod] at h
  have e : ∀ s : Dev nD, iprop(owns (c : Thread nD τ) (outB s 0) fullShare (ov m s 0) ∗ owns (c : Thread nD τ) (outB s 1) fullShare (ov m s 1))
      ⊢ (bigSep Finset.univ fun i : Fin 2 => owns (c : Thread nD τ) (outB s i) fullShare (fun j => OUT m ((outT (s, i)).emb j)) : sProp 𝕄) := fun s => by
    rw [fin2_split]
    simp only [OUT_at]
    exact .rfl
  have h2 := bigSep_mono (s := (Finset.univ : Finset (Dev nD))) fun s _ => e s
  exact h2.trans h

/-! ## The staging buffer of results, by slots -/

theorem slots_disjoint (t t' : Fin 2) (h : t ≠ t') :
    Disjoint (Rect.unit (s := S2x2048x1024) ![t.val, 0, 0] S1x2048x1024.size (stV_inb t)).set (Rect.unit (s := S2x2048x1024) ![t'.val, 0, 0] S1x2048x1024.size (stV_inb t')).set :=
  Rect.unit_disjoint (s := S2x2048x1024) 0 (by
    show t.val + 1 ≤ t'.val ∨ t'.val + 1 ≤ t.val
    have : t.val ≠ t'.val := fun h' => h (Fin.ext h')
    omega)
theorem slots_cover : Finset.univ.biUnion (fun t : Fin 2 => (Rect.unit (s := S2x2048x1024) ![t.val, 0, 0] S1x2048x1024.size (stV_inb t)).set) = Finset.univ := by
  ext i
  simp only [Finset.mem_biUnion, Finset.mem_univ, _root_.true_and, _root_.iff_true]
  have h0 : (i 0).val < 2 := (i 0).isLt
  have h1 : (i 1).val < 2048 := (i 1).isLt
  have h2 : (i 2).val < 1024 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 2048; omega
  | ⟨2, _⟩ => show 0 ≤ (i 2).val ∧ (i 2).val < 0 + 1024; omega
theorem slots_split : (any c bS : sProp 𝕄) ⊢ iprop(any c (stV 0) ∗ any c (stV 1)) :=
  (any_blocks c bS (fun t : Fin 2 => Rect.unit (s := S2x2048x1024) ![t.val, 0, 0] S1x2048x1024.size (stV_inb t)) (fun _ _ => rfl) slots_disjoint slots_cover).trans
    (Entails.of_eq (fin2_split _))
theorem slots_join : iprop(any (F := F) c (stV 0) ∗ any (F := F) c (stV 1)) ⊢ (any c bS : sProp 𝕄) :=
  (Entails.of_eq (fin2_split _).symm).trans
    (blocks_any c bS (fun t : Fin 2 => Rect.unit (s := S2x2048x1024) ![t.val, 0, 0] S1x2048x1024.size (stV_inb t)) (fun _ _ => rfl) slots_disjoint slots_cover)

/-! ## What was lent, rejoined -/

theorem table_join : AMo m c ⊢ iprop(GA m c 4 7 -∗ GA m c 5 7 -∗ any (F := F) c bA) := by
  unfold AMo GA
  rw [Head_all, Head_all]
  iintro Ho H4 H5
  ihave Ho := (owns_unlend c (amB c) (am m c) fullShare 7) $$ [Ho H4]
  · isplitl [Ho]; · iexact Ho
    iexact H4
  iapply (owns_any c bA (AM m))
  iapply (rows_join m c fullShare)
  iapply (Entails.of_eq (split_src c fun t => owns (c : Thread nD τ) (amB t) fullShare (am m t)).symm)
  isplitl [Ho]; · iexact Ho
  iexact H5
theorem tile_join : QMo m c ⊢ iprop(GA m c 6 7 -∗ any (F := F) c bQ) := by
  unfold QMo GA
  rw [Head_all]
  iintro Ho H6
  iapply (owns_any c bQ (qv m c))
  iapply (owns_unlend c bQ (qv m c) fullShare 7)
  isplitl [Ho]; · iexact Ho
  iexact H6

end Cert.KProof

end
-- ==== Proof.Start.lean ====
/- The launch: the cells allocated, the duty tokens dealt to the devices that pay them, and the credit each device starts with. -/
module

public import proofs.«01_k».proof.Proof.Split

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over devices, offsets and cells -/

theorem option_split {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map ⟨some, Option.some_injective I⟩) from by
      ext o; cases o <;> simp, bigSep_insert (by simp), bigSep_map]; rfl
theorem fin8_list (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin4_list (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem peer_bij (j : Fin 7) : Function.Bijective (fun c : Dev nD => peer c j) := by revert j; decide
/-- What every device has of each offset is, dealt around, what every device's peers have of it. -/
theorem around (Ψ : Dev nD → Fin 7 → sProp 𝕄) :
    (bigSep Finset.univ fun c : Dev nD => bigSep Finset.univ fun j : Fin 7 => Ψ c j) = bigSep Finset.univ fun c : Dev nD => bigSep Finset.univ fun j : Fin 7 => Ψ (peer c j) j := by
  rw [bigSep_univ_comm Ψ, bigSep_univ_comm fun (c : Dev nD) (j : Fin 7) => Ψ (peer c j) j]
  exact bigSep_congr fun j _ => bigSep_univ_equiv (Equiv.ofBijective _ (peer_bij j)) fun c => Ψ c j
/-- A family's members at device `c`'s cells. -/
def perDev (Φ : GSem nD τ sig → sProp 𝕄) (c : Dev nD) : sProp 𝕄 :=
  iprop(Φ (bar c) ∗ bigSep Finset.univ fun k : Fin 8 => bigSep Finset.univ fun j : Fin 7 => Φ (cell c k j))
theorem over_cells (Φ : GSem nD τ sig → sProp 𝕄) : bigSep allCells Φ = bigSep Finset.univ fun c : Dev nD => perDev Φ c := by
  unfold allCells perDev
  rw [bigSep_map, bigSep_univ_prod]
  refine bigSep_congr fun c _ => ?_
  rw [option_split, bigSep_univ_prod]; rfl

/-! ## The semaphores -/

/-- The kernel's own semaphores: the four of the local copies, and the protocol's fifty-six. -/
def osem : Fin 4 ⊕ Fin 8 × Fin 7 → SemLoc sig
  | .inl i => .dma (⟨i.val + 1, by have := i.isLt; show _ < 61; omega⟩ : DmaSem sig)
  | .inr p => .dma (dS p.1 p.2)
theorem ownSemFacts : Pipeline.OwnSemFacts cfg0.spec osem := by decide +kernel

/-- The local copies' semaphores at zero. -/
def four (c : Dev nD) : sProp 𝕄 := iprop(sem0 (F := F) c CX ∗ sem0 (F := F) c CW ∗ sem0 (F := F) c (CO 0) ∗ sem0 (F := F) c (CO 1))
theorem ownSems0_eq (c : Dev nD) : (Pipeline.ownSems0 (Ix := Unit) (Name := ℕ) (U := UU) (Lvl := ℕ) (Val := Elt F) (τ := τ) osem c : sProp 𝕄)
    = iprop(four c ∗ bigSep Finset.univ fun k : Fin 8 => bigSep Finset.univ fun j : Fin 7 => semVal (cell c k j) 0) := by
  unfold Pipeline.ownSems0
  rw [bigSep_univ_sum, fin4_list, bigSep_univ_prod]; rfl
theorem unscopedSems0_eq (c : Dev nD) : (unscopedSems0 c : sProp 𝕄) = semVal (bar c) 0 := by
  unfold unscopedSems0; rw [bigSep_eq_bigSepL_of_eq [SemLoc.reg barS] (by decide) (by decide)]; rfl

/-! ## The launch element -/

/-- The duty tokens as minted: device, and which of its cells and duties. -/
def tokOf (p : Dev nD × (Fin 7 ⊕ Fin 8 × Fin 7)) : GSem nD τ sig × ℕ × Fin 7 := match p.2 with
  | .inl d => (bar p.1, 0, d)
  | .inr q => (cell p.1 q.1 q.2, 0, 0)
theorem tokOf_inj : Function.Injective tokOf := by
  rintro ⟨c, o⟩ ⟨c', o'⟩ h
  have hg : (tokOf (c, o)).1 = (tokOf (c', o')).1 := congrArg Prod.fst h
  have hd : (tokOf (c, o)).2.2 = (tokOf (c', o')).2.2 := congrArg (fun x => x.2.2) h
  cases o with
  | inl d => cases o' with
    | inl d' =>
      have h1 := kcell_inj (a₁ := (c, none)) (a₂ := (c', none)) hg
      have h2 : d = d' := hd
      rw [(Prod.mk.inj h1).1, h2]
    | inr q' => exact absurd (kcell_inj (a₁ := (c, none)) (a₂ := (c', some q')) hg) (by intro h2; cases h2)
  | inr q => cases o' with
    | inl d' => exact absurd (kcell_inj (a₁ := (c, some q)) (a₂ := (c', none)) hg) (by intro h2; cases h2)
    | inr q' =>
      have h1 := kcell_inj (a₁ := (c, some q)) (a₂ := (c', some q')) hg
      rw [(Prod.mk.inj h1).1, Option.some.inj (Prod.mk.inj h1).2]
def allToks : Finset (GSem nD τ sig × ℕ × Fin 7) := Finset.univ.map ⟨tokOf, tokOf_inj⟩

def u₀ : UU := (initOf (Pipeline.cells cfgs cellOf_inj) (Pipeline.launchToks cfgs cellOf_inj), (initOf allCells allToks, 1))
theorem u₀_split : (ownU u₀ : sProp 𝕄) ⊢ iprop(BI.own ((EP : Emb (UR sig nD τ) 𝕄) (initOf (Pipeline.cells cfgs cellOf_inj) (Pipeline.launchToks cfgs cellOf_inj)))
    ∗ BI.own ((ER : Emb UB 𝕄) (initOf allCells allToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf allCells allToks, (1 : Counters)))))

/-! ## What the launch deals a device, and what it makes of it -/

/-- A device's own cells: their states, positions and records, and the tokens of their duties. -/
def G (c : Dev nD) : sProp 𝕄 :=
  iprop(perDev (fun g => roundState ER (Rd m) g 0) c
    ∗ perDev (fun g => reached (ER (F := F)) g 0) c
    ∗ perDev (fun g => atPos (ER (F := F)) g 0 ∅ 0) c
    ∗ (bigSep Finset.univ fun d : Fin 7 => dutyTok (ER (F := F)) (bar c) 0 d)
    ∗ bigSep Finset.univ fun k : Fin 8 => bigSep Finset.univ fun j : Fin 7 => dutyTok (ER (F := F)) (cell c k j) 0 (0 : Fin 7))

theorem fund_cells : BI.own ((ER : Emb UB 𝕄) (initOf allCells allToks)) ⊢ (|==> bigSep Finset.univ (G m) : sProp 𝕄) := by
  have hT : bigSep allToks (fun x => (dutyTok ER x.1 x.2.1 x.2.2 : sProp 𝕄)) = bigSep Finset.univ fun c : Dev nD =>
      iprop((bigSep Finset.univ fun d : Fin 7 => dutyTok (ER (F := F)) (bar c) 0 d)
        ∗ bigSep Finset.univ fun k : Fin 8 => bigSep Finset.univ fun j : Fin 7 => dutyTok (ER (F := F)) (cell c k j) 0 (0 : Fin 7)) := by
    unfold allToks
    rw [bigSep_map, bigSep_univ_prod]
    refine bigSep_congr fun c _ => ?_
    rw [bigSep_univ_sum, bigSep_univ_prod]; rfl
  unfold G
  rw [bs_sep, bs_sep, bs_sep, ← hT, ← over_cells fun g => roundState ER (Rd m) g 0, ← over_cells fun g => reached (ER (F := F)) g 0, ← over_cells fun g => atPos (ER (F := F)) g 0 ∅ 0]
  exact Rounds.fund ER (Rd m) allCells allToks

/-- What a device goes into its kernel with: its positions, the tokens of the duties it pays, its local semaphores. -/
def lin (c : Dev nD) : sProp 𝕄 :=
  iprop(perDev (fun g => atPos (ER (F := F)) g 0 ∅ 0) c
    ∗ (bigSep Finset.univ fun j : Fin 7 => dutyTok (ER (F := F)) (bar (peer c j)) 0 j)
    ∗ (PT c 2 3 ∗ PT c 0 1 ∗ PT c 4 5 ∗ PT c 6 7)
    ∗ four c)
theorem lin_all : iprop((bigSep Finset.univ fun c : Dev nD => perDev (fun g => atPos (ER (F := F)) g 0 ∅ 0) c)
    ∗ (bigSep Finset.univ fun c : Dev nD => bigSep Finset.univ fun j : Fin 7 => dutyTok (ER (F := F)) (bar (peer c j)) 0 j)
    ∗ (bigSep Finset.univ fun c : Dev nD => iprop(PT (F := F) c 2 3 ∗ PT c 0 1 ∗ PT c 4 5 ∗ PT c 6 7))
    ∗ bigSep Finset.univ fun c : Dev nD => four c) ⊢ (bigSep Finset.univ fun c : Dev nD => lin c : sProp 𝕄) := by
  unfold lin
  simp only [bs_sep]
  exact .rfl
/-- Every cell's invariant, and that it has reached its round. -/
def shared (K : GSem nD τ sig → ℕ) : sProp 𝕄 := bigSep allCells fun g => iprop(cellInv ER (Rd m) (K g) g ∗ reached ER g 0)
instance shared_persistent (K : GSem nD τ sig → ℕ) : Persistent (shared (F := F) m K) := by unfold shared; infer_instance
def G' (c : Dev nD) : sProp 𝕄 := iprop(∃ K, shared m K ∗ lin c)

/-- The tokens of the duties of each device's cells, dealt to the devices that pay them. -/
theorem deal_toks : (bigSep Finset.univ fun c : Dev nD => bigSep Finset.univ fun k : Fin 8 => bigSep Finset.univ fun j : Fin 7 => dutyTok (ER (F := F)) (cell c k j) 0 (0 : Fin 7))
    ⊢ (bigSep Finset.univ fun c : Dev nD => iprop(PT c 2 3 ∗ PT c 0 1 ∗ PT c 4 5 ∗ PT c 6 7) : sProp 𝕄) := by
  unfold PT
  rw [bigSep_congr (s := Finset.univ) fun (c : Dev nD) _ => fin8_list fun k : Fin 8 => bigSep Finset.univ fun j : Fin 7 => dutyTok (ER (F := F)) (cell c k j) 0 (0 : Fin 7)]
  simp only [bs_sep]
  rw [around fun c j => dutyTok (ER (F := F)) (cell c 1 j) 0 (0 : Fin 7), around fun c j => dutyTok (ER (F := F)) (cell c 3 j) 0 (0 : Fin 7),
    around fun c j => dutyTok (ER (F := F)) (cell c 5 j) 0 (0 : Fin 7), around fun c j => dutyTok (ER (F := F)) (cell c 7 j) 0 (0 : Fin 7)]
  iintro ⟨H0, H1, H2, H3, H4, H5, H6, H7⟩
  isplitl [H2 H3]
  · isplitl [H2]; · iexact H2
    iexact H3
  isplitl [H0 H1]
  · isplitl [H0]; · iexact H0
    iexact H1
  isplitl [H4 H5]
  · isplitl [H4]; · iexact H4
    iexact H5
  isplitl [H6]; · iexact H6
  iexact H7

theorem with_shared {R : sProp 𝕄} [Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bs_sep]; exact bigSep_mono fun c _ => h c)

/-- The cells' invariants are made, all at once, out of the semaphores at zero. -/
theorem glob : (bigSep Finset.univ fun c : Dev nD => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  unfold G
  simp only [ownSems0_eq, unscopedSems0_eq]
  simp only [bs_sep]
  rw [← over_cells fun g => roundState ER (Rd m) g 0, ← over_cells fun g => reached (ER (F := F)) g 0]
  iintro ⟨⟨H4, Hd⟩, Hb, Hst, #Hr, Hat, Htb, Htc⟩
  ihave Hz := (show iprop((bigSep Finset.univ fun c : Dev nD => semVal (bar c) 0)
      ∗ bigSep Finset.univ fun c : Dev nD => bigSep Finset.univ fun k : Fin 8 => bigSep Finset.univ fun j : Fin 7 => semVal (cell c k j) 0) ⊢ (bigSep allCells fun g => semVal g 0 : sProp 𝕄) from by
    rw [over_cells]; unfold perDev; rw [bs_sep]) $$ [Hb Hd]
  · isplitl [Hb]; · iexact Hb
    iexact Hd
  have hinv : iprop((bigSep allCells fun g => semVal g 0) ∗ bigSep allCells fun g => roundState ER (Rd m) g 0)
      ⊢ (|={Set.univ}=> iprop(∃ κ : GSem nD τ sig → ℕ, ⌜_⌝ ∧ bigSep allCells fun g => cellInv ER (Rd m) (κ g) g) : sProp 𝕄) :=
    (Rounds.bodies_intro ER (Rd m) allCells).trans (inv_alloc_family allCells (Rounds.body ER (Rd m)) ∅ (E := Set.univ))
  imod hinv $$ [Hz Hst] with ⟨%κ, -, #Hinv⟩
  · isplitl [Hz]; · iexact Hz
    iexact Hst
  imodintro
  ihave Htb := (Entails.of_eq (around fun c d => dutyTok (ER (F := F)) (bar c) 0 d)) $$ Htb
  ihave Htc := deal_toks (F := F) $$ Htc
  have hs : iprop((bigSep allCells fun g => cellInv ER (Rd m) (κ g) g) ∗ bigSep allCells fun g => reached ER g 0) ⊢ (shared m κ : sProp 𝕄) := by
    unfold shared; rw [bs_sep]
  have hl : ∀ c, iprop(shared m κ ∗ lin c) ⊢ G' m c := fun c => by
    unfold G'
    iintro ⟨#H1, H2⟩
    iexists κ
    isplitr; · iexact H1
    iexact H2
  iapply (with_shared hl)
  isplitr
  · iapply hs
    isplitr; · iexact Hinv
    iexact Hr
  iapply (lin_all (F := F))
  isplitl [Hat]; · iexact Hat
  isplitl [Htb]; · iexact Htb
  isplitl [Htc]; · iexact Htc
  iexact H4

/-! ## The launch credit -/

theorem tally_ones (g : GSem nD τ sig) : ∑ _j : Fin 7, tallyAt g () 1 = (tallyAt g () 7 : CellTallies nD τ sig Unit) := by
  rw [Fin.sum_univ_seven]; simp only [tallyAt_add]

theorem O₀_eq : (fun d : Dev nD => Orem d 0 0 0 0 0) = fun d : Dev nD => (((∑ j : Fin 7, fB d j) + (∑ j : Fin 7, fK 3 d j)) + (∑ j : Fin 7, fK 1 d j) + (∑ j : Fin 7, fK 5 d j)) + (∑ j : Fin 7, fK 7 d j) := by
  funext d
  unfold Orem Osum
  simp only [Nat.zero_le, Finset.filter_true]

theorem cred_kind (c : Dev nD) (k : Fin 8) : (bigSep Finset.univ fun j : Fin 7 => Pipeline.launchCred (fun d : Dev nD => fK k d j) c : sProp 𝕄)
    ⊢ bigSep Finset.univ fun j : Fin 7 => crd c k j := by
  refine bigSep_mono fun j _ => ?_
  exact Pipeline.launchCred_tallyAt (SemLoc.dma (dS k j)) (fun d => peer d j) (fun d => src d j) (fun d => peer_src d j) (fun d => src_peer d j) () (NK k) c
theorem cred_bar (c : Dev nD) : (bigSep Finset.univ fun j : Fin 7 => Pipeline.launchCred (fun d : Dev nD => fB d j) c : sProp 𝕄)
    ⊢ cred (tallyAt (bar c) () 7) := by
  rw [← tally_ones, Pipeline.cred_finsetSum]
  refine bigSep_mono fun j _ => ?_
  exact Pipeline.launchCred_tallyAt (SemLoc.reg barS) (fun d => peer d j) (fun d => src d j) (fun d => peer_src d j) (fun d => src_peer d j) () 1 c

theorem creds (c : Dev nD) : (Pipeline.launchCred (fun d : Dev nD => Orem d 0 0 0 0 0) c : sProp 𝕄) ⊢ iprop(cred (tallyAt (bar c) () 7)
    ∗ (bigSep Finset.univ fun j : Fin 7 => crd c 3 j) ∗ (bigSep Finset.univ fun j : Fin 7 => crd c 1 j)
    ∗ (bigSep Finset.univ fun j : Fin 7 => crd c 5 j) ∗ (bigSep Finset.univ fun j : Fin 7 => crd c 7 j)) := by
  rw [O₀_eq, Pipeline.launchCred_add, Pipeline.launchCred_add, Pipeline.launchCred_add, Pipeline.launchCred_add,
    Pipeline.launchCred_sum, Pipeline.launchCred_sum, Pipeline.launchCred_sum, Pipeline.launchCred_sum, Pipeline.launchCred_sum]
  iintro ⟨⟨⟨⟨HB, H3⟩, H1⟩, H5⟩, H7⟩
  isplitl [HB]; · iapply (cred_bar c) $$ HB
  isplitl [H3]; · iapply (cred_kind c 3) $$ H3
  isplitl [H1]; · iapply (cred_kind c 1) $$ H1
  isplitl [H5]; · iapply (cred_kind c 5) $$ H5
  iapply (cred_kind c 7) $$ H7

end Cert.KProof

end
-- ==== Proof.Run.lean ====
/- The kernel launched on the eight devices: the body between its first and last holdings, and the run of the whole program. -/
module

public import proofs.«01_k».proof.Proof.Body
public import proofs.«01_k».proof.Proof.Start
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Before and after the kernel -/

/-- The kernel's own scratch. -/
def scr (c : Dev nD) : sProp 𝕄 := iprop(any (F := F) c bX ∗ any (F := F) c bW ∗ any (F := F) c bQ ∗ any (F := F) c bR ∗ any (F := F) c bS ∗ any (F := F) c bA)
/-- The credits a device starts with. -/
def crds (c : Dev nD) : sProp 𝕄 := iprop(cred (tallyAt (bar c) () 7)
    ∗ (bigSep Finset.univ fun j : Fin 7 => crd (F := F) c 3 j) ∗ (bigSep Finset.univ fun j : Fin 7 => crd (F := F) c 1 j)
    ∗ (bigSep Finset.univ fun j : Fin 7 => crd (F := F) c 5 j) ∗ (bigSep Finset.univ fun j : Fin 7 => crd (F := F) c 7 j))
/-- The arrays of a device outside the pipeline's window. -/
def arrs (c : Dev nD) : sProp 𝕄 := iprop((any (F := F) c gW ∗ any (F := F) c gX ∗ any (F := F) c gQ) ∗ any (F := F) c aO ∗ (GX0 m c ∗ PXs m c) ∗ GW0 m c ∗ PWs m c)
def XX (c : Dev nD) : sProp 𝕄 := iprop((∃ K, ctx m K ∗ lin c) ∗ crds c ∗ arrs m c)
/-- The shares of the arguments that stay behind. -/
def ZZ (c : Dev nD) : sProp 𝕄 :=
  iprop((((c : Thread nD τ).loc main_arg0) ↦{Transfers.shareDrop fullShare 8} m ((c : Thread nD τ).loc main_arg0))
    ∗ (((c : Thread nD τ).loc main_arg1) ↦{Transfers.shareDrop fullShare 8} m ((c : Thread nD τ).loc main_arg1)))
def zeros (c : Dev nD) : sProp 𝕄 := bigSep Finset.univ fun k : Fin 8 => bigSep Finset.univ fun j : Fin 7 => semVal (cell c k j) 0
def Φa (c : Dev nD) : sProp 𝕄 := iprop(XX m c ∗ scr c)
def Φb (c : Dev nD) : sProp 𝕄 :=
  iprop(((((c : Thread nD τ).loc main_v1_0) ↦{fullShare} OUT m) ∗ semVal (bar c) 0) ∗ (four c ∗ zeros c) ∗ scr c)

def dats (_ : Fin 1) (c : Dev nD) : Pipeline.Dat τ (Elt F) Unit ℕ UU ℕ cfg0 c where
  A w := m ((cfg0.win w).arr.view.loc (c : Thread nD τ))
  after w _ := match w with
    | ⟨0, _⟩ => Yt m c
  Φ t := match t with
    | ⟨0, _⟩ => Φa m c
    | ⟨_ + 1, _⟩ => Φb m c
  q _ := fullShare
  owed t := match t with
    | ⟨0, _⟩ => Orem c 0 0 0 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The pieces the run starts from, and those it leaves -/

theorem rc_start (c : Dev nD) (k : Fin 8) : (bigSep Finset.univ fun j : Fin 7 => crd (F := F) c k j) ⊢ iprop(AP c k -∗ RC (F := F) c k 0) := by
  unfold RC AP
  rw [Tail_zero, Head_zero]
  unfold wtk
  rw [bs_sep]
  iintro H1 H2
  isplitl [H1 H2]
  · isplitl [H1]; · iexact H1
    iexact H2
  iempintro
theorem sb_start (c : Dev nD) : (bigSep Finset.univ fun j : Fin 7 => dutyTok (ER (F := F)) (bar (peer c j)) 0 j)
    ⊢ iprop((bigSep Finset.univ fun j : Fin 7 => Lands c (peer c j)) -∗ SB (F := F) c 0) := by
  unfold SB
  rw [Tail_zero, bs_sep]
  iintro H1 H2
  isplitl [H1]; · iexact H1
  iexact H2
theorem od_start (c : Dev nD) (h : Fin 2) : (iprop(emp) : sProp 𝕄) ⊢ OD m c h 0 := by unfold OD; rw [Head_zero]
theorem idle (c : Dev nD) {s : Shape} {e : EltTy} (M : Memref sig .tc .vmem s e) (i : DmaSem sig) : (any c M : sProp 𝕄) ⊢ iprop(sem0 c i -∗ Idle (F := F) c M i) := by
  unfold Idle
  iintro H1 H2
  isplitl [H1]; · iexact H1
  iexact H2
theorem idle_any (c : Dev nD) {s : Shape} {e : EltTy} {M : Memref sig .tc .vmem s e} {i : DmaSem sig} : Idle (F := F) c M i ⊢ iprop(any c M ∗ sem0 c i) := by
  unfold Idle; exact .rfl
theorem at_list (c : Dev nD) : perDev (fun g => atPos (ER (F := F)) g 0 ∅ 0) c
    ⊢ (iprop(atPos (ER (F := F)) (bar c) 0 ∅ 0 ∗ AP c 0 ∗ AP c 1 ∗ AP c 2 ∗ AP c 3 ∗ AP c 4 ∗ AP c 5 ∗ AP c 6 ∗ AP c 7) : sProp 𝕄) := by
  unfold perDev
  rw [fin8_list]
  exact .rfl
theorem rc_end (c : Dev nD) (k : Fin 8) : RC (F := F) c k 7 ⊢ (bigSep Finset.univ fun j : Fin 7 => semVal (cell c k j) 0 : sProp 𝕄) := by
  unfold RC
  rw [Head_all]
  iintro ⟨-, H⟩
  iexact H
theorem zeros_join (c : Dev nD) : iprop(RC (F := F) c 0 7 ∗ RC (F := F) c 1 7 ∗ RC (F := F) c 2 7 ∗ RC (F := F) c 3 7 ∗ RC (F := F) c 4 7 ∗ RC (F := F) c 5 7 ∗ RC (F := F) c 6 7 ∗ RC (F := F) c 7 7)
    ⊢ (zeros c : sProp 𝕄) := by
  unfold zeros
  rw [fin8_list]
  iintro ⟨H0, H1, H2, H3, H4, H5, H6, H7⟩
  isplitl [H0]; · iapply (rc_end c 0) $$ H0
  isplitl [H1]; · iapply (rc_end c 1) $$ H1
  isplitl [H2]; · iapply (rc_end c 2) $$ H2
  isplitl [H3]; · iapply (rc_end c 3) $$ H3
  isplitl [H4]; · iapply (rc_end c 4) $$ H4
  isplitl [H5]; · iapply (rc_end c 5) $$ H5
  isplitl [H6]; · iapply (rc_end c 6) $$ H6
  iapply (rc_end c 7) $$ H7

/-- The kernel's staged buffer. -/
abbrev stg (c : Dev nD) (X : bY.view.ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

/-- The body between what the pipeline hands it and what it hands back. -/
theorem body_run (c : Dev nD) {Q : PUnit → sProp 𝕄} :
    Φa m c ⊢ iprop(owe c (Orem c 0 0 0 0 0) -∗ YA c -∗ (Φb m c -∗ owe c 0 -∗ YD m c 7 -∗ Q ⟨⟩)
      -∗ WP c (cc0__fused_body (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16) Q) := by
  unfold Φa XX scr crds arrs lin four
  iintro ⟨⟨⟨%K, #HI, Hat, Htb, ⟨HP2, HP0, HP4, HP6⟩, HsX, HsW, Hs0, Hs1⟩, ⟨HcB, Hc3, Hc1, Hc5, Hc7⟩, ⟨HgW, HgX, HgQ⟩, HaO, ⟨HX0, HPX⟩, HW0, HPW⟩, HbX, HbW, HbQ, HbR, HbS, HbA⟩ HO HY Hk
  ihave Hat := (at_list c) $$ Hat
  icases Hat with ⟨HaB, Ha0, Ha1, Ha2, Ha3, Ha4, Ha5, Ha6, Ha7⟩
  ihave HL := (deal_lands c) $$ [HgW HgX HbA HgQ]
  · isplitl [HgW]; · iexact HgW
    isplitl [HgX]; · iexact HgX
    isplitl [HbA]; · iexact HbA
    iexact HgQ
  icases HL with ⟨HAR, HL⟩
  ihave HSB := (sb_start c) $$ Htb HL
  ihave HO2 := (out_split c) $$ HaO
  icases HO2 with ⟨HT0, HT1⟩
  ihave HbS := (slots_split c) $$ HbS
  icases HbS with ⟨HS0, HS1⟩
  ihave HX := (idle c bX CX) $$ HbX HsX
  ihave HW := (idle c bW CW) $$ HbW HsW
  ihave HS0 := (idle c (stV 0) (CO 0)) $$ HS0 Hs0
  ihave HS1 := (idle c (stV 1) (CO 1)) $$ HS1 Hs1
  ihave HR1 := (rc_start c 1) $$ Hc1 Ha1
  ihave HR3 := (rc_start c 3) $$ Hc3 Ha3
  ihave HR5 := (rc_start c 5) $$ Hc5 Ha5
  ihave HR7 := (rc_start c 7) $$ Hc7 Ha7
  ihave HD0 := (od_start m c 0) $$ []
  · iempintro
  ihave HD1 := (od_start m c 1) $$ []
  · iempintro
  ihave HG4 := (GA_zero m c 4) $$ []
  · iempintro
  ihave HG5 := (GA_zero m c 5) $$ []
  · iempintro
  ihave HG6 := (GA_zero m c 6) $$ []
  · iempintro
  ihave HG0 := (GA_zero m c 0) $$ []
  · iempintro
  ihave HG2 := (GA_zero m c 2) $$ []
  · iempintro
  iapply (body m K c) $$ HI HO HSB HcB HaB HX HW HX0 HW0 HY HAR HbQ HbR HP2 HP0 HP4 HP6 HPW HPX HS0 HS1 HT0 HT1 HD0 HD1 HR1 HR3 HR5 HR7 HG4 HG5 HG6 Ha0 Ha2 Ha4 Ha6 HG0 HG2
  iintro - Hz HR1 HR3 HW HR5 HAM HG5 HY HQM HbX HR7 - HR - HS0 HD0 HS1 HD1 HR0 - HR2 - HR4 HG4 HO HR6 HG6
  rw [Orem_done]
  iapply Hk $$ [Hz HR1 HR3 HW HR5 HAM HG5 HQM HbX HR7 HR HS0 HD0 HS1 HD1 HR0 HR2 HR4 HG4 HR6 HG6] HO HY
  unfold Φb four scr
  ihave HW := (full_idle c) $$ HW
  ihave HW := (idle_any c) $$ HW
  icases HW with ⟨HbW, HsW⟩
  ihave HR := (full_idle c) $$ HR
  ihave HR := (idle_any c) $$ HR
  icases HR with ⟨HbR, HsX⟩
  ihave HS0 := (idle_any c) $$ HS0
  icases HS0 with ⟨HS0, Hs0⟩
  ihave HS1 := (idle_any c) $$ HS1
  icases HS1 with ⟨HS1, Hs1⟩
  isplitl [HD0 HD1 Hz]
  · isplitl [HD0 HD1]
    · iapply (out_join m c)
      isplitl [HD0]; · iexact HD0
      iexact HD1
    iexact Hz
  isplitl [HsX HsW Hs0 Hs1 HR0 HR1 HR2 HR3 HR4 HR5 HR6 HR7]
  · isplitl [HsX HsW Hs0 Hs1]
    · isplitl [HsX]; · iexact HsX
      isplitl [HsW]; · iexact HsW
      isplitl [Hs0]; · iexact Hs0
      iexact Hs1
    iapply (zeros_join c)
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  isplitl [HbX]; · iexact HbX
  isplitl [HbW]; · iexact HbW
  isplitl [HQM HG6]; · iapply (tile_join m c) $$ HQM HG6
  isplitl [HbR]; · iexact HbR
  isplitl [HS0 HS1]
  · iapply (slots_join c)
    isplitl [HS0]; · iexact HS0
    iexact HS1
  iapply (table_join m c) $$ HAM HG4 HG5

set_option maxRecDepth 40000 in
theorem body_obligation (c : Dev nD) : Pipeline.BodyObligation (dats (F := F) m 0 c) (defs₀ (F := F)) 𝒱₀ () Set.univ := fun t => by
  rw [fin_N0 t]
  rw [bigSep_W0, bigSep_W0]
  show iprop(Φa m c ∗ (dats m 0 c).owesAt () t0_0.castSucc
      ∗ (∃ d, owns (c : Thread nD τ) bY fullShare ((dats m 0 c).before (0 : Fin 1) t0_0 d)))
    ⊢ WP c (cc0__fused_body (F := F) aX (Memref.isWhole_whole _) aW (Memref.isWhole_whole _) aO (Memref.isWhole_whole _) bY (Memref.isWhole_whole _) gX (Memref.isWhole_whole _) gW (Memref.isWhole_whole _) gQ (Memref.isWhole_whole _) bX (Memref.isWhole_whole _) bW (Memref.isWhole_whole _) bQ (Memref.isWhole_whole _) bR (Memref.isWhole_whole _) bS (Memref.isWhole_whole _) bA (Memref.isWhole_whole _) cc0_scratch6 cc0_scratch7 cc0_scratch8 cc0_scratch9 cc0_scratch10 cc0_scratch11 cc0_scratch12 cc0_scratch13 cc0_scratch14 cc0_scratch15 cc0_scratch16)
      (fun _ => iprop(Φb m c ∗ (dats m 0 c).owesAt () t0_0.succ ∗ owns (c : Thread nD τ) bY fullShare (Yt m c)))
  unfold Pipeline.Dat.owesAt Pipeline.owesWithin
  rw [show (dats m 0 c).owed t0_0.castSucc = Orem c 0 0 0 0 0 from rfl, show (dats m 0 c).owed t0_0.succ = 0 from rfl]
  iintro ⟨HΦ, ⟨%W, %hW, HO⟩, ⟨%d, HY⟩⟩
  iapply (body_run m c) $$ HΦ [HO] [HY]
  · unfold owe
    iexists W
    iexact HO
  · iapply (owns_any c bY _) $$ HY
  iintro HΦ HO HY
  isplitl [HΦ]; · iexact HΦ
  isplitl [HO]
  · unfold owe
    icases HO with ⟨%W', HO⟩
    iexists W'
    isplitr; · ipureintro; exact fun _ _ => Or.inl trivial
    iexact HO
  unfold Yt
  iexact HY

/-! ## The launch -/

theorem share_eq (c : Dev nD) (w : Fin cfg0.W) : (dats m 0 c).share w = fullShare := by unfold Pipeline.Dat.share; split <;> rfl

theorem waits (c : Dev nD) : (levAts L lv : sProp 𝕄) ⊢ Pipeline.cellsWaits cfgs (dats m) () 0 c :=
  Pipeline.cellsWaits_intro cfgs (dats m) () 0 c fun w s t => by
    have hlow : ∀ nb nw nx na nq, (levAts L lv : sProp 𝕄) ⊢ MayWait (c : Thread nD τ) (.dma ((cfg0.win w).sem s)) () (Orem c nb nw nx na nq) := fun nb nw nx na nq =>
      mayWait c _ 0 nb nw nx na nq (by
        show (if 5 ≤ ((cfg0.win w).sem s).val then _ else 0) ≤ 0
        rw [if_neg (by revert w s; decide)]) (.inr (by decide)) (.inr (by decide)) (.inr (by decide)) (.inr (by decide)) (.inr (by decide))
    rcases t with ⟨_ | _, ht⟩
    · exact hlow 0 0 0 0 0
    · have h := hlow 7 7 7 7 7
      rw [Orem_done] at h
      exact h

theorem hX (c : Dev nD) :
    iprop(Pipeline.unscopedRestP Pipeline.Prefetch.none cfg0.spec c (fun b => m ((c : Thread nD τ).loc b)) ∗ levAts L lv
        ∗ Pipeline.launchCred (fun d : Dev nD => Orem d 0 0 0 0 0) c ∗ prngReg c (ρ c) ∗ G' m c)
      ⊢ |={Set.univ}=> (iprop(XX m c ∗ ZZ m c) : sProp 𝕄) := by
  rw [Pipeline.unscopedRestP_none, unscopedRest0_eq]
  unfold G' shared
  iintro ⟨⟨H0, H1, HaO, HgX, HgW, HgQ⟩, Hlev, Hcr, -, ⟨%K, Hsh, Hlin⟩⟩
  ihave Hcr := (creds (F := F) c) $$ Hcr
  ihave H0 := (lend_x m c) $$ H0
  icases H0 with ⟨H0, HX⟩
  ihave H1 := (lend_w m c) $$ H1
  icases H1 with ⟨H1, HW⟩
  imodintro
  unfold XX ZZ ctx crds arrs
  isplitr [H0 H1]
  · isplitl [Hsh Hlev Hlin]
    · iexists K
      isplitl [Hsh Hlev]
      · isplitl [Hsh]; · iexact Hsh
        iexact Hlev
      iexact Hlin
    isplitl [Hcr]; · iexact Hcr
    isplitl [HgX HgW HgQ]
    · isplitl [HgW]; · iapply (whole_any c main_v1_3 _) $$ HgW
      isplitl [HgX]; · iapply (whole_any c main_v1_2 _) $$ HgX
      iapply (whole_any c main_v1_4 _) $$ HgQ
    isplitl [HaO]; · iapply (whole_any c main_v1_0 _) $$ HaO
    isplitl [HX]; · iexact HX
    iexact HW
  isplitl [H0]; · iexact H0
  iexact H1

theorem scr_eq (c : Dev nD) : (Pipeline.scopedRest (Ix := Unit) (Name := ℕ) (U := UU) (Lvl := ℕ) (Val := Elt F) cfg0.spec c : sProp 𝕄) ⊢ scr c := by
  rw [show cfg0.spec = spec0 from rfl, scopedRest0_eq]
  unfold scr
  iintro ⟨⟨%f0, H0⟩, ⟨%f1, H1⟩, ⟨%f2, H2⟩, ⟨%f3, H3⟩, ⟨%f4, H4⟩, ⟨%f5, H5⟩⟩
  isplitl [H0]; · iapply (whole_any c cc0_scratch0 f0) $$ H0
  isplitl [H1]; · iapply (whole_any c cc0_scratch1 f1) $$ H1
  isplitl [H2]; · iapply (whole_any c cc0_scratch2 f2) $$ H2
  isplitl [H3]; · iapply (whole_any c cc0_scratch3 f3) $$ H3
  isplitl [H4]; · iapply (whole_any c cc0_scratch4 f4) $$ H4
  iapply (whole_any c cc0_scratch5 f5) $$ H5
theorem eq_scr (c : Dev nD) : (scr c : sProp 𝕄) ⊢ Pipeline.scopedRest (Ix := Unit) (Name := ℕ) (U := UU) (Lvl := ℕ) (Val := Elt F) cfg0.spec c := by
  rw [show cfg0.spec = spec0 from rfl, scopedRest0_eq]
  unfold scr
  iintro ⟨H0, H1, H2, H3, H4, H5⟩
  isplitl [H0]; · iapply (any_whole c cc0_scratch0) $$ H0
  isplitl [H1]; · iapply (any_whole c cc0_scratch1) $$ H1
  isplitl [H2]; · iapply (any_whole c cc0_scratch2) $$ H2
  isplitl [H3]; · iapply (any_whole c cc0_scratch3) $$ H3
  isplitl [H4]; · iapply (any_whole c cc0_scratch4) $$ H4
  iapply (any_whole c cc0_scratch5) $$ H5

theorem hin (c : Dev nD) :
    iprop(XX m c ∗ Pipeline.prefHeld Pipeline.Prefetch.none c (fun _ => fullShare.right) (fun k => k.elim0) ∗ Pipeline.scopedRest cfg0.spec c)
      ⊢ ((dats m 0 c).Φ 0 : sProp 𝕄) := by
  show _ ⊢ Φa m c
  unfold Φa
  iintro ⟨HX, -, HS⟩
  isplitl [HX]; · iexact HX
  iapply (scr_eq c) $$ HS

def YY (c : Dev nD) : sProp 𝕄 := iprop((((c : Thread nD τ).loc main_v1_0) ↦{fullShare} OUT m) ∗ unscopedSems0 c)
theorem hout (c : Dev nD) : ((dats m 0 c).Φ (Fin.last cfg0.N) : sProp 𝕄) ⊢ iprop(YY m c ∗ Pipeline.ownSems0 osem c ∗ Pipeline.scopedRest cfg0.spec c) := by
  show Φb m c ⊢ _
  unfold YY
  rw [ownSems0_eq, unscopedSems0_eq]
  exact (show Φb m c ⊢ iprop(((((c : Thread nD τ).loc main_v1_0) ↦{fullShare} OUT m) ∗ semVal (bar c) 0)
    ∗ (four c ∗ bigSep Finset.univ fun k : Fin 8 => bigSep Finset.univ fun j : Fin 7 => semVal (cell c k j) 0) ∗ scr c) from .rfl).trans
    (sep_mono_right (sep_mono_right (eq_scr c)))

/-- What a final memory is read to be at device `c`. -/
def QY (c : Dev nD) (s : MemSt nD τ sig (Elt F)) : Prop :=
  (s.mem ((c : Thread nD τ).loc main_v1_0) = OUT m
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem hY (c : Dev nD) (s' : Phys nD τ sig (Elt F)) : iprop(YY m c ∗ ZZ m c ∗ SI s') ⊢ |={Set.univ}=> (iprop(⌜QY m c s'.mem⌝ ∗ SI s') : sProp 𝕄) := by
  have rd : ∀ (b : Ref sig .tc) (q : PosShare TreeShare) (f : Buf (Elt F) ((c : Thread nD τ).loc b)),
      iprop(SI s' ∗ ((c : Thread nD τ).loc b) ↦{q} f) ⊢ (iprop(⌜s'.mem.mem ((c : Thread nD τ).loc b) = f⌝) : sProp 𝕄) := fun b q f =>
    SI_pointsTo_agree.trans (BI.pure_mono fun h => funext fun i => h i (Finset.mem_univ i))
  unfold YY ZZ QY
  iintro ⟨⟨HO, Hu⟩, ⟨H0, H1⟩, HSI⟩
  ihave %h0 := (rd main_arg0 _ _) $$ [HSI H0]
  · isplitl [HSI] <;> iassumption
  ihave %h1 := (rd main_arg1 _ _) $$ [HSI H1]
  · isplitl [HSI] <;> iassumption
  ihave %h2 := (rd main_v1_0 _ _) $$ [HSI HO]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨h2, h0, h1⟩, hs⟩
  iexact HSI

set_option maxRecDepth 40000 in
/-- From any memory, every run of the eight devices ends, with every device's result `OUT m`, its arguments as they were, and
    every semaphore at zero. -/
theorem run_main : θ_run defs (onTc (τ := τ) (main (F := F))) ⟨m, fun _ => 0, ρ⟩ (fun r =>
    (∀ c : Dev nD, r.2.mem ((c : Thread nD τ).loc main_v1_0) = OUT m
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => Orem d 0 0 0 0 0) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_cells m) $$ HX with HG
      imodintro
      isplitl [HP] <;> iassumption)
    (hglob := glob m)
    (hA := fun _ _ => rfl) (hpf := fun _ k => k.elim0)
    (X := XX m) (Y := YY m) (Z := ZZ m)
    (hX := hX m ρ) (hin := hin m) (hout := hout m)
    (QY := QY m)
    (hY := hY m)
    (hQ := fun _ h hs => ⟨fun c => (h c).2.2.1, sem_eq_zero hs fun c => (h c).2.2.2⟩)

end Cert.KProof

end
-- ==== Proof.Twin.lean ====
/-
  The kernel is printed twice, once as written and once for reading over exact floats. No rewrite was applied, so the two programs
  are the same text and everything proved of the second holds of the first.
-/
module

public import proofs.«01_k».proof.Proof.Run
public import proofs.«01_k».proof.Proof.Gen.Kernel

@[expose] public section

set_option maxRecDepth 40000

noncomputable section

namespace Cert.KTwin

open Idealize.ShloMosaic Idealize.ShloMosaic.TcCoe Idealize.SL.Sem

variable {F : FTy → Type} [FloatOps F]

/-- The two bodies agree. -/
theorem body_eq : Cert.Kernel.cc0__fused_body (F := F) = Cert.KernelIdeal.cc0__fused_body (F := F) := rfl

/-- The two body tables agree: each has the one body. -/
theorem table_eq : Cert.Kernel.defs₀ (F := F) = Cert.KernelIdeal.defs₀ (F := F) := by
  unfold Cert.Kernel.defs₀ Cert.KernelIdeal.defs₀
  refine congrArg Defs.onTc ?_
  funext x a
  match x, a with
  | 0, (t, s) =>
    show Cert.Kernel.cc0__fused_body _ _ _ _ _ _ _ _ _ _ _ _ _ _ _ _ _ _ _ _ _ _ _ _ _ _ _ _ _ _ _ _ _ _ _ _ _
      = Cert.KernelIdeal.cc0__fused_body _ _ _ _ _ _ _ _ _ _ _ _ _ _ _ _ _ _ _ _ _ _ _ _ _ _ _ _ _ _ _ _ _ _ _ _ _
    rw [body_eq]
  | ⟨_ + 1, h⟩, _ => exact absurd h (Nat.not_lt.2 (Nat.le_add_left _ _))

/-- And so do the whole tables. -/
theorem defs_eq : Cert.Kernel.defs (F := F) = Cert.KernelIdeal.defs (F := F) :=
  congrArg (Pipeline.defs Cert.KernelIdeal.pcfgs) table_eq

/-- The kernel as written runs to its end, leaves its arguments alone and every semaphore at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1))
        ∧ r.2.sem = fun _ => 0) := by
  have h := Cert.KProof.run_main (F := F) m ρ
  rw [defs_eq]
  exact (θ_run Cert.KernelIdeal.defs _ _).mono (fun _ h => ⟨fun c => (h.1 c).2, h.2⟩) h

end Cert.KTwin

end
-- ==== Proof.Product.lean ====
/-
  The tile of the product a device accumulates, over the extended reals. Each of the eight steps adds the product of a block of columns
  and a block of rows, one from each device; together they are the whole product at the tile's place.
-/
module

public import proofs.«01_k».proof.Proof.Split
public import Idealize.ShloMosaic.Lib.MatmulPlain
public import Mathlib.Algebra.BigOperators.Fin

@[expose] public section

noncomputable section

namespace Cert.KProof

open Cert.KernelIdeal Cert.KernelIdeal.Gen

open Idealize.ShloMosaic Idealize.ShloMosaic.TcCoe Idealize.ShloMosaic.ValueIdx
open scoped BigOperators

variable (m : (ℓ : Loc nD τ sig) → Buf (Elt Ideal) ℓ)

/-- What step `J` of device `s` adds at an entry of its tile: the product of the blocks that device `d` holds. -/
def part (s d : Dev nD) (x : Fin 2048) (y : Fin 2048) : EReal :=
  ∑ k : Fin 512, (xb m s d (ix2 x k) : EReal) * (wb m s d (ix2 k y) : EReal)

theorem step_at (v : Vec Ideal S2048x512 .bf16) (w : Vec Ideal S512x2048 .bf16) (x y : Fin 2048) :
    k0_pay1 v w (ix2 x y) = ∑ k : Fin 512, (v (ix2 x k) : EReal) * (w (ix2 k y) : EReal) := by
  refine (Ideal.matmul_plain_apply (M := 2048) (K := 512) (N := 2048) none v w _ x y).trans ?_
  show Ideal.ofBits .f32 0x00000000#32 + _ = _
  rw [Ideal.ofBits_zero_f32, zero_add]

/-- After step `n` the accumulator holds the first `n + 1` of them. -/
theorem Yacc_at (s : Dev nD) (x y : Fin 2048) : ∀ n, (Yacc m s n (ix2 x y) : EReal) = ∑ J ∈ Finset.range (n + 1), part m s (back s J) x y
  | 0 => by
    rw [Finset.sum_range_one, show back s 0 = s from Fin.ext (by have := s.isLt; show (s.val + 7 * 0) % 8 = s.val; change s.val < 8 at this; omega)]
    exact step_at _ _ x y
  | n + 1 => by
    rw [Finset.sum_range_succ, ← Yacc_at s x y n]
    show (shapeCast S2048x2048 (Yacc m s n) shapeCasts_S2048x2048_S2048x2048 (ix2 x y) : EReal) + k0_pay1 (xb m s (back s (n + 1))) (wb m s (back s (n + 1))) (ix2 x y) = _
    rw [step_at]
    refine congrArg (· + _) ?_
    show Yacc m s n (Shape.reshapeEquiv _ _) = _
    rw [Shape.reshapeEquiv_self]

/-- So the finished tile is the sum over the devices. -/
theorem Yt_sum (s : Dev nD) (x y : Fin 2048) : (Yt m s (ix2 x y) : EReal) = ∑ d : Dev nD, part m s d x y := by
  show (Yacc m s 7 (ix2 x y) : EReal) = _
  rw [Yacc_at, ← Fin.sum_univ_eq_sum_range (fun J => part m s (back s J) x y)]
  exact (back_bij s).sum_comp (fun d => part m s d x y)

/-! ## The blocks are blocks of the whole arrays -/

/-- Where an entry of device `s`'s tile is in the whole result. -/
def place (s : Dev nD) (x y : Fin 2048) : S4096x8192.Idx :=
  ix2 (⟨2048 * (s.val / 4) + x.val, by have := s.isLt; change s.val < 8 at this; have := x.isLt; omega⟩ : Fin 4096)
    (⟨2048 * (s.val % 4) + y.val, by have := y.isLt; omega⟩ : Fin 8192)

/-- Column `k` of the block of columns that device `d` holds, in the whole array. -/
def deep (d : Dev nD) (k : Fin 512) : Fin 4096 := ⟨d.val * 512 + k.val, by have := d.isLt; change d.val < 8 at this; have := k.isLt; omega⟩

variable (X : (⟨2, ![4096, 4096]⟩ : Shape).Idx → EReal) (W : S4096x8192.Idx → EReal)

/-- The whole product at an entry. -/
def full (i : Fin 4096) (j : Fin 8192) : EReal := ∑ k : Fin 4096, X (ix2 i k) * W (ix2 k j)

/-- A sum over all the columns is a sum over the devices of sums over their columns. -/
theorem sum_deep (f : Fin 4096 → EReal) : ∑ k, f k = ∑ d : Dev nD, ∑ k : Fin 512, f (deep d k) := by
  rw [← Fintype.sum_prod_type' (f := fun (d : Dev nD) (k : Fin 512) => f (deep d k))]
  refine (Fintype.sum_bijective (fun p : Dev nD × Fin 512 => deep p.1 p.2) ⟨?_, ?_⟩ _ _ fun _ => rfl).symm
  · rintro ⟨d, k⟩ ⟨d', k'⟩ h
    have h1 : d.val * 512 + k.val = d'.val * 512 + k'.val := congrArg Fin.val h
    have := k.isLt; have := k'.isLt
    exact Prod.ext (Fin.ext (by show d.val = d'.val; omega)) (Fin.ext (by show k.val = k'.val; omega))
  · intro k
    have := k.isLt
    exact ⟨(⟨k.val / 512, by show k.val / 512 < 8; omega⟩, ⟨k.val % 512, Nat.mod_lt _ (by decide)⟩), Fin.ext (by show k.val / 512 * 512 + k.val % 512 = k.val; omega)⟩

/-- The columns of the first array are cut into eight blocks, and the rows of the second. -/
theorem cut_x : Layout.Tiles S4096x512 ⟨2, ![4096, 4096]⟩ 1 8 := by decide
theorem cut_w : Layout.Tiles S512x8192 ⟨2, ![4096, 8192]⟩ 0 8 := by decide

section Blocks
variable (hX : ∀ d : Dev nD, m ((d : Thread nD τ).loc main_arg0) = Layout.block S4096x512 ⟨2, ![4096, 4096]⟩ 1 8 d X cut_x)
  (hW : ∀ d : Dev nD, m ((d : Thread nD τ).loc main_arg1) = Layout.block S512x8192 ⟨2, ![4096, 8192]⟩ 0 8 d W cut_w)
include hX in
theorem xb_at (s d : Dev nD) (x : Fin 2048) (k : Fin 512) (i : Fin 4096) (hi : i.val = 2048 * (s.val / 4) + x.val) : xb m s d (ix2 x k) = X (ix2 i (deep d k)) := by
  show m ((d : Thread nD τ).loc main_arg0) ((xR s).view.emb (ix2 x k)) = _
  rw [hX d]
  have hv0 : (((xR s).view.emb (ix2 x k)) 0).val = k0_off5 s 0 + 1 * x.val := rfl
  have hv1 : (((xR s).view.emb (ix2 x k)) 1).val = k0_off5 s 1 + 1 * k.val := rfl
  rw [off5_closed] at hv0 hv1
  refine congrArg X (funext fun a => Fin.ext ?_)
  match a with
  | ⟨0, _⟩ => exact hv0.trans (by rw [one_mul]; exact hi.symm)
  | ⟨1, _⟩ =>
    show d.val * 512 + (((xR s).view.emb (ix2 x k)) 1).val = d.val * 512 + k.val
    rw [hv1]; show d.val * 512 + (0 + 1 * k.val) = _; omega

include hW in
theorem wb_at (s d : Dev nD) (k : Fin 512) (y : Fin 2048) (j : Fin 8192) (hj : j.val = 2048 * (s.val % 4) + y.val) : wb m s d (ix2 k y) = W (ix2 (deep d k) j) := by
  show m ((d : Thread nD τ).loc main_arg1) ((wR s).view.emb (ix2 k y)) = _
  rw [hW d]
  have hv0 : (((wR s).view.emb (ix2 k y)) 0).val = k0_off6 s 0 + 1 * k.val := rfl
  have hv1 : (((wR s).view.emb (ix2 k y)) 1).val = k0_off6 s 1 + 1 * y.val := rfl
  rw [off6_closed] at hv0 hv1
  refine congrArg W (funext fun a => Fin.ext ?_)
  match a with
  | ⟨0, _⟩ =>
    show d.val * 512 + (((wR s).view.emb (ix2 k y)) 0).val = d.val * 512 + k.val
    rw [hv0]; show d.val * 512 + (0 + 1 * k.val) = _; omega
  | ⟨1, _⟩ => exact hv1.trans (by rw [one_mul]; exact hj.symm)

include hX hW in
/-- The finished tile is the whole product at the tile's place. -/
theorem Yt_at (s : Dev nD) (x y : Fin 2048) : (Yt m s (ix2 x y) : EReal) = full X W (place s x y 0) (place s x y 1) := by
  rw [Yt_sum]
  show _ = ∑ k : Fin 4096, X (ix2 (place s x y 0) k) * W (ix2 k (place s x y 1))
  rw [sum_deep]
  refine Finset.sum_congr rfl fun d _ => Finset.sum_congr rfl fun k _ => ?_
  rw [xb_at m X hX s d x k (place s x y 0) rfl, wb_at m W hW s d k y (place s x y 1) rfl]

end Blocks

end Cert.KProof

end
-- ==== Proof.Maxima.lean ====
/-
  The maximum of a whole array as the programs take it: the array under a leading axis of one, reduced over the other axes from minus
  infinity, and the one number taken out. Over the extended reals it is the least upper bound of the entries, whatever the shapes.
-/
module

public import Idealize.ShloMosaic.PureOps.Ideal.Laws
public import Mathlib.Data.EReal.Inv
public import Mathlib.Data.Finset.Lattice.Fold

@[expose] public section

noncomputable section

namespace Cert.KProof

open Idealize.ShloMosaic

/-- The word a maximum starts from is minus infinity. -/
theorem low_word : Ideal.ofBits .f32 0xFF800000#32 = ⊥ := by
  simp [Ideal.ofBits, Ideal.ieee]

/-- Folding the maximum from minus infinity is taking the supremum. -/
theorem fold_sup {T : Type} (s : Finset T) (x : T → EReal) : s.fold max ⊥ x = s.sup x := by
  classical
  induction s using Finset.induction_on with
  | empty => simp
  | insert a s h ih => rw [Finset.fold_insert h, ih, Finset.sup_insert]

/-- A shape cast moves entries about, so it keeps the supremum. -/
theorem sup_cast {s t : Shape} (x : FVec Ideal s .f32) (h : s.ShapeCasts t) :
    Finset.univ.sup (shapeCast t x h : t.Idx → EReal) = Finset.univ.sup (x : s.Idx → EReal) := by
  refine le_antisymm (Finset.sup_le fun j _ => ?_) (Finset.sup_le fun i _ => ?_)
  · exact Finset.le_sup (f := (x : s.Idx → EReal)) (Finset.mem_univ (Shape.reshapeEquiv h j))
  · refine le_trans (le_of_eq ?_) (Finset.le_sup (f := (shapeCast t x h : t.Idx → EReal)) (Finset.mem_univ ((Shape.reshapeEquiv h).symm i)))
    show x i = x (Shape.reshapeEquiv _ _)
    rw [Equiv.apply_symm_apply]

/-- A shape of one entry has one index. -/
theorem one_index (i j : (⟨1, ![1]⟩ : Shape).Idx) : i = j := by
  funext a
  have : a = 0 := Subsingleton.elim _ _
  subst this
  have hi : (i 0).val < 1 := (i 0).isLt
  have hj : (j 0).val < 1 := (j 0).isLt
  exact Fin.ext (by omega)

/-- The maximum over all the axes that matter is the supremum of the array. -/
theorem reduce_sup {s t : Shape} {axes : List (Fin t.rank)} (x : FVec Ideal s .f32) (h : s.ShapeCasts t)
    (hr : t.Reduces axes ⟨1, ![1]⟩) (hφ : FKind.Formats .f32) (hacc : 0xFF800000#32 = FKind.maximumf.neutral .f32 hφ)
    (j : (⟨1, ![1]⟩ : Shape).Idx) :
    multiReduction .maximumf axes ⟨1, ![1]⟩ (shapeCast t x h) 0xFF800000#32 hr hφ hacc j = Finset.univ.sup (x : s.Idx → EReal) := by
  rw [multiReduction_maximumf_eq_fold, Finset.filter_true_of_mem fun i _ => one_index _ _]
  show Finset.univ.fold max (Ideal.ofBits .f32 0xFF800000#32) _ = _
  rw [low_word, fold_sup, sup_cast]

/-- The one number taken out. -/
theorem extract_sup {s t u : Shape} {axes : List (Fin t.rank)} (x : FVec Ideal s .f32) (h : s.ShapeCasts t)
    (hr : t.Reduces axes ⟨1, ![1]⟩) (hφ : FKind.Formats .f32) (hacc : 0xFF800000#32 = FKind.maximumf.neutral .f32 hφ)
    (hu : (⟨1, ![1]⟩ : Shape).ShapeCasts u) (p : Fin u.rank → ℕ) (hp : ∀ a, p a < u.size a) :
    extractAt p (shapeCast u (multiReduction .maximumf axes ⟨1, ![1]⟩ (shapeCast t x h) 0xFF800000#32 hr hφ hacc) hu) hp
      = Finset.univ.sup (x : s.Idx → EReal) :=
  reduce_sup x h hr hφ hacc _

/-! ## The programs' steps, at any shapes -/

section Steps
variable {s t u v : Shape} {axes : List (Fin t.rank)}

/-- An array cast to its own shape is itself. -/
theorem cast_self {φ : FTy} (x : FVec Ideal s φ) (h : s.ShapeCasts s) : shapeCast s x h = x := by
  funext j
  show x (Shape.reshapeEquiv _ j) = x j
  rw [Shape.reshapeEquiv_self]

/-- The maximum of a tile, no less than zero, spread over a row. -/
theorem row_step (x : FVec Ideal s .f32) (h0 : s.ShapeCasts s) (h : s.ShapeCasts t)
    (hr : t.Reduces axes ⟨1, ![1]⟩) (hφ : FKind.Formats .f32) (hacc : 0xFF800000#32 = FKind.maximumf.neutral .f32 hφ)
    (hu : (⟨1, ![1]⟩ : Shape).ShapeCasts u) (p : Fin u.rank → ℕ) (hp : ∀ a, p a < u.size a) (hv : v.ShapeCasts v) (j : v.Idx) :
    (shapeCast v (broadcast v (Scalar.maximumf (extractAt p (shapeCast u (multiReduction .maximumf axes ⟨1, ![1]⟩
      (shapeCast t (shapeCast s x h0) h) 0xFF800000#32 hr hφ hacc) hu) hp) (Scalar.ofBits .f32 0x00000000#32))) hv j : EReal)
      = max (Finset.univ.sup (x : s.Idx → EReal)) 0 := by
  rw [extract_sup, cast_self (φ := .f32)]
  show max (Finset.univ.sup (shapeCast s x h0 : s.Idx → EReal)) (Ideal.ofBits .f32 0x00000000#32) = _
  rw [cast_self (φ := .f32), Ideal.ofBits_zero_f32]

/-- The scale from a table of maxima. -/
theorem scale_step (x : FVec Ideal s .f32) (h : s.ShapeCasts t)
    (hr : t.Reduces axes ⟨1, ![1]⟩) (hφ : FKind.Formats .f32) (hacc : 0xFF800000#32 = FKind.maximumf.neutral .f32 hφ)
    (hu : (⟨1, ![1]⟩ : Shape).ShapeCasts u) (p : Fin u.rank → ℕ) (hp : ∀ a, p a < u.size a) (a b : BitVec 32) :
    (Scalar.divf (Scalar.maximumf (extractAt p (shapeCast u (multiReduction .maximumf axes ⟨1, ![1]⟩
      (shapeCast t x h) 0xFF800000#32 hr hφ hacc) hu) hp) (Scalar.ofBits (F := Ideal) .f32 a)) (Scalar.ofBits .f32 b) : EReal)
      = Ideal.div (max (Finset.univ.sup (x : s.Idx → EReal)) (Ideal.ofBits .f32 a)) (Ideal.ofBits .f32 b) := by
  rw [extract_sup]
  rfl

/-- The positive part over the scale, in the narrow format. -/
theorem quant_step (x : FVec Ideal s .f32) (h h' : s.ShapeCasts s) (c : Ideal .f32) (hb : FTy.bits .fp8e4m3 < FTy.bits .f32) (j : s.Idx) :
    (shapeCast s (truncf .fp8e4m3 (divf (maximumf (shapeCast s x h) (broadcast s (Scalar.ofBits .f32 0x00000000#32))) (broadcast s c)) hb) h' j : EReal)
      = Ideal.div (max (x j : EReal) 0) c := by
  rw [cast_self (φ := .fp8e4m3), cast_self (φ := .f32), ← Ideal.ofBits_zero_f32]
  rfl

/-- The wide value times the scale, under another shape. -/
theorem wide_step (x : FVec Ideal s .fp8e4m3) (c : Ideal .f32) (h : s.ShapeCasts t) (h' : t.numel = s.numel)
    (hb : FTy.bits .fp8e4m3 < FTy.bits .f32) (hb' : FTy.bits .bf16 < FTy.bits .f32) (j : s.Idx) :
    (shapeCast t (truncf .bf16 (mulf (extf .f32 x hb) (broadcast s c)) hb') h (Shape.reshapeEquiv h'.symm j) : EReal) = (x j : EReal) * c := by
  have e : Shape.reshapeEquiv h (Shape.reshapeEquiv h'.symm j) = j := by
    rw [Shape.reshapeEquiv_reshapeEquiv, Shape.reshapeEquiv_self]
  show (x (Shape.reshapeEquiv h (Shape.reshapeEquiv h'.symm j)) : EReal) * c = _
  rw [e]

/-- The reference's steps after the product. -/
theorem whole_step (y : FVec Ideal s .f32) (z : s.Idx → EReal) (hz : ∀ i, z i = max (y i : EReal) 0) (h : s.ShapeCasts t)
    (hr : t.Reduces axes ⟨1, ![1]⟩) (hφ : FKind.Formats .f32) (hacc : 0xFF800000#32 = FKind.maximumf.neutral .f32 hφ)
    (hu : (⟨1, ![1]⟩ : Shape).ShapeCasts u) (p : Fin u.rank → ℕ) (hp : ∀ a, p a < u.size a) (b : BitVec 32)
    (hb : FTy.bits .fp8e4m3 < FTy.bits .f32) (hb' : FTy.bits .bf16 < FTy.bits .f32) (c : Ideal .f32)
    (hc : c = Scalar.divf (extractAt p (shapeCast u (multiReduction .maximumf axes ⟨1, ![1]⟩
      (shapeCast t (absf (maximumf y (broadcast s (Scalar.ofBits .f32 0x00000000#32)))) h) 0xFF800000#32 hr hφ hacc) hu) hp) (Scalar.ofBits .f32 b))
    (q : EReal) (hq : Ideal.ofBits .f32 b = q) (j : s.Idx) :
    (truncf .bf16 (mulf (extf .f32 (truncf .fp8e4m3 (minimumf (divf (maximumf y (broadcast s (Scalar.ofBits .f32 0x00000000#32))) (broadcast s c))
      (broadcast s (Scalar.ofBits .f32 b))) hb) hb) (broadcast s c)) hb' j : EReal)
      = min (Ideal.div (z j) (Ideal.div (Finset.univ.sup z) q)) q * Ideal.div (Finset.univ.sup z) q := by
  subst hq
  have h1 : (maximumf y (broadcast s (Scalar.ofBits .f32 0x00000000#32)) : s.Idx → EReal) = z := by
    funext i
    rw [hz, ← Ideal.ofBits_zero_f32]
    rfl
  have h2 : (absf (maximumf y (broadcast s (Scalar.ofBits .f32 0x00000000#32))) : s.Idx → EReal) = z := by
    funext i
    show max ((maximumf y (broadcast s (Scalar.ofBits .f32 0x00000000#32)) : s.Idx → EReal) i) (-(maximumf y (broadcast s (Scalar.ofBits .f32 0x00000000#32)) : s.Idx → EReal) i) = _
    rw [h1]
    have h0 : 0 ≤ z i := by rw [hz]; exact le_max_right _ _
    exact max_eq_left ((EReal.neg_le_zero.2 h0).trans h0)
  have h3 : (c : EReal) = Ideal.div (Finset.univ.sup z) (Ideal.ofBits .f32 b) := by
    rw [hc, extract_sup, h2]
    rfl
  show min (Ideal.div ((maximumf y (broadcast s (Scalar.ofBits .f32 0x00000000#32)) : s.Idx → EReal) j) c) (Ideal.ofBits .f32 b) * (c : EReal) = _
  rw [h1, h3]

end Steps

end Cert.KProof

end
-- ==== Proof.Scalars.lean ====
/-
  One entry of the result over the extended reals. The kernel divides by a scale held up from zero and does not clip; the reference
  divides by the plain scale and clips. They multiply back by the same scale, and the two agree for every entry that is at most the maximum.
-/
module

public import Idealize.ShloMosaic.PureOps.Ideal.Laws
public import Mathlib.Data.EReal.Inv
public import Mathlib.Tactic.Linarith
public import Mathlib.Tactic.Positivity

@[expose] public section

noncomputable section

namespace Cert.KProof

open Idealize.ShloMosaic

/-- The greatest number the quantised format holds. -/
theorem top_word : Ideal.ofBits .f32 0x43E00000#32 = ((448 : ℝ) : EReal) := by
  simp [Ideal.ofBits, Ideal.ieee]
  rw [← EReal.coe_mul]
  norm_num

/-- The smallest maximum the kernel allows is a positive real. -/
theorem floor_word : ∃ t : ℝ, 0 < t ∧ Ideal.ofBits .f32 0x0DA24260#32 = (t : EReal) := by
  refine ⟨10633824 * 2 ^ (-123 : ℤ), by positivity, ?_⟩
  simp [Ideal.ofBits, Ideal.ieee]

/-- A quotient of reals is the quotient of the reals. -/
theorem div_reals (x y : ℝ) (hy : y ≠ 0) : Ideal.div (x : EReal) (y : EReal) = ((x / y : ℝ) : EReal) := by
  have h : ((y : ℝ) : EReal) ≠ 0 := by exact_mod_cast hy
  rw [Ideal.div, if_neg h, ← EReal.coe_inv, ← EReal.coe_mul, div_eq_mul_inv]

/-- Dividing by a real and multiplying back by it changes nothing. -/
theorem div_back (x y : ℝ) (hy : y ≠ 0) : Ideal.div (x : EReal) (y : EReal) * (y : EReal) = (x : EReal) := by
  rw [div_reals x y hy, ← EReal.coe_mul, div_mul_cancel₀ x hy]

/-- Infinity over the greatest number is infinity. -/
theorem div_top : Ideal.div ⊤ ((448 : ℝ) : EReal) = ⊤ := by
  have h : ((448 : ℝ) : EReal) ≠ 0 := by exact_mod_cast (by norm_num : (448 : ℝ) ≠ 0)
  rw [Ideal.div, if_neg h, ← EReal.coe_inv]
  exact EReal.top_mul_coe_of_pos (by norm_num)

/-- Anything over infinity is zero. -/
theorem over_top (x : EReal) : Ideal.div x ⊤ = 0 := by
  rw [Ideal.div, if_neg (by simp), EReal.inv_top, mul_zero]

/-- One entry `r` of an array whose maximum is `a`: quantised and read back, the two ways. -/
theorem entry_eq (r a t : EReal) (ht : ∃ u : ℝ, 0 < u ∧ t = (u : EReal)) (h0 : 0 ≤ r) (hra : r ≤ a) :
    Ideal.div r (Ideal.div (max a t) ((448 : ℝ) : EReal)) * Ideal.div (max a t) ((448 : ℝ) : EReal)
      = min (Ideal.div r (Ideal.div a ((448 : ℝ) : EReal))) ((448 : ℝ) : EReal) * Ideal.div a ((448 : ℝ) : EReal) := by
  obtain ⟨u, hu, rfl⟩ := ht
  have h448 : (448 : ℝ) ≠ 0 := by norm_num
  induction a with
  | bot => exact absurd (h0.trans hra) (by simp)
  | top =>
    rw [max_eq_left le_top, div_top, over_top, min_eq_left (by exact_mod_cast (by norm_num : (0 : ℝ) ≤ 448))]
  | coe a =>
    induction r with
    | bot => exact absurd h0 (by simp)
    | top => exact absurd hra (by simp)
    | coe r =>
      have h0' : 0 ≤ r := by exact_mod_cast h0
      have hra' : r ≤ a := by exact_mod_cast hra
      rw [show max (a : EReal) (u : EReal) = ((max a u : ℝ) : EReal) from (EReal.coe_strictMono.monotone.map_max).symm,
        div_reals _ _ h448, div_reals _ _ h448, div_back]
      swap
      · have : 0 < max a u := lt_max_of_lt_right hu
        positivity
      rcases (h0'.trans hra').eq_or_lt with ha | ha
      · subst ha
        have : r = 0 := le_antisymm hra' h0'
        subst this
        simp
      · have hs : a / 448 ≠ 0 := by positivity
        have hle : Ideal.div (r : EReal) ((a / 448 : ℝ) : EReal) ≤ ((448 : ℝ) : EReal) := by
          rw [div_reals _ _ hs, EReal.coe_le_coe_iff, div_le_iff₀ (by positivity)]
          linarith
        rw [min_eq_left hle, div_back _ _ hs]

end Cert.KProof

end
-- ==== Proof.Value.lean ====
/-
  The kernel's result and the reference's, entry by entry over the extended reals, and that they are the same array.
-/
module

public import proofs.«01_k».proof.Proof.Product
public import proofs.«01_k».proof.Proof.Maxima
public import proofs.«01_k».proof.Proof.Scalars
public import proofs.«01_k».proof.Proof.Gen.ReferenceIdeal.Value

@[expose] public section

noncomputable section

namespace Cert.KProof

open Cert.KernelIdeal Cert.KernelIdeal.Gen

open Idealize.ShloMosaic Idealize.ShloMosaic.TcCoe Idealize.ShloMosaic.ValueIdx
open scoped BigOperators

/-- The greatest number of the quantised format. -/
abbrev Q : EReal := ((448 : ℝ) : EReal)
/-- The smallest maximum the kernel allows. -/
abbrev tiny : EReal := Ideal.ofBits .f32 0x0DA24260#32

section Whole
variable (X : (⟨2, ![4096, 4096]⟩ : Shape).Idx → EReal) (W : S4096x8192.Idx → EReal)

/-- The positive part of the whole product. -/
def relu (i : S4096x8192.Idx) : EReal := max (full X W (i 0) (i 1)) 0

/-- Its maximum. -/
def peak : EReal := Finset.univ.sup (relu X W)

theorem relu_nonneg (i : S4096x8192.Idx) : 0 ≤ relu X W i := le_max_right _ _

theorem relu_le (i : S4096x8192.Idx) : relu X W i ≤ peak X W := Finset.le_sup (f := relu X W) (Finset.mem_univ i)

/-! ## The reference -/

/-- The reference's product. -/
def refY (A : FVec Ideal Cert.ReferenceIdeal.S4096x4096 .bf16) (B : FVec Ideal Cert.ReferenceIdeal.S4096x8192 .bf16) :
    FVec Ideal Cert.ReferenceIdeal.S4096x8192 .f32 :=
  matmul Cert.ReferenceIdeal.dot_S4096x4096_S4096x8192_S4096x8192_1_0_0_1_n_n none A B (constant Cert.ReferenceIdeal.S4096x8192 .f32 0x00000000#32)

theorem refY_ix2 (A : FVec Ideal Cert.ReferenceIdeal.S4096x4096 .bf16) (B : FVec Ideal Cert.ReferenceIdeal.S4096x8192 .bf16)
    (a : Fin 4096) (b : Fin 8192) : refY A B (ix2 a b) = ∑ k : Fin 4096, (A (ix2 a k) : EReal) * (B (ix2 k b) : EReal) := by
  refine (Ideal.matmul_plain_apply (M := 4096) (K := 4096) (N := 8192) none A B _ a b).trans ?_
  show Ideal.ofBits .f32 0x00000000#32 + _ = _
  rw [Ideal.ofBits_zero_f32, zero_add]

theorem refY_at (i : S4096x8192.Idx) : (refY X W i : EReal) = full X W (i 0) (i 1) := by
  obtain ⟨a, b, rfl⟩ : ∃ a b, i = ix2 a b := ⟨_, _, eq_ix2 i⟩
  exact refY_ix2 X W a b

theorem relu_at (i : S4096x8192.Idx) : relu X W i = max (refY X W i : EReal) 0 := by
  rw [refY_at]; rfl

/-- An entry of the reference's result. -/
theorem ref_at (i : S4096x8192.Idx) :
    (Cert.ReferenceIdeal.Gen.k0_pay1 (F := Ideal) X W i : EReal)
      = min (Ideal.div (relu X W i) (Ideal.div (peak X W) Q)) Q * Ideal.div (peak X W) Q := by
  unfold Cert.ReferenceIdeal.Gen.k0_pay1
  exact whole_step (refY X W) (relu X W) (relu_at X W) _ _ _ _ _ _ _ _ _ _ _ rfl Q top_word i

end Whole

/-! ## The kernel -/

section Kernel
variable (m : (ℓ : Loc nD τ sig) → Buf (Elt Ideal) ℓ)
variable (X : (⟨2, ![4096, 4096]⟩ : Shape).Idx → EReal) (W : S4096x8192.Idx → EReal)
variable (hX : ∀ d : Dev nD, m ((d : Thread nD τ).loc main_arg0) = Layout.block S4096x512 ⟨2, ![4096, 4096]⟩ 1 8 d X cut_x)
  (hW : ∀ d : Dev nD, m ((d : Thread nD τ).loc main_arg1) = Layout.block S512x8192 ⟨2, ![4096, 8192]⟩ 0 8 d W cut_w)

/-- What a device sends of its maximum. -/
theorem am_at (s : Dev nD) (j : S1x128.Idx) : (am m s j : EReal) = max (Finset.univ.sup (Yt m s : S2048x2048.Idx → EReal)) 0 := by
  unfold am k0_pay10
  exact row_step _ _ _ _ _ _ _ _ _ _ _

/-- Every entry of the whole result is in one device's tile. -/
theorem placed (i : S4096x8192.Idx) : ∃ s x y, place s x y = i := by
  have h0 : (i 0).val < 4096 := (i 0).isLt
  have h1 : (i 1).val < 8192 := (i 1).isLt
  refine ⟨⟨4 * ((i 0).val / 2048) + (i 1).val / 2048, by show _ < 8; omega⟩, ⟨(i 0).val % 2048, Nat.mod_lt _ (by decide)⟩,
    ⟨(i 1).val % 2048, Nat.mod_lt _ (by decide)⟩, funext fun a => Fin.ext ?_⟩
  match a with
  | ⟨0, _⟩ =>
    show 2048 * ((4 * ((i 0).val / 2048) + (i 1).val / 2048) / 4) + (i 0).val % 2048 = (i 0).val
    omega
  | ⟨1, _⟩ =>
    show 2048 * ((4 * ((i 0).val / 2048) + (i 1).val / 2048) % 4) + (i 1).val % 2048 = (i 1).val
    omega

include hX hW

/-- The positive part of an entry of a tile is that of the whole product there. -/
theorem tile_relu (s : Dev nD) (x y : Fin 2048) : max (Yt m s (ix2 x y) : EReal) 0 = relu X W (place s x y) := by
  rw [Yt_at m X W hX hW]; rfl

/-- The maximum over the table of maxima is the maximum of the whole. -/
theorem AM_sup : Finset.univ.sup (AM m : S8x128.Idx → EReal) = peak X W := by
  refine le_antisymm (Finset.sup_le fun j _ => ?_) (Finset.sup_le fun i _ => ?_)
  · show (am m _ _ : EReal) ≤ _
    rw [am_at]
    refine max_le (Finset.sup_le fun z _ => ?_) ((relu_nonneg X W (place 0 0 0)).trans (relu_le X W _))
    obtain ⟨a, b, rfl⟩ : ∃ a b, z = ix2 a b := ⟨_, _, eq_ix2 z⟩
    exact (le_max_left _ 0).trans ((tile_relu m X W hX hW _ a b).le.trans (relu_le X W _))
  · obtain ⟨s, x, y, rfl⟩ := placed i
    rw [← tile_relu m X W hX hW]
    refine le_trans ?_ (Finset.le_sup (f := (AM m : S8x128.Idx → EReal)) (Finset.mem_univ (ix2 (⟨s.val, s.isLt⟩ : Fin 8) (0 : Fin 128))))
    show _ ≤ (am m s _ : EReal)
    rw [am_at]
    exact max_le_max (Finset.le_sup (f := (Yt m s : S2048x2048.Idx → EReal)) (Finset.mem_univ (ix2 x y))) le_rfl

/-- The scale. -/
theorem scl_eq : (scl m : EReal) = Ideal.div (max (peak X W) tiny) Q := by
  unfold scl k0_pay11
  refine (scale_step _ _ _ _ _ _ _ _ _ _).trans ?_
  rw [AM_sup m X W hX hW, top_word]

/-- An entry of a quantised tile. -/
theorem qv_at (s : Dev nD) (x y : Fin 2048) : (qv m s (ix2 x y) : EReal) = Ideal.div (relu X W (place s x y)) (Ideal.div (max (peak X W) tiny) Q) := by
  rw [← scl_eq m X W hX hW, ← tile_relu m X W hX hW]
  unfold qv k0_pay12
  exact quant_step _ _ _ _ _ _

/-- An entry of a half of a tile of the result. -/
theorem ov_at (s : Dev nD) (h : Fin 2) (j : S2048x1024.Idx) (i : S4096x8192.Idx) (hi : i = (outT (s, h)).emb j) :
    (ov m s h j : EReal) = Ideal.div (relu X W i) (Ideal.div (max (peak X W) tiny) Q) * Ideal.div (max (peak X W) tiny) Q := by
  subst hi
  have h1 : (ov m s h j : EReal) = (hv m s h j : EReal) * (scl m : EReal) := by
    unfold ov sv k0_pay13
    exact wide_step (hv m s h) (scl m) _ squeezes_S1x2048x1024_S2048x1024.numel_eq.symm _ _ j
  have h0 : (j 0).val < 2048 := (j 0).isLt
  have h2 : (j 1).val < 1024 := (j 1).isLt
  have hh : h.val < 2 := h.isLt
  have e : (Rect.unit (s := S2048x2048) ![0, 1024 * h.val] S2048x1024.size (half_inb h)).emb j
      = ix2 (⟨(j 0).val, h0⟩ : Fin 2048) (⟨1024 * h.val + (j 1).val, by omega⟩ : Fin 2048) := by
    refine funext fun a => Fin.ext ?_
    match a with
    | ⟨0, _⟩ => show 0 + 1 * (j 0).val = (j 0).val; omega
    | ⟨1, _⟩ => show 1024 * h.val + 1 * (j 1).val = 1024 * h.val + (j 1).val; omega
  have h3 : (hv m s h j : EReal) = (qv m s (ix2 (⟨(j 0).val, h0⟩ : Fin 2048) (⟨1024 * h.val + (j 1).val, by omega⟩ : Fin 2048)) : EReal) :=
    congrArg (qv m s) e
  rw [h1, scl_eq m X W hX hW, h3, qv_at m X W hX hW]
  refine congrArg (fun z => Ideal.div (relu X W z) (Ideal.div (max (peak X W) tiny) Q) * Ideal.div (max (peak X W) tiny) Q) (funext fun a => Fin.ext ?_)
  have hc := outT_closed (s, h)
  match a with
  | ⟨0, _⟩ =>
    have hv : ((outT (s, h)).emb j 0).val = k0_off12 (s, h).1 (BitVec.ofNat 32 (0 : Fin 8).val) (BitVec.ofNat 32 (1024 * (s, h).2.val)) 0 + 1 * (j 0).val := rfl
    rw [hc] at hv
    refine Eq.trans ?_ hv.symm
    show 2048 * (s.val / 4) + (j 0).val = 2048 * (s.val / 4) + 1 * (j 0).val
    omega
  | ⟨1, _⟩ =>
    have hv : ((outT (s, h)).emb j 1).val = k0_off12 (s, h).1 (BitVec.ofNat 32 (0 : Fin 8).val) (BitVec.ofNat 32 (1024 * (s, h).2.val)) 1 + 1 * (j 1).val := rfl
    rw [hc] at hv
    refine Eq.trans ?_ hv.symm
    show 2048 * (s.val % 4) + (1024 * h.val + (j 1).val) = 1024 * (2 * (s.val % 4) + h.val) + 1 * (j 1).val
    omega

/-- The kernel's result is the reference's. -/
theorem OUT_eq : OUT m = Cert.ReferenceIdeal.Gen.k0_pay1 (F := Ideal) X W := by
  funext i
  have hi : i ∈ Finset.univ.biUnion (fun t : Dev nD × Fin 2 => (outT t).set) := by rw [out_cover]; exact Finset.mem_univ i
  obtain ⟨⟨s, h⟩, -, ht⟩ := Finset.mem_biUnion.1 hi
  obtain ⟨j, rfl⟩ : ∃ j, (outT (s, h)).emb j = i := by
    choose f hf he using (outT (s, h)).mem_set.1 ht
    exact ⟨fun a => ⟨f a, hf a⟩, funext fun a => Fin.ext (he a).symm⟩
  rw [OUT_at]
  exact (ov_at m X W hX hW s h j _ rfl).trans ((entry_eq _ _ _ floor_word (relu_nonneg X W _) (relu_le X W _)).trans (ref_at X W _).symm)

end Kernel

end Cert.KProof

end
-- ==== Proof.lean ====
module

public import proofs.«01_k».proof.Defs
public import proofs.«01_k».proof.Proof.Twin
public import proofs.«01_k».proof.Proof.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel as written runs to its end, keeps its arguments and leaves every semaphore at zero. -/
theorem frame_kernel : Cert.quiescent_Kernel := fun m ρ _ => Cert.KTwin.frame m ρ

/-- The same over exact floats. -/
theorem frame_kernelIdeal : Cert.quiescent_KernelIdeal := fun m ρ _ =>
  (θ_run Cert.KernelIdeal.defs _ _).mono (fun _ h => ⟨fun c => (h.1 c).2, h.2⟩) (Cert.KProof.run_main (F := Ideal) m ρ)

/-- The reference over exact floats. -/
theorem frame_reference : Cert.quiescent_ReferenceIdeal := fun m ρ _ => Cert.ReferenceIdeal.Gen.frame m ρ

/-- Every device ends with the reference's result, over exact floats. -/
theorem algebraic : Cert.algebraic_KernelIdeal_ReferenceIdeal := fun m ρ m' ρ' _ h =>
  ⟨Cert.KProof.OUT m,
    (θ_run Cert.KernelIdeal.defs _ _).mono (fun _ k => k.1) (Cert.KProof.run_main (F := Ideal) m ρ),
    (θ_run Cert.ReferenceIdeal.defs _ _).mono
      (fun _ k => ⟨(k 0).1.trans (Cert.KProof.OUT_eq m _ _ (fun d => (h d).1) (fun d => (h d).2)).symm, (k 0).2⟩)
      (Cert.ReferenceIdeal.Value.run m' ρ')⟩

theorem claim : Cert.Claim := ⟨Cert.Kernel.Gen.facts, Cert.KernelIdeal.Gen.facts, Cert.ReferenceIdeal.Gen.facts, by
  exact ⟨frame_kernel, frame_kernelIdeal, frame_reference, trivial, algebraic⟩⟩

end Cert.Proof

end
